-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S4x14x18x512 : Shape := ⟨4, ![4, 14, 18, 512]⟩
abbrev S4x14x18x16 : Shape := ⟨4, ![4, 14, 18, 16]⟩
abbrev S3x3x512x1280 : Shape := ⟨4, ![3, 3, 512, 1280]⟩
abbrev S3x3x16x1280 : Shape := ⟨4, ![3, 3, 16, 1280]⟩
abbrev S1280 : Shape := ⟨1, ![1280]⟩
abbrev S_ : Shape := ⟨0, ![]⟩

class Facts : Prop where
  bcast_S_S4x14x18x16 : S_.BroadcastsInDim S4x14x18x16 (![] : Fin 0 → Fin S4x14x18x16.rank)
  bcast_S_S3x3x16x1280 : S_.BroadcastsInDim S3x3x16x1280 (![] : Fin 0 → Fin S3x3x16x1280.rank)

variable [Facts]

def fn {F : FTy → Type} [FloatOps F] (main_arg0 : FVec F S4x14x18x512 .fp8e4m3) (main_arg1 : IVec S4x14x18x16 8) (main_arg2 : FVec F S3x3x512x1280 .fp8e4m3) (main_arg3 : IVec S3x3x16x1280 8) (main_arg4 : FVec F S1280 .f32) : IVec S4x14x18x16 1 × IVec S3x3x16x1280 1 :=
  let main_c : IVec S_ 8 := constantI S_ 8 1#8
  let main_v0 : IVec S4x14x18x16 8 := broadcastInDim S4x14x18x16 ![] bcast_S_S4x14x18x16 main_c
  let main_v1 : IVec S4x14x18x16 1 := cmpi .uge main_arg1 main_v0
  let main_c_0 : IVec S_ 8 := constantI S_ 8 254#8
  let main_v2 : IVec S4x14x18x16 8 := broadcastInDim S4x14x18x16 ![] bcast_S_S4x14x18x16 main_c_0
  let main_v3 : IVec S4x14x18x16 1 := cmpi .ule main_arg1 main_v2
  let main_v4 : IVec S4x14x18x16 1 := andi main_v1 main_v3
  let main_c_1 : IVec S_ 8 := constantI S_ 8 1#8
  let main_v5 : IVec S3x3x16x1280 8 := broadcastInDim S3x3x16x1280 ![] bcast_S_S3x3x16x1280 main_c_1
  let main_v6 : IVec S3x3x16x1280 1 := cmpi .uge main_arg3 main_v5
  let main_c_2 : IVec S_ 8 := constantI S_ 8 254#8
  let main_v7 : IVec S3x3x16x1280 8 := broadcastInDim S3x3x16x1280 ![] bcast_S_S3x3x16x1280 main_c_2
  let main_v8 : IVec S3x3x16x1280 1 := cmpi .ule main_arg3 main_v7
  let main_v9 : IVec S3x3x16x1280 1 := andi main_v6 main_v8
  (main_v4, main_v9)
-- ==== Kernel.lean ====
abbrev S4x14x18x512 : Shape := ⟨4, ![4, 14, 18, 512]⟩
abbrev S4x14x18x16 : Shape := ⟨4, ![4, 14, 18, 16]⟩
abbrev S3x3x512x1280 : Shape := ⟨4, ![3, 3, 512, 1280]⟩
abbrev S3x3x16x1280 : Shape := ⟨4, ![3, 3, 16, 1280]⟩
abbrev S1280 : Shape := ⟨1, ![1280]⟩
abbrev S14x18x4x512 : Shape := ⟨4, ![14, 18, 4, 512]⟩
abbrev S4x14x16x18 : Shape := ⟨4, ![4, 14, 16, 18]⟩
abbrev S14x18x4x1280 : Shape := ⟨4, ![14, 18, 4, 1280]⟩
abbrev S144x1280 : Shape := ⟨2, ![144, 1280]⟩
abbrev S12x1168x128 : Shape := ⟨3, ![12, 1168, 128]⟩
abbrev S10x14x18x4x128 : Shape := ⟨5, ![10, 14, 18, 4, 128]⟩
abbrev S5 : Shape := ⟨1, ![5]⟩
abbrev S10 : Shape := ⟨1, ![10]⟩
abbrev S1 : Shape := ⟨1, ![1]⟩
abbrev S_ : Shape := ⟨0, ![]⟩
abbrev S14x18x4x256 : Shape := ⟨4, ![14, 18, 4, 256]⟩
abbrev S1x1x256x512 : Shape := ⟨4, ![1, 1, 256, 512]⟩
abbrev S256x512 : Shape := ⟨2, ![256, 512]⟩
abbrev S1x1x512x512 : Shape := ⟨4, ![1, 1, 512, 512]⟩
abbrev S512x512 : Shape := ⟨2, ![512, 512]⟩
abbrev S1x1x512x768 : Shape := ⟨4, ![1, 1, 512, 768]⟩
abbrev S512x768 : Shape := ⟨2, ![512, 768]⟩
abbrev S80x128 : Shape := ⟨2, ![80, 128]⟩
abbrev S1x80x128 : Shape := ⟨3, ![1, 80, 128]⟩
abbrev S8x128 : Shape := ⟨2, ![8, 128]⟩
abbrev S1x1x16x18 : Shape := ⟨4, ![1, 1, 16, 18]⟩
abbrev S16x18 : Shape := ⟨2, ![16, 18]⟩
abbrev S128x18 : Shape := ⟨2, ![128, 18]⟩
abbrev S18x128 : Shape := ⟨2, ![18, 128]⟩
abbrev S32x18 : Shape := ⟨2, ![32, 18]⟩
abbrev S1x1x16x1280 : Shape := ⟨4, ![1, 1, 16, 1280]⟩
abbrev S16x1280 : Shape := ⟨2, ![16, 1280]⟩
abbrev S1x1x32x256 : Shape := ⟨4, ![1, 1, 32, 256]⟩
abbrev S32x256 : Shape := ⟨2, ![32, 256]⟩
abbrev S1x256 : Shape := ⟨2, ![1, 256]⟩
abbrev S16x256 : Shape := ⟨2, ![16, 256]⟩
abbrev S256x256 : Shape := ⟨2, ![256, 256]⟩
abbrev S8x128x1 : Shape := ⟨3, ![8, 128, 1]⟩
abbrev S32x128 : Shape := ⟨2, ![32, 128]⟩
abbrev S16x128 : Shape := ⟨2, ![16, 128]⟩
abbrev S1x8x4x128 : Shape := ⟨4, ![1, 8, 4, 128]⟩
abbrev S8x4x128 : Shape := ⟨3, ![8, 4, 128]⟩
abbrev S1x32x128 : Shape := ⟨3, ![1, 32, 128]⟩
abbrev S2x128 : Shape := ⟨2, ![2, 128]⟩
abbrev S2x128x1 : Shape := ⟨3, ![2, 128, 1]⟩
abbrev S4x128 : Shape := ⟨2, ![4, 128]⟩
abbrev S1x2x4x128 : Shape := ⟨4, ![1, 2, 4, 128]⟩
abbrev S2x4x128 : Shape := ⟨3, ![2, 4, 128]⟩
abbrev S1x8x128 : Shape := ⟨3, ![1, 8, 128]⟩
abbrev S1x144x128 : Shape := ⟨3, ![1, 144, 128]⟩
abbrev S144x128 : Shape := ⟨2, ![144, 128]⟩
abbrev S144x256 : Shape := ⟨2, ![144, 256]⟩
abbrev S80x256 : Shape := ⟨2, ![80, 256]⟩
abbrev S1x64x128 : Shape := ⟨3, ![1, 64, 128]⟩
abbrev S64x128 : Shape := ⟨2, ![64, 128]⟩
abbrev S64x256 : Shape := ⟨2, ![64, 256]⟩
abbrev S256 : Shape := ⟨1, ![256]⟩
abbrev S72x128 : Shape := ⟨2, ![72, 128]⟩
abbrev S18x4x128 : Shape := ⟨3, ![18, 4, 128]⟩
abbrev S1x1x18x4x128 : Shape := ⟨5, ![1, 1, 18, 4, 128]⟩
abbrev S1x1x2x4x128 : Shape := ⟨5, ![1, 1, 2, 4, 128]⟩
abbrev S16x4x128 : Shape := ⟨3, ![16, 4, 128]⟩
abbrev S1x1x16x4x128 : Shape := ⟨5, ![1, 1, 16, 4, 128]⟩
abbrev S14x18x4x128 : Shape := ⟨4, ![14, 18, 4, 128]⟩
abbrev S1x14x18x4x128 : Shape := ⟨5, ![1, 14, 18, 4, 128]⟩
abbrev S4x14x18x1280 : Shape := ⟨4, ![4, 14, 18, 1280]⟩

abbrev nBuf : Space → Nat
  | .hbm => 9
  | .vmem => 8
  | .smem => 0
  | _ => 0

abbrev bufTy : (tb : Table) → Fin (tcTables nBuf tb) → BufTy
  | .hbm, ⟨0, _⟩ => ⟨S4x14x18x512, .fp8e4m3⟩
  | .hbm, ⟨1, _⟩ => ⟨S4x14x18x16, .i8⟩
  | .hbm, ⟨2, _⟩ => ⟨S3x3x512x1280, .fp8e4m3⟩
  | .hbm, ⟨3, _⟩ => ⟨S3x3x16x1280, .i8⟩
  | .hbm, ⟨4, _⟩ => ⟨S1280, .f32⟩
  | .hbm, ⟨5, _⟩ => ⟨S14x18x4x512, .fp8e4m3⟩
  | .hbm, ⟨6, _⟩ => ⟨S4x14x16x18, .i8⟩
  | .hbm, ⟨7, _⟩ => ⟨S14x18x4x1280, .bf16⟩
  | .hbm, ⟨8, _⟩ => ⟨S4x14x18x1280, .bf16⟩
  | .local _ .vmem, ⟨0, _⟩ => ⟨S14x18x4x512, .fp8e4m3⟩
  | .local _ .vmem, ⟨1, _⟩ => ⟨S4x14x16x18, .i8⟩
  | .local _ .vmem, ⟨2, _⟩ => ⟨S3x3x512x1280, .fp8e4m3⟩
  | .local _ .vmem, ⟨3, _⟩ => ⟨S3x3x16x1280, .i8⟩
  | .local _ .vmem, ⟨4, _⟩ => ⟨S1280, .f32⟩
  | .local _ .vmem, ⟨5, _⟩ => ⟨S144x1280, .i32⟩
  | .local _ .vmem, ⟨6, _⟩ => ⟨S12x1168x128, .bf16⟩
  | .local _ .vmem, ⟨7, _⟩ => ⟨S10x14x18x4x128, .bf16⟩
  | _, _ => ⟨S4x14x18x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩

abbrev nD : Nat := 1
abbrev τ : Topo := Topo.v7x

variable {F : FTy → Type} [FloatOps F]

abbrev grid0 : Pipeline.Grid := .none
-- ==== ReferenceIdeal.lean ====
abbrev S4x14x18x512 : Shape := ⟨4, ![4, 14, 18, 512]⟩
abbrev S4x14x18x16 : Shape := ⟨4, ![4, 14, 18, 16]⟩
abbrev S3x3x512x1280 : Shape := ⟨4, ![3, 3, 512, 1280]⟩
abbrev S3x3x16x1280 : Shape := ⟨4, ![3, 3, 16, 1280]⟩
abbrev S1280 : Shape := ⟨1, ![1280]⟩
abbrev S4x14x18x16x1 : Shape := ⟨5, ![4, 14, 18, 16, 1]⟩
abbrev S4x14x18x16x32 : Shape := ⟨5, ![4, 14, 18, 16, 32]⟩
abbrev S3x3x16x1x1280 : Shape := ⟨5, ![3, 3, 16, 1, 1280]⟩
abbrev S3x3x16x32x1280 : Shape := ⟨5, ![3, 3, 16, 32, 1280]⟩
abbrev S_ : Shape := ⟨0, ![]⟩
abbrev S4x16x20x512 : Shape := ⟨4, ![4, 16, 20, 512]⟩
abbrev S4x14x18x1280 : Shape := ⟨4, ![4, 14, 18, 1280]⟩
abbrev S1x1x512x1280 : Shape := ⟨4, ![1, 1, 512, 1280]⟩
abbrev S512x1280 : Shape := ⟨2, ![512, 1280]⟩
abbrev S1x1x1x1280 : Shape := ⟨4, ![1, 1, 1, 1280]⟩

abbrev nBuf : Space → Nat
  | .hbm => 61
  | .vmem => 6
  | .smem => 0
  | _ => 0

abbrev bufTy : (tb : Table) → Fin (tcTables nBuf tb) → BufTy
  | .hbm, ⟨0, _⟩ => ⟨S4x14x18x512, .fp8e4m3⟩
  | .hbm, ⟨1, _⟩ => ⟨S4x14x18x16, .i8⟩
  | .hbm, ⟨2, _⟩ => ⟨S3x3x512x1280, .fp8e4m3⟩
  | .hbm, ⟨3, _⟩ => ⟨S3x3x16x1280, .i8⟩
  | .hbm, ⟨4, _⟩ => ⟨S1280, .f32⟩
  | .hbm, ⟨5, _⟩ => ⟨S4x14x18x512, .bf16⟩
  | .hbm, ⟨6, _⟩ => ⟨S3x3x512x1280, .bf16⟩
  | .hbm, ⟨7, _⟩ => ⟨S_, .i32⟩
  | .hbm, ⟨8, _⟩ => ⟨S_, .bf16⟩
  | .hbm, ⟨9, _⟩ => ⟨S4x16x20x512, .bf16⟩
  | .hbm, ⟨10, _⟩ => ⟨S_, .f32⟩
  | .hbm, ⟨11, _⟩ => ⟨S4x14x18x1280, .f32⟩
  | .hbm, ⟨12, _⟩ => ⟨S4x14x18x512, .bf16⟩
  | .hbm, ⟨13, _⟩ => ⟨S1x1x512x1280, .bf16⟩
  | .hbm, ⟨14, _⟩ => ⟨S512x1280, .bf16⟩
  | .hbm, ⟨15, _⟩ => ⟨S4x14x18x1280, .f32⟩
  | .hbm, ⟨16, _⟩ => ⟨S4x14x18x1280, .f32⟩
  | .hbm, ⟨17, _⟩ => ⟨S4x14x18x512, .bf16⟩
  | .hbm, ⟨18, _⟩ => ⟨S1x1x512x1280, .bf16⟩
  | .hbm, ⟨19, _⟩ => ⟨S512x1280, .bf16⟩
  | .hbm, ⟨20, _⟩ => ⟨S4x14x18x1280, .f32⟩
  | .hbm, ⟨21, _⟩ => ⟨S4x14x18x1280, .f32⟩
  | .hbm, ⟨22, _⟩ => ⟨S4x14x18x512, .bf16⟩
  | .hbm, ⟨23, _⟩ => ⟨S1x1x512x1280, .bf16⟩
  | .hbm, ⟨24, _⟩ => ⟨S512x1280, .bf16⟩
  | .hbm, ⟨25, _⟩ => ⟨S4x14x18x1280, .f32⟩
  | .hbm, ⟨26, _⟩ => ⟨S4x14x18x1280, .f32⟩
  | .hbm, ⟨27, _⟩ => ⟨S4x14x18x512, .bf16⟩
  | .hbm, ⟨28, _⟩ => ⟨S1x1x512x1280, .bf16⟩
  | .hbm, ⟨29, _⟩ => ⟨S512x1280, .bf16⟩
  | .hbm, ⟨30, _⟩ => ⟨S4x14x18x1280, .f32⟩
  | .hbm, ⟨31, _⟩ => ⟨S4x14x18x1280, .f32⟩
  | .hbm, ⟨32, _⟩ => ⟨S4x14x18x512, .bf16⟩
  | .hbm, ⟨33, _⟩ => ⟨S1x1x512x1280, .bf16⟩
  | .hbm, ⟨34, _⟩ => ⟨S512x1280, .bf16⟩
  | .hbm, ⟨35, _⟩ => ⟨S4x14x18x1280, .f32⟩
  | .hbm, ⟨36, _⟩ => ⟨S4x14x18x1280, .f32⟩
  | .hbm, ⟨37, _⟩ => ⟨S4x14x18x512, .bf16⟩
  | .hbm, ⟨38, _⟩ => ⟨S1x1x512x1280, .bf16⟩
  | .hbm, ⟨39, _⟩ => ⟨S512x1280, .bf16⟩
  | .hbm, ⟨40, _⟩ => ⟨S4x14x18x1280, .f32⟩
  | .hbm, ⟨41, _⟩ => ⟨S4x14x18x1280, .f32⟩
  | .hbm, ⟨42, _⟩ => ⟨S4x14x18x512, .bf16⟩
  | .hbm, ⟨43, _⟩ => ⟨S1x1x512x1280, .bf16⟩
  | .hbm, ⟨44, _⟩ => ⟨S512x1280, .bf16⟩
  | .hbm, ⟨45, _⟩ => ⟨S4x14x18x1280, .f32⟩
  | .hbm, ⟨46, _⟩ => ⟨S4x14x18x1280, .f32⟩
  | .hbm, ⟨47, _⟩ => ⟨S4x14x18x512, .bf16⟩
  | .hbm, ⟨48, _⟩ => ⟨S1x1x512x1280, .bf16⟩
  | .hbm, ⟨49, _⟩ => ⟨S512x1280, .bf16⟩
  | .hbm, ⟨50, _⟩ => ⟨S4x14x18x1280, .f32⟩
  | .hbm, ⟨51, _⟩ => ⟨S4x14x18x1280, .f32⟩
  | .hbm, ⟨52, _⟩ => ⟨S4x14x18x512, .bf16⟩
  | .hbm, ⟨53, _⟩ => ⟨S1x1x512x1280, .bf16⟩
  | .hbm, ⟨54, _⟩ => ⟨S512x1280, .bf16⟩
  | .hbm, ⟨55, _⟩ => ⟨S4x14x18x1280, .f32⟩
  | .hbm, ⟨56, _⟩ => ⟨S4x14x18x1280, .f32⟩
  | .hbm, ⟨57, _⟩ => ⟨S1x1x1x1280, .f32⟩
  | .hbm, ⟨58, _⟩ => ⟨S4x14x18x1280, .f32⟩
  | .hbm, ⟨59, _⟩ => ⟨S4x14x18x1280, .f32⟩
  | .hbm, ⟨60, _⟩ => ⟨S4x14x18x1280, .bf16⟩
  | .local _ .vmem, ⟨0, _⟩ => ⟨S4x14x18x512, .fp8e4m3⟩
  | .local _ .vmem, ⟨1, _⟩ => ⟨S4x14x18x16, .i8⟩
  | .local _ .vmem, ⟨2, _⟩ => ⟨S3x3x512x1280, .fp8e4m3⟩
  | .local _ .vmem, ⟨3, _⟩ => ⟨S3x3x16x1280, .i8⟩
  | .local _ .vmem, ⟨4, _⟩ => ⟨S4x14x18x512, .bf16⟩
  | .local _ .vmem, ⟨5, _⟩ => ⟨S3x3x512x1280, .bf16⟩
  | _, _ => ⟨S4x14x18x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x14x18x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x14x18x16 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x512x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x16x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x14x18x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x512x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Shape.lean ====
module

public import proofs.«01_k».proof.KernelIdeal

/-! # Rectangles, pieces and taps

The rectangles the kernel's loads, stores and transfers go through, as functions of the numbers that
vary, and the fixed tables of the kernel: which tap and which half of the channels a step takes, and
which rows of the output a piece covers. -/

@[expose] public section

noncomputable section

namespace Cert.KernelIdeal.Conv

open Idealize.ShloMosaic Idealize.SL.Sem

/-! ## In bounds, axis by axis -/

theorem inb1 {a e i : Nat} (h0 : a + e ≤ i) :
    ∀ x : Fin 1, (![a] : Fin 1 → Nat) x + (![e] : Fin 1 → Nat) x ≤ (![i] : Fin 1 → Nat) x := by
  intro x; fin_cases x; exact h0

theorem inb2 {a b e f i j : Nat} (h0 : a + e ≤ i) (h1 : b + f ≤ j) :
    ∀ x : Fin 2, (![a, b] : Fin 2 → Nat) x + (![e, f] : Fin 2 → Nat) x ≤ (![i, j] : Fin 2 → Nat) x := by
  intro x; fin_cases x; exacts [h0, h1]

theorem inb3 {a b c e f g i j k : Nat} (h0 : a + e ≤ i) (h1 : b + f ≤ j) (h2 : c + g ≤ k) :
    ∀ x : Fin 3, (![a, b, c] : Fin 3 → Nat) x + (![e, f, g] : Fin 3 → Nat) x ≤ (![i, j, k] : Fin 3 → Nat) x := by
  intro x; fin_cases x; exacts [h0, h1, h2]

theorem inb4 {a b c d e f g h i j k l : Nat} (h0 : a + e ≤ i) (h1 : b + f ≤ j) (h2 : c + g ≤ k) (h3 : d + h ≤ l) :
    ∀ x : Fin 4, (![a, b, c, d] : Fin 4 → Nat) x + (![e, f, g, h] : Fin 4 → Nat) x
      ≤ (![i, j, k, l] : Fin 4 → Nat) x := by
  intro x; fin_cases x; exacts [h0, h1, h2, h3]

theorem inb5 {a b c d m e f g h n i j k l o : Nat} (h0 : a + e ≤ i) (h1 : b + f ≤ j) (h2 : c + g ≤ k) (h3 : d + h ≤ l)
    (h4 : m + n ≤ o) :
    ∀ x : Fin 5, (![a, b, c, d, m] : Fin 5 → Nat) x + (![e, f, g, h, n] : Fin 5 → Nat) x
      ≤ (![i, j, k, l, o] : Fin 5 → Nat) x := by
  intro x; fin_cases x; exacts [h0, h1, h2, h3, h4]

/-! ## The rectangles -/

/-- The 256 channels from `c` of the input. -/
abbrev rX (c : Nat) (hc : c + 256 ≤ 512) : Rect S14x18x4x512 :=
  Rect.unit (s := S14x18x4x512) ![0, 0, 0, c] ![14, 18, 4, 256]
    (inb4 (by omega) (by omega) (by omega) hc)

/-- Of the input, `m` pixels from `x` of the image row `y`, all four images, the 128 channels of block `lb`. -/
abbrev rXc (y x m lb : Nat) (hy : y < 14) (hx : x + m ≤ 18) (hl : lb < 4) : Rect S14x18x4x512 :=
  Rect.unit (s := S14x18x4x512) ![y, x, 0, lb * 128] ![1, m, 4, 128]
    (inb4 (by omega) hx (by omega) (by omega))

/-- Of the input's scales, image `i`'s row `y`. -/
abbrev rXs (i y : Nat) (hi : i < 4) (hy : y < 14) : Rect S4x14x16x18 :=
  Rect.unit (s := S4x14x16x18) ![i, y, 0, 0] ![1, 1, 16, 18]
    (inb4 (by omega) (by omega) (by omega) (by omega))

/-- Of the weights, tap `(dy, dx)`, `m` rows from `r` and `c` columns from `q`. -/
abbrev rW (dy dx r m q c : Nat) (hy : dy < 3) (hx : dx < 3) (hr : r + m ≤ 512) (hc : q + c ≤ 1280) : Rect S3x3x512x1280 :=
  Rect.unit (s := S3x3x512x1280) ![dy, dx, r, q] ![1, 1, m, c]
    (inb4 (by omega) (by omega) hr hc)

/-- Of the weights' scales, tap `(dy, dx)`. -/
abbrev rWs (dy dx : Nat) (hy : dy < 3) (hx : dx < 3) : Rect S3x3x16x1280 :=
  Rect.unit (s := S3x3x16x1280) ![dy, dx, 0, 0] ![1, 1, 16, 1280]
    (inb4 (by omega) (by omega) (by omega) (by omega))

/-- Of the scale words, the sixteen rows of a tap. -/
abbrev rSw (t : Nat) (ht : t < 9) : Rect S144x1280 :=
  Rect.unit (s := S144x1280) ![t * 16, 0] ![16, 1280]
    (inb2 (by omega) (by omega))

/-- Of the scale words, 256 columns from `q` of the row `r`. -/
abbrev rSw1 (r q : Nat) (hr : r < 144) (hq : q + 256 ≤ 1280) : Rect S144x1280 :=
  Rect.unit (s := S144x1280) ![r, q] ![1, 256]
    (inb2 (by omega) hq)

/-- Of the padded input, `m` rows from `r` of the plane `p`. -/
abbrev rXb (p r m : Nat) (hp : p < 12) (hr : r + m ≤ 1168) : Rect S12x1168x128 :=
  Rect.unit (s := S12x1168x128) ![p, r, 0] ![1, m, 128]
    (inb3 (by omega) hr (by omega))

/-- The 256 biases from `q`. -/
abbrev rB (q : Nat) (hq : q + 256 ≤ 1280) : Rect S1280 :=
  Rect.unit (s := S1280) ![q] ![256] (inb1 hq)

/-- Of the staged result, `m` pixels from `x` of the image row `y` in the plane `c`. -/
abbrev rO (c y x m : Nat) (hc : c < 10) (hy : y < 14) (hx : x + m ≤ 18) : Rect S10x14x18x4x128 :=
  Rect.unit (s := S10x14x18x4x128) ![c, y, x, 0, 0] ![1, 1, m, 4, 128]
    (inb5 (by omega) (by omega) hx (by omega) (by omega))

/-- The plane `c` of the staged result. -/
abbrev rOp (c : Nat) (hc : c < 10) : Rect S10x14x18x4x128 :=
  Rect.unit (s := S10x14x18x4x128) ![c, 0, 0, 0, 0] ![1, 14, 18, 4, 128]
    (inb5 (by omega) (by omega) (by omega) (by omega) (by omega))

/-- The 128 channels of block `c` of the result. -/
abbrev rY (c : Nat) (hc : c < 10) : Rect S14x18x4x1280 :=
  Rect.unit (s := S14x18x4x1280) ![0, 0, 0, c * 128] ![14, 18, 4, 128]
    (inb4 (by omega) (by omega) (by omega) (by omega))

/-! ## Whole words and packed rows -/

theorem words_rX (c hc) : (rX c hc).WholeWords (EltTy.packing .fp8e4m3) :=
  .inl (.inr ⟨Nat.le_add_left 2 _, rfl, .inl ⟨⟨0, rfl⟩, ⟨1, rfl⟩⟩⟩)

theorem words_rW (dy dx r m q c hy hx hr hc) (h : 4 ∣ r) (h' : 4 ∣ m) :
    (rW dy dx r m q c hy hx hr hc).WholeWords (EltTy.packing .fp8e4m3) :=
  .inl (.inr ⟨Nat.le_add_left 2 _, rfl, .inl ⟨h, h'⟩⟩)

theorem words_rOp (c hc) : (rOp c hc).WholeWords (EltTy.packing .bf16) :=
  .inl (.inr ⟨Nat.le_add_left 2 _, rfl, .inl ⟨⟨0, rfl⟩, ⟨2, rfl⟩⟩⟩)

theorem words_rY (c hc) : (rY c hc).WholeWords (EltTy.packing .bf16) :=
  .inl (.inr ⟨Nat.le_add_left 2 _, rfl, .inl ⟨⟨0, rfl⟩, ⟨2, rfl⟩⟩⟩)

theorem packed_rXb (p r m hp hr) (h : 2 ∣ r) (h' : 2 ∣ m) : (rXb p r m hp hr).PackedRows (EltTy.packing .bf16) :=
  .inr ⟨Nat.le_add_left 2 _, rfl, .inl ⟨h, h'⟩⟩

theorem packed_rO (c y x m hc hy hx) : (rO c y x m hc hy hx).PackedRows (EltTy.packing .bf16) :=
  .inr ⟨Nat.le_add_left 2 _, rfl, .inl ⟨⟨0, rfl⟩, ⟨2, rfl⟩⟩⟩

/-! ## Positive sizes and shape relations -/

theorem pos1 {a : Nat} (h : 0 < a) : 0 < (⟨1, ![a]⟩ : Shape).numel := by
  simp [Shape.numel, h]

theorem pos2 {a b : Nat} (ha : 0 < a) (hb : 0 < b) : 0 < (⟨2, ![a, b]⟩ : Shape).numel := by
  simp [Shape.numel, Fin.prod_univ_succ, ha, hb]

theorem pos3 {a b c : Nat} (ha : 0 < a) (hb : 0 < b) (hc : 0 < c) : 0 < (⟨3, ![a, b, c]⟩ : Shape).numel := by
  simp [Shape.numel, Fin.prod_univ_succ, ha, hb, hc]

theorem pos4 {a b c d : Nat} (ha : 0 < a) (hb : 0 < b) (hc : 0 < c) (hd : 0 < d) :
    0 < (⟨4, ![a, b, c, d]⟩ : Shape).numel := by
  simp [Shape.numel, Fin.prod_univ_succ, ha, hb, hc, hd]

theorem pos5 {a b c d e : Nat} (ha : 0 < a) (hb : 0 < b) (hc : 0 < c) (hd : 0 < d) (he : 0 < e) :
    0 < (⟨5, ![a, b, c, d, e]⟩ : Shape).numel := by
  simp [Shape.numel, Fin.prod_univ_succ, ha, hb, hc, hd, he]

/-! ## Taps and pieces -/

/-- The offset a third of a sweep takes: the centre, then the two sides. -/
def off3 : Nat → Fin 3
  | 0 => 1
  | 1 => 0
  | _ => 2

/-- The row offset of a step's tap. -/
def tapY (s : Fin 18) : Fin 3 := off3 (s.val / 2 % 3)
/-- The column offset of a step's tap. -/
def tapX (s : Fin 18) : Fin 3 := off3 (s.val / 6)
/-- The half of the input channels a step takes; the staging register is the same number. -/
def half (s : Fin 18) : Fin 2 := ⟨s.val % 2, Nat.mod_lt _ (by decide)⟩

/-- A run of pixels of one image row in a piece: `m` pixels from `x` of the image row `y`, at row `o` of the piece. -/
structure Sub where
  o : Nat
  y : Nat
  x : Nat
  m : Nat

/-- A piece: `M` rows of the flattened output from row `r`, and the one or two image rows it spans. -/
structure Piece where
  r : Nat
  M : Nat
  s0 : Sub
  s1 : Option Sub

/-- The eight pieces. -/
def piece : Fin 8 → Piece
  | 0 => ⟨0, 144, ⟨0, 0, 0, 18⟩, some ⟨72, 1, 0, 18⟩⟩
  | 1 => ⟨144, 144, ⟨0, 2, 0, 18⟩, some ⟨72, 3, 0, 18⟩⟩
  | 2 => ⟨288, 144, ⟨0, 4, 0, 18⟩, some ⟨72, 5, 0, 18⟩⟩
  | 3 => ⟨432, 80, ⟨0, 6, 0, 18⟩, some ⟨72, 7, 0, 2⟩⟩
  | 4 => ⟨512, 64, ⟨0, 7, 2, 16⟩, none⟩
  | 5 => ⟨576, 144, ⟨0, 8, 0, 18⟩, some ⟨72, 9, 0, 18⟩⟩
  | 6 => ⟨720, 144, ⟨0, 10, 0, 18⟩, some ⟨72, 11, 0, 18⟩⟩
  | 7 => ⟨864, 144, ⟨0, 12, 0, 18⟩, some ⟨72, 13, 0, 18⟩⟩

/-- What a run of pixels has to satisfy in a piece of `M` rows from `r`. -/
def Sub.Ok (u : Sub) (r M : Nat) : Prop :=
  u.y < 14 ∧ u.x + u.m ≤ 18 ∧ 0 < u.m ∧ u.o + 4 * u.m ≤ M ∧ r + u.o = u.y * 72 + u.x * 4

instance (u : Sub) (r M : Nat) : Decidable (u.Ok r M) := by unfold Sub.Ok; infer_instance

/-- What a piece has to satisfy. -/
def Piece.Ok (P : Piece) : Prop :=
  P.M % 8 = 0 ∧ 0 < P.M ∧ P.r % 8 = 0 ∧ P.r + P.M ≤ 1008 ∧ P.s0.Ok P.r P.M ∧ ∀ u ∈ P.s1, u.Ok P.r P.M

theorem piece_ok (p : Fin 8) : (piece p).Ok := by
  unfold Piece.Ok
  fin_cases p <;> simp [piece, Sub.Ok]

theorem Piece.Ok.fits {P : Piece} (h : P.Ok) : Mxu.Fits (P.r / 4) P.M := by
  obtain ⟨h1, h2, h3, h4, -⟩ := h
  refine ⟨?_, h1, ?_⟩ <;> omega

end Cert.KernelIdeal.Conv
-- ==== Proof.Prog.lean ====
module

public import proofs.«01_k».proof.Proof.Shape

/-! # The kernel's body as a structured program

The kernel's body, written once more as a program over the same instructions, with its loops as loops: over the
twelve planes, the image rows, the eighteen steps of a sweep, the eight pieces. Each block takes what follows it as
a continuation. `Equal.lean` shows that the body is this program. -/

@[expose] public section

noncomputable section

namespace Cert.KernelIdeal.Conv

open Idealize.ShloMosaic Idealize.SL.Sem

variable {F : FTy → Type} [FloatOps F] [Facts₀]

/-- Programs of the kernel's core. -/
abbrev PG (F : FTy → Type) [FloatOps F] := Prog (TpuEff nD τ sig (Elt F) Λ₀ .tc) PUnit

/-! ## The buffers -/

/-- The input in HBM, image rows first. -/
abbrev hX : Memref sig .tc .hbm S14x18x4x512 .fp8e4m3 := Memref.whole main_v0
/-- Its scales. -/
abbrev hXs : Memref sig .tc .hbm S4x14x16x18 .i8 := Memref.whole main_v1
/-- The weights. -/
abbrev hW : Memref sig .tc .hbm S3x3x512x1280 .fp8e4m3 := Memref.whole main_arg2
/-- Their scales. -/
abbrev hWs : Memref sig .tc .hbm S3x3x16x1280 .i8 := Memref.whole main_arg3
/-- The bias. -/
abbrev hB : Memref sig .tc .hbm S1280 .f32 := Memref.whole main_arg4
/-- The result. -/
abbrev hY : Memref sig .tc .hbm S14x18x4x1280 .bf16 := Memref.whole main_v2
/-- The input in VMEM. -/
abbrev vX : Memref sig .tc .vmem S14x18x4x512 .fp8e4m3 := Memref.whole cc0_scratch0
/-- Its scales in VMEM. -/
abbrev vXs : Memref sig .tc .vmem S4x14x16x18 .i8 := Memref.whole cc0_scratch1
/-- The weights in VMEM. -/
abbrev vW : Memref sig .tc .vmem S3x3x512x1280 .fp8e4m3 := Memref.whole cc0_scratch2
/-- Their scales in VMEM. -/
abbrev vWs : Memref sig .tc .vmem S3x3x16x1280 .i8 := Memref.whole cc0_scratch3
/-- The bias in VMEM. -/
abbrev vB : Memref sig .tc .vmem S1280 .f32 := Memref.whole cc0_scratch4
/-- The weights' scales as words, each twice. -/
abbrev vSw : Memref sig .tc .vmem S144x1280 .i32 := Memref.whole cc0_scratch5
/-- The scaled input in its three column shifts, padded. -/
abbrev vXb : Memref sig .tc .vmem S12x1168x128 .bf16 := Memref.whole cc0_scratch6
/-- The result before it is copied out. -/
abbrev vO : Memref sig .tc .vmem S10x14x18x4x128 .bf16 := Memref.whole cc0_scratch7

theorem sq1 : S1.Squeezes S_ := by decide

/-- The semaphores of the input's copies. -/
abbrev inSem (i : Nat) (hi : i + 1 ≤ 5) : DmaSem sig :=
  ((cc0_scratch8.slice (Rect.unit (s := S5) ![i] ![1] (inb1 hi))).squeeze S_ sq1).sem
/-- The semaphores of the weights' copies. -/
abbrev wSem (i : Nat) (hi : i + 1 ≤ 5) : DmaSem sig :=
  ((cc0_scratch9.slice (Rect.unit (s := S5) ![i] ![1] (inb1 hi))).squeeze S_ sq1).sem
/-- The semaphores of the result's copies. -/
abbrev oSem (i : Nat) (hi : i + 1 ≤ 10) : DmaSem sig :=
  ((cc0_scratch10.slice (Rect.unit (s := S10) ![i] ![1] (inb1 hi))).squeeze S_ sq1).sem

/-! ## Instructions -/

/-- Start a copy into VMEM. -/
def startIn {s : Shape} {e : EltTy} (src : Memref sig .tc .hbm s e) (dst : Memref sig .tc .vmem s e)
    (sem : DmaSem sig) (hs : src.view.WordExact) (hd : dst.view.WordExact) (K : PG F) : PG F :=
  .op (.enqueueDma src (.here dst) (.dma sem) hs hd ⟨Or.inl rfl, trivial⟩) fun _ => K

/-- Start a copy out of VMEM. -/
def startOut {s : Shape} {e : EltTy} (src : Memref sig .tc .vmem s e) (dst : Memref sig .tc .hbm s e)
    (sem : DmaSem sig) (hs : src.view.WordExact) (hd : dst.view.WordExact) (K : PG F) : PG F :=
  .op (.enqueueDma src (.here dst) (.dma sem) hs hd ⟨Or.inl rfl, trivial⟩) fun _ => K

/-- Wait for a copy into VMEM. -/
def waitIn {s : Shape} {e : EltTy} (src : Memref sig .tc .hbm s e) (dst : Memref sig .tc .vmem s e)
    (sem : DmaSem sig) (hs : src.view.WordExact) (hd : dst.view.WordExact) (K : PG F) : PG F :=
  .op (.waitDma2 sem src dst hs hd) fun _ => K

/-- Wait for a copy out of VMEM. -/
def waitOut {s : Shape} {e : EltTy} (src : Memref sig .tc .vmem s e) (dst : Memref sig .tc .hbm s e)
    (sem : DmaSem sig) (hs : src.view.WordExact) (hd : dst.view.WordExact) (K : PG F) : PG F :=
  .op (.waitDma2 sem src dst hs hd) fun _ => K

/-- Load a rectangle. -/
def ld {s : Shape} {e : EltTy} (m : Memref sig .tc .vmem s e) (r : Rect s) (h : 0 < r.shape.numel)
    (K : (r.shape.Idx → Elt F e) → PG F) : PG F :=
  .op (.load m r.toLoadRect (View.loadsAt_vmem h)) K

/-- Load a rectangle and drop what was read, then store to it. -/
def upd {s : Shape} {e : EltTy} (m : Memref sig .tc .vmem s e) (r : Rect s) (w : r.shape.Idx → Elt F e)
    (h : 0 < r.shape.numel) (hs : (m.access r).Stores Finset.univ) (K : PG F) : PG F :=
  ld m r h fun _ => .op (.store m r w Finset.univ hs (.inl rfl)) fun _ => K

/-- A loop over `Fin n`. -/
def loop {σ : Type} : (n : Nat) → (Fin n → σ → (σ → PG F) → PG F) → σ → (σ → PG F) → PG F
  | 0, _, s, K => K s
  | n + 1, b, s, K => b 0 s fun s' => loop n (fun i => b i.succ) s' K

/-- A loop over `Fin n` with nothing carried. -/
def loop' : (n : Nat) → (Fin n → PG F → PG F) → PG F → PG F
  | 0, _, K => K
  | n + 1, b, K => b 0 (loop' n (fun i => b i.succ) K)

/-! ## The copies -/

theorem whole_words {sp : Space} {s : Shape} {e : EltTy} {m : Memref sig .tc sp s e} (h : m.IsWhole) : m.view.WordExact :=
  h.wordExact

section
variable (op : ∀ {s : Shape} {e : EltTy} (src : Memref sig .tc .hbm s e) (dst : Memref sig .tc .vmem s e)
    (sem : DmaSem sig) (_ : src.view.WordExact) (_ : dst.view.WordExact) (_ : PG F), PG F)

/-- The copy of the input's scales. -/
def cpXs (K : PG F) : PG F :=
  op hXs vXs (inSem 2 (by decide)) (Memref.isWhole_whole _).wordExact (Memref.isWhole_whole _).wordExact K
/-- The copy of the weights' scales. -/
def cpWs (K : PG F) : PG F :=
  op hWs vWs (inSem 3 (by decide)) (Memref.isWhole_whole _).wordExact (Memref.isWhole_whole _).wordExact K
/-- The copy of the bias. -/
def cpB (K : PG F) : PG F :=
  op hB vB (inSem 4 (by decide)) (Memref.isWhole_whole _).wordExact (Memref.isWhole_whole _).wordExact K
/-- The copy of half of the input's channels. -/
def cpX (k : Fin 2) (K : PG F) : PG F :=
  op (hX.slice (rX (k * 256) (by omega)) (fun _ => rfl)) (vX.slice (rX (k * 256) (by omega)) (fun _ => rfl))
    (inSem k (by omega))
    ((Memref.isWhole_whole _).wordExact_slice rfl _ (words_rX _ _))
    ((Memref.isWhole_whole _).wordExact_slice rfl _ (words_rX _ _)) K

theorem sqW (m c : Nat) : (⟨4, ![1, 1, m, c]⟩ : Shape).Squeezes ⟨2, ![m, c]⟩ := by
  simp [Shape.Squeezes, Shape.dropsOnes, List.ofFn_succ]

/-- The copy of a tap's rows `r …` and columns `q …` of the weights. -/
def cpW (dy dx : Fin 3) (r m q c : Nat) (sem : Nat) (hr : r + m ≤ 512) (hc : q + c ≤ 1280) (hs : sem + 1 ≤ 5)
    (h : 4 ∣ r) (h' : 4 ∣ m) (K : PG F) : PG F :=
  op ((hW.slice (rW dy dx r m q c dy.isLt dx.isLt hr hc) (fun _ => rfl)).squeeze ⟨2, ![m, c]⟩ (sqW m c))
    ((vW.slice (rW dy dx r m q c dy.isLt dx.isLt hr hc) (fun _ => rfl)).squeeze ⟨2, ![m, c]⟩ (sqW m c))
    (wSem sem hs)
    (((Memref.isWhole_whole _).wordExact_slice rfl _ (words_rW _ _ _ _ _ _ _ _ _ _ h h')).reshape _ _)
    (((Memref.isWhole_whole _).wordExact_slice rfl _ (words_rW _ _ _ _ _ _ _ _ _ _ h h')).reshape _ _) K

/-- The copy of half of the first tap's channels, the first 512 columns. -/
def cpFirst (k : Fin 2) (K : PG F) : PG F :=
  cpW op 1 1 (k * 256) 256 0 512 k (by omega) (by omega) (by omega) (by omega) (by omega) K
/-- The copies of taps, their first 512 columns. -/
def cpTap (t : Fin 9) (sem : Nat) (hs : sem + 1 ≤ 5) (K : PG F) : PG F :=
  cpW op (off3 (t.val % 3)) (off3 (t.val / 3)) 0 512 0 512 sem (by omega) (by omega) hs (by omega) (by omega) K
/-- The next two taps. -/
def cpNear (K : PG F) : PG F := loop' 2 (fun i => cpTap op ⟨i + 1, by omega⟩ 2 (by decide)) K
/-- The last six taps. -/
def cpFar (K : PG F) : PG F := loop' 6 (fun i => cpTap op ⟨i + 3, by omega⟩ 3 (by decide)) K
/-- The last 768 columns of every tap. -/
def cpRest (K : PG F) : PG F :=
  loop' 9 (fun t => cpW op (off3 (t.val % 3)) (off3 (t.val / 3)) 0 512 512 768 4
    (by omega) (by omega) (by decide) (by omega) (by omega)) K
end

section
variable (op : ∀ {s : Shape} {e : EltTy} (src : Memref sig .tc .vmem s e) (dst : Memref sig .tc .hbm s e)
    (sem : DmaSem sig) (_ : src.view.WordExact) (_ : dst.view.WordExact) (_ : PG F), PG F)

theorem sqO : (⟨5, ![1, 14, 18, 4, 128]⟩ : Shape).Squeezes S14x18x4x128 := by decide

/-- The copy of a block of 128 output channels out of VMEM. -/
def cpO (c : Nat) (hc : c < 10) (K : PG F) : PG F :=
  op ((vO.slice (rOp c hc) (fun _ => rfl)).squeeze S14x18x4x128 sqO) (hY.slice (rY c hc) (fun _ => rfl)) (oSem c hc)
    (((Memref.isWhole_whole _).wordExact_slice rfl _ (words_rOp _ _)).reshape _ _)
    ((Memref.isWhole_whole _).wordExact_slice rfl _ (words_rY _ _)) K
end

/-- All the copies in, in the order they are started. -/
def starts (K : PG F) : PG F :=
  cpXs startIn (cpX startIn 0 (cpWs startIn (cpFirst startIn 0 (cpX startIn 1 (cpFirst startIn 1
    (cpB startIn (cpNear startIn (cpFar startIn (cpRest startIn K)))))))))

/-! ## The padding -/

theorem scXb (m : Nat) : (⟨2, ![m, 128]⟩ : Shape).ShapeCasts ⟨3, ![1, m, 128]⟩ := by
  simp [Shape.ShapeCasts, Shape.numel, Fin.prod_univ_succ]
theorem scXb' (m : Nat) : (⟨3, ![1, m, 128]⟩ : Shape).ShapeCasts ⟨2, ![m, 128]⟩ := by
  simp [Shape.ShapeCasts, Shape.numel, Fin.prod_univ_succ]

/-- Store to `m` rows of a plane of the padded input. -/
def stXb (p r m : Nat) (hp : p < 12) (hr : r + m ≤ 1168) (hm : 0 < m) (h : 2 ∣ r) (h' : 2 ∣ m)
    (v : FVec F ⟨2, ![m, 128]⟩ .bf16) (K : PG F) : PG F :=
  upd vXb (rXb p r m hp hr) (shapeCast ⟨3, ![1, m, 128]⟩ v (scXb m)) (pos3 (by decide) hm (by decide))
    (View.stores_vmem (pos3 (by decide) hm (by decide))
      ((Memref.isWhole_whole _).storeExact_slice rfl _ (packed_rXb p r m hp hr h h')) (fun _ => rfl)) K

/-- Zero the rows above and below the image in every plane. -/
def zeros (K : PG F) : PG F :=
  loop' 12 (fun i K =>
    stXb i 0 80 i.isLt (by decide) (by decide) (by decide) (by decide) (broadcast ⟨2, ![80, 128]⟩ (Scalar.ofBits .bf16 0x0000#16))
      (stXb i 1088 80 i.isLt (by decide) (by decide) (by decide) (by decide) (broadcast ⟨2, ![80, 128]⟩ (Scalar.ofBits .bf16 0x0000#16)) K)) K

/-! ## Shape relations of the values -/

theorem posXs : 0 < (⟨4, ![1, 1, 16, 18]⟩ : Shape).numel := by decide
theorem posWs : 0 < (⟨4, ![1, 1, 16, 1280]⟩ : Shape).numel := by decide
theorem posSw : 0 < (⟨2, ![16, 1280]⟩ : Shape).numel := by decide
theorem posSw1 : 0 < (⟨2, ![1, 256]⟩ : Shape).numel := by decide
theorem posW : 0 < (⟨4, ![1, 1, 32, 256]⟩ : Shape).numel := by decide
theorem posB : 0 < (⟨1, ![256]⟩ : Shape).numel := by decide
theorem cat8 : Shape.Concatenates [S16x18, S16x18, S16x18, S16x18, S16x18, S16x18, S16x18, S16x18] S128x18 0 := by decide
theorem cat7 : Shape.Concatenates [S16x18, S16x18, S16x18, S16x18, S16x18, S16x18, ⟨2, ![32, 18]⟩] S128x18 0 := by decide
theorem catW : Shape.Concatenates [⟨2, ![32, 256]⟩, ⟨2, ![32, 256]⟩, ⟨2, ![32, 256]⟩, ⟨2, ![32, 256]⟩, ⟨2, ![32, 256]⟩,
    ⟨2, ![32, 256]⟩, ⟨2, ![32, 256]⟩, ⟨2, ![32, 256]⟩] ⟨2, ![256, 256]⟩ 0 := by decide
theorem scW : (⟨4, ![1, 1, 32, 256]⟩ : Shape).ShapeCasts ⟨2, ![32, 256]⟩ := by decide
theorem scSw1 : (⟨2, ![1, 256]⟩ : Shape).ShapeCasts ⟨2, ![1, 256]⟩ := rfl

/-! ## The scales -/

/-- Four bytes of the input's scales as one word: image `i` in byte `i`. -/
def word4 (a0 a1 a2 a3 : (⟨4, ![1, 1, 16, 18]⟩ : Shape).Idx → BitVec 8) : IVec S16x18 32 :=
  ori (ori (ori (extui 32 (shapeCast S16x18 a0 (by decide) : IVec S16x18 8) (by decide))
    (shli (extui 32 (shapeCast S16x18 a1 (by decide) : IVec S16x18 8) (by decide)) (broadcast S16x18 8#32)))
    (shli (extui 32 (shapeCast S16x18 a2 (by decide) : IVec S16x18 8) (by decide)) (broadcast S16x18 16#32)))
    (shli (extui 32 (shapeCast S16x18 a3 (by decide) : IVec S16x18 8) (by decide)) (broadcast S16x18 24#32))

/-- The scale words of an image row. -/
def words (y : Fin 14) (K : IVec S16x18 32 → PG F) : PG F :=
  ld vXs (rXs 0 y (by decide) y.isLt) posXs fun a0 => ld vXs (rXs 1 y (by decide) y.isLt) posXs fun a1 =>
  ld vXs (rXs 2 y (by decide) y.isLt) posXs fun a2 => ld vXs (rXs 3 y (by decide) y.isLt) posXs fun a3 =>
  K (word4 a0 a1 a2 a3)

/-- The first eight image rows' words, a pixel to a row. -/
def group0 (w0 w1 w2 w3 w4 w5 w6 w7 : IVec S16x18 32) : IVec S18x128 32 :=
  transpose S18x128 [1, 0] (concatenate S128x18 0 [⟨S16x18, w0⟩, ⟨S16x18, w1⟩, ⟨S16x18, w2⟩, ⟨S16x18, w3⟩, ⟨S16x18, w4⟩,
    ⟨S16x18, w5⟩, ⟨S16x18, w6⟩, ⟨S16x18, w7⟩] cat8) (by decide)

/-- The last six image rows' words, a pixel to a row. -/
def group1 (w0 w1 w2 w3 w4 w5 : IVec S16x18 32) : IVec S18x128 32 :=
  transpose S18x128 [1, 0] (concatenate S128x18 0 [⟨S16x18, w0⟩, ⟨S16x18, w1⟩, ⟨S16x18, w2⟩, ⟨S16x18, w3⟩, ⟨S16x18, w4⟩,
    ⟨S16x18, w5⟩, ⟨⟨2, ![32, 18]⟩, broadcast ⟨2, ![32, 18]⟩ 0#32⟩] cat7) (by decide)

/-- All the scale words, in two groups of image rows. -/
def groups (K : IVec S18x128 32 → IVec S18x128 32 → PG F) : PG F :=
  words 0 fun w0 => words 1 fun w1 => words 2 fun w2 => words 3 fun w3 => words 4 fun w4 => words 5 fun w5 =>
  words 6 fun w6 => words 7 fun w7 => words 8 fun w8 => words 9 fun w9 => words 10 fun w10 => words 11 fun w11 =>
  words 12 fun w12 => words 13 fun w13 =>
  K (group0 w0 w1 w2 w3 w4 w5 w6 w7) (group1 w8 w9 w10 w11 w12 w13)

/-- A tap's scales as words holding each twice, where the exponent of a bf16 is. -/
def twice (a : (⟨4, ![1, 1, 16, 1280]⟩ : Shape).Idx → BitVec 8) : IVec S16x1280 32 :=
  ori (shli (extui 32 (shapeCast S16x1280 a (by decide) : IVec S16x1280 8) (by decide)) (broadcast S16x1280 7#32))
    (shli (extui 32 (shapeCast S16x1280 a (by decide) : IVec S16x1280 8) (by decide)) (broadcast S16x1280 23#32))

/-- Write a tap's scale words. -/
def scaleW (dy dx : Fin 3) (K : PG F) : PG F :=
  ld vWs (rWs dy dx dy.isLt dx.isLt) posWs fun a =>
  upd vSw (rSw (dy.val * 3 + dx.val) (by omega)) (shapeCast S16x1280 (twice a) (by decide) : IVec S16x1280 32) posSw
    (View.stores_vmem_bits_univ posSw rfl) K

/-! ## The scaled input -/

/-- The chunk sizes: eight pixels, and two at the end of a row. -/
def Chunk (m : Nat) : Prop := m = 8 ∨ m = 2

/-- The lane each scale word is taken from. -/
def lanes (m : Nat) (idx : IVec ⟨2, ![m, 128]⟩ 32) : IVec ⟨2, ![m, 128]⟩ 32 :=
  select (cmpi .slt idx (broadcast ⟨2, ![m, 128]⟩ 0#32)) (addi idx (broadcast ⟨2, ![m, 128]⟩ 128#32)) idx

theorem sc3 {m : Nat} (h : Chunk m) : (⟨2, ![m, 128]⟩ : Shape).ShapeCasts ⟨3, ![m, 128, 1]⟩ := by
  rcases h with rfl | rfl <;> decide
theorem sc3' {m : Nat} (h : Chunk m) : (⟨3, ![m, 128, 1]⟩ : Shape).ShapeCasts ⟨2, ![m, 128]⟩ := by
  rcases h with rfl | rfl <;> decide
theorem bc8 {m : Nat} (h : Chunk m) : (⟨2, ![m, 128]⟩ : Shape).Bitcasts 32 ⟨2, ![4 * m, 128]⟩ 8 := by
  rcases h with rfl | rfl <;> decide
theorem bc32 {m : Nat} (h : Chunk m) : (⟨2, ![4 * m, 128]⟩ : Shape).Bitcasts 16 ⟨2, ![2 * m, 128]⟩ 32 := by
  rcases h with rfl | rfl <;> decide
theorem bc16 {m : Nat} (h : Chunk m) : (⟨2, ![2 * m, 128]⟩ : Shape).Bitcasts 32 ⟨2, ![4 * m, 128]⟩ 16 := by
  rcases h with rfl | rfl <;> decide
theorem slG {m s : Nat} (hs : s + m ≤ 18) (h : Chunk m) : S18x128.Slices ![s, 0] ⟨2, ![m, 128]⟩ := by
  refine ⟨rfl, fun a => ?_⟩
  fin_cases a
  exacts [hs, Nat.le_refl 128]
theorem scC {m : Nat} (h : Chunk m) : (⟨4, ![1, m, 4, 128]⟩ : Shape).ShapeCasts ⟨3, ![m, 4, 128]⟩ := by
  rcases h with rfl | rfl <;> decide
theorem scC' {m : Nat} (h : Chunk m) : (⟨3, ![m, 4, 128]⟩ : Shape).ShapeCasts ⟨2, ![4 * m, 128]⟩ := by
  rcases h with rfl | rfl <;> decide
theorem ioC {m : Nat} (h : Chunk m) : (⟨2, ![4 * m, 128]⟩ : Shape).Iotas .tc 32 [0] := by
  rcases h with rfl | rfl <;> decide
theorem Chunk.pos {m : Nat} (h : Chunk m) : 0 < m := by
  rcases h with rfl | rfl <;> decide

/-- The scales of a chunk: of each word's four bytes, byte `i` at image `i`, as the bf16 with that exponent. -/
def scl {m : Nat} (h : Chunk m) (g idx : IVec ⟨2, ![m, 128]⟩ 32) : FVec F ⟨2, ![4 * m, 128]⟩ .bf16 :=
  bitcastToFloat .bf16 (bitcast ⟨2, ![4 * m, 128]⟩ 16
    (shli (bitcast ⟨2, ![2 * m, 128]⟩ 32 (extui 16 (bitcast ⟨2, ![4 * m, 128]⟩ 8
      (dynamicGather 1 g (shapeCast ⟨2, ![m, 128]⟩ (shapeCast ⟨3, ![m, 128, 1]⟩ (lanes m idx) (sc3 h)) (sc3' h)))
      (bc8 h)) (by decide)) (bc32 h)) (broadcast ⟨2, ![2 * m, 128]⟩ 7#32)) (bc16 h))

/-- A chunk of codes, scaled. -/
def scaled {m : Nat} (h : Chunk m) (c : (⟨4, ![1, m, 4, 128]⟩ : Shape).Idx → F .fp8e4m3) (sc : FVec F ⟨2, ![4 * m, 128]⟩ .bf16) :
    FVec F ⟨2, ![4 * m, 128]⟩ .bf16 :=
  mulf (extf .bf16 (shapeCast ⟨2, ![4 * m, 128]⟩ (shapeCast ⟨3, ![m, 4, 128]⟩ c (scC h) : FVec F ⟨3, ![m, 4, 128]⟩ .fp8e4m3)
    (scC' h) : FVec F ⟨2, ![4 * m, 128]⟩ .fp8e4m3) (by decide)) sc

/-- Zero where the row number compares with four. -/
def masked {m : Nat} (h : Chunk m) (p : CmpIPredicate) (v : FVec F ⟨2, ![4 * m, 128]⟩ .bf16) : FVec F ⟨2, ![4 * m, 128]⟩ .bf16 :=
  select (cmpi p (iota .tc ⟨2, ![4 * m, 128]⟩ 32 [0] (ioC h)) (broadcast ⟨2, ![4 * m, 128]⟩ 4#32))
    (broadcast ⟨2, ![4 * m, 128]⟩ (Scalar.ofBits .bf16 0x0000#16)) v

/-- Scale a chunk of `m` pixels from `s` and store it in the three column shifts: the last pixel of a row is zero in
    the first and the first pixel of a row is zero in the last. -/
def chunk (y : Fin 14) (lb : Fin 4) (s m : Nat) (hs : s + m ≤ 18) (h : Chunk m) (grp : IVec S18x128 32)
    (idx : IVec ⟨2, ![m, 128]⟩ 32) (fl fr : FVec F ⟨2, ![4 * m, 128]⟩ .bf16 → FVec F ⟨2, ![4 * m, 128]⟩ .bf16)
    (K : PG F) : PG F :=
  ld vX (rXc y s m lb y.isLt hs lb.isLt) (pos4 (by decide) h.pos (by decide) (by decide)) fun c =>
  stXb (4 + lb) (80 + y * 72 + s * 4) (4 * m) (by omega) (by omega) (by have := h.pos; omega) (by omega) (by omega)
    (scaled h c (scl h (extractStridedSlice ⟨2, ![m, 128]⟩ ![s, 0] grp (slG hs h)) idx)) <|
  stXb lb (80 + y * 72 + s * 4) (4 * m) (by omega) (by omega) (by have := h.pos; omega) (by omega) (by omega)
    (fl (scaled h c (scl h (extractStridedSlice ⟨2, ![m, 128]⟩ ![s, 0] grp (slG hs h)) idx))) <|
  stXb (8 + lb) (80 + y * 72 + s * 4) (4 * m) (by omega) (by omega) (by have := h.pos; omega) (by omega) (by omega)
    (fr (scaled h c (scl h (extractStridedSlice ⟨2, ![m, 128]⟩ ![s, 0] grp (slG hs h)) idx))) K

/-- The number of the scale block a lane lies in. -/
def laneBlock : IVec ⟨2, ![8, 128]⟩ 32 :=
  shrsi (iota .tc ⟨2, ![8, 128]⟩ 32 [1] (by decide)) (broadcast ⟨2, ![8, 128]⟩ 5#32)

/-- The lanes of the scale words of the block `lb` of an image row. -/
def laneIdx (y : Fin 14) (lb : Fin 4) : IVec ⟨2, ![8, 128]⟩ 32 :=
  addi laneBlock (broadcast ⟨2, ![8, 128]⟩ (BitVec.ofNat 32 (y % 8 * 16 + lb * 4)))

theorem ch8 : Chunk 8 := .inl rfl
theorem ch2 : Chunk 2 := .inr rfl

/-- Scale and store the block `lb` of an image row. -/
def prep (y : Fin 14) (lb : Fin 4) (grp : IVec S18x128 32) (K : PG F) : PG F :=
  chunk y lb 0 8 (by decide) ch8 grp (laneIdx y lb) (fun v => v) (masked ch8 .slt) <|
  chunk y lb 8 8 (by decide) ch8 grp (laneIdx y lb) (fun v => v) (fun v => v) <|
  chunk y lb 16 2 (by decide) ch2 grp (extractStridedSlice ⟨2, ![2, 128]⟩ ![0, 0] (laneIdx y lb) (by decide))
    (masked ch2 .sge) (fun v => v) K

/-! ## The tiles -/

/-- Scaled weights: 32 rows share a row of scale words. -/
def wRow (dy dx : Fin 3) (k : Fin 2) (q : Nat) (hq : q + 256 ≤ 1280) (g : Fin 8) (K : FVec F ⟨2, ![32, 256]⟩ .bf16 → PG F) : PG F :=
  ld vW (rW dy dx (k * 256 + g * 32) 32 q 256 dy.isLt dx.isLt (by omega) hq) posW fun c =>
  ld vSw (rSw1 ((dy.val * 3 + dx.val) * 16 + k * 8 + g) q (by omega) hq) posSw1 fun w =>
  K (mulf (extf .bf16 (shapeCast ⟨2, ![32, 256]⟩ c scW : FVec F ⟨2, ![32, 256]⟩ .fp8e4m3) (by decide))
    (bitcastToFloat .bf16 (bitcast ⟨2, ![32, 256]⟩ 16
      (broadcastTo ⟨2, ![16, 256]⟩ (shapeCast ⟨2, ![1, 256]⟩ w scSw1 : IVec ⟨2, ![1, 256]⟩ 32) (by decide)) (by decide))))

/-- A tile of scaled weights. -/
def weights (dy dx : Fin 3) (k : Fin 2) (q : Nat) (hq : q + 256 ≤ 1280) (K : FVec F ⟨2, ![256, 256]⟩ .bf16 → PG F) : PG F :=
  wRow dy dx k q hq 0 fun w0 => wRow dy dx k q hq 1 fun w1 => wRow dy dx k q hq 2 fun w2 => wRow dy dx k q hq 3 fun w3 =>
  wRow dy dx k q hq 4 fun w4 => wRow dy dx k q hq 5 fun w5 => wRow dy dx k q hq 6 fun w6 => wRow dy dx k q hq 7 fun w7 =>
  K (concatenate ⟨2, ![256, 256]⟩ 0 [⟨⟨2, ![32, 256]⟩, w0⟩, ⟨⟨2, ![32, 256]⟩, w1⟩, ⟨⟨2, ![32, 256]⟩, w2⟩,
    ⟨⟨2, ![32, 256]⟩, w3⟩, ⟨⟨2, ![32, 256]⟩, w4⟩, ⟨⟨2, ![32, 256]⟩, w5⟩, ⟨⟨2, ![32, 256]⟩, w6⟩, ⟨⟨2, ![32, 256]⟩, w7⟩] catW)

theorem catM (M : Nat) : Shape.Concatenates [⟨2, ![M, 128]⟩, ⟨2, ![M, 128]⟩] ⟨2, ![M, 256]⟩ 1 := by
  refine ⟨Nat.le_refl 2, fun s hs => ?_, rfl⟩
  simp only [List.mem_cons, List.not_mem_nil, or_false, or_self] at hs
  subst hs
  refine ⟨rfl, fun b hb => ?_⟩
  fin_cases b
  · rfl
  · exact absurd rfl hb

/-- The rows of a piece, shifted by the tap, half of the channels. -/
def lhs (dy dx : Fin 3) (k : Fin 2) (P : Piece) (hP : P.Ok) (K : FVec F ⟨2, ![P.M, 256]⟩ .bf16 → PG F) : PG F :=
  ld vXb (rXb (dx * 4 + k * 2) (4 + dy * 72 + dx * 4 + P.r) P.M (by omega) (by have := hP.2.2.2.1; omega))
    (pos3 (by decide) hP.2.1 (by decide)) fun a =>
  ld vXb (rXb (dx * 4 + k * 2 + 1) (4 + dy * 72 + dx * 4 + P.r) P.M (by omega) (by have := hP.2.2.2.1; omega))
    (pos3 (by decide) hP.2.1 (by decide)) fun b =>
  K (concatenate ⟨2, ![P.M, 256]⟩ 1 [⟨⟨2, ![P.M, 128]⟩, (shapeCast ⟨2, ![P.M, 128]⟩ a (scXb' P.M) : FVec F ⟨2, ![P.M, 128]⟩ .bf16)⟩,
    ⟨⟨2, ![P.M, 128]⟩, (shapeCast ⟨2, ![P.M, 128]⟩ b (scXb' P.M) : FVec F ⟨2, ![P.M, 128]⟩ .bf16)⟩] (catM P.M))

/-! ## The steps -/

/-- The columns of the two units in a phase: two blocks of 256, or one shared. -/
structure Cols where
  c0 : Nat
  c1 : Nat
  h0 : c0 + 256 ≤ 1280
  h1 : c1 + 256 ≤ 1280
  shared : Bool

/-- The first phase's columns. -/
def colsA : Cols := ⟨0, 256, by decide, by decide, false⟩
/-- The second phase's columns. -/
def colsB : Cols := ⟨512, 768, by decide, by decide, false⟩
/-- The third phase's columns. -/
def colsC : Cols := ⟨1024, 1024, by decide, by decide, true⟩

/-- Push a step's tiles. -/
def push (C : Cols) (s : Fin 18) (mx : Mxu F) (K : Mxu F → PG F) : PG F :=
  bif C.shared then
    weights (tapY s) (tapX s) (half s) C.c0 C.h0 fun v =>
      (mx.pushRhs 0 (half s) false v).bind fun mx => (mx.pushRhs 1 (half s) false v).bind K
  else
    weights (tapY s) (tapX s) (half s) C.c0 C.h0 fun v => (mx.pushRhs 0 (half s) false v).bind fun mx =>
    weights (tapY s) (tapX s) (half s) C.c1 C.h1 fun v => (mx.pushRhs 1 (half s) false v).bind K

/-- Multiply a piece by a unit's tile and add into its accumulator; the first piece of a unit loads the staged tile. -/
def accum (u reg : Fin 2) (first : Bool) (P : Piece) (hP : P.Ok) (v : FVec F ⟨2, ![P.M, 256]⟩ .bf16) (mx : Mxu F)
    (K : Mxu F → PG F) : PG F :=
  bif first then K (mx.accLhs u reg (P.r / 4) v hP.fits) else (mx.accLhsLoaded u (P.r / 4) v hP.fits).bind K

/-- A piece of a step. -/
def pieceStep (C : Cols) (s : Fin 18) (p : Fin 8) (mx : Mxu F) (K : Mxu F → PG F) : PG F :=
  lhs (tapY s) (tapX s) (half s) (piece p) (piece_ok p) fun v =>
  bif C.shared then
    bif p.val.ble 3 then accum 0 (half s) (p.val.beq 0) (piece p) (piece_ok p) v mx K
    else accum 1 (half s) (p.val.beq 4) (piece p) (piece_ok p) v mx K
  else
    accum 0 (half s) (p.val.beq 0) (piece p) (piece_ok p) v mx fun mx =>
    accum 1 (half s) (p.val.beq 0) (piece p) (piece_ok p) v mx K

/-- The image rows a piece of the first two steps prepares. -/
def prepRow (p : Fin 8) : Nat := 2 * (p.val - (p.val.ble 4 == false).toNat)

theorem prepRow_lt (p : Fin 8) : prepRow p + 1 < 14 := by fin_cases p <;> decide

/-- Prepare an image row's half of the channels. -/
def prepHalf (y : Fin 14) (k : Fin 2) (g0 g1 : IVec S18x128 32) (K : PG F) : PG F :=
  prep y ⟨2 * k, by omega⟩ (bif y.val.ble 7 then g0 else g1) (prep y ⟨2 * k + 1, by omega⟩ (bif y.val.ble 7 then g0 else g1) K)

/-- What a piece of the first two steps prepares. -/
def prepPiece (p : Fin 8) (k : Fin 2) (g0 g1 : IVec S18x128 32) (K : PG F) : PG F :=
  bif p.val.beq 4 then K
  else prepHalf ⟨prepRow p, by have := prepRow_lt p; omega⟩ k g0 g1 (prepHalf ⟨prepRow p + 1, prepRow_lt p⟩ k g0 g1 K)

/-- A step. -/
def step (C : Cols) (s : Fin 18) (mx : Mxu F) (K : Mxu F → PG F) : PG F :=
  push C s mx fun mx => loop 8 (pieceStep C s) mx K

/-- One of the first two steps, which prepare what they multiply. -/
def stepP (s : Fin 18) (g0 g1 : IVec S18x128 32) (mx : Mxu F) (K : Mxu F → PG F) : PG F :=
  push colsA s mx fun mx => loop 8 (fun p mx K => prepPiece p (half s) g0 g1 (pieceStep colsA s p mx K)) mx K

/-! ## The results -/

/-- A popped accumulator plus the bias, rounded. -/
def biased (P : Piece) (a : FVec F ⟨2, ![P.M, 256]⟩ .f32) (b : (⟨1, ![256]⟩ : Shape).Idx → F .f32)
    (hb : (⟨2, ![1, 256]⟩ : Shape).Broadcasts ⟨2, ![P.M, 256]⟩) : FVec F ⟨2, ![P.M, 256]⟩ .bf16 :=
  truncf .bf16 (addf a (broadcastTo ⟨2, ![P.M, 256]⟩ (shapeCast ⟨2, ![1, 256]⟩ b (by decide) : FVec F ⟨2, ![1, 256]⟩ .f32) hb)) (by decide)

theorem bcM (M : Nat) : (⟨2, ![1, 256]⟩ : Shape).Broadcasts ⟨2, ![M, 256]⟩ := by
  refine ⟨Nat.le_refl 2, fun a => ?_⟩
  fin_cases a
  · exact .inl rfl
  · exact .inr fun _ => rfl
theorem slM {M o m j : Nat} (h : o + 4 * m ≤ M) (hj : j < 2) :
    (⟨2, ![M, 256]⟩ : Shape).Slices ![o, j * 128] ⟨2, ![4 * m, 128]⟩ := by
  refine ⟨rfl, fun a => ?_⟩
  fin_cases a
  · exact h
  · show j * 128 + 128 ≤ 256
    omega
theorem scM (m : Nat) : (⟨2, ![4 * m, 128]⟩ : Shape).ShapeCasts ⟨3, ![m, 4, 128]⟩ := by
  simp [Shape.ShapeCasts, Shape.numel, Fin.prod_univ_succ]
  omega
theorem scM' (m : Nat) : (⟨3, ![m, 4, 128]⟩ : Shape).ShapeCasts ⟨5, ![1, 1, m, 4, 128]⟩ := by
  simp [Shape.ShapeCasts, Shape.numel, Fin.prod_univ_succ]

/-- Store a run of pixels of a rounded piece, 128 of its columns. -/
def stO (u : Sub) (P : Piece) (hu : u.Ok P.r P.M) (q : Nat) (hq : q < 9) (j : Fin 2) (v : FVec F ⟨2, ![P.M, 256]⟩ .bf16) (K : PG F) : PG F :=
  upd vO (rO (q + j) u.y u.x u.m (by omega) hu.1 hu.2.1)
    (shapeCast ⟨5, ![1, 1, u.m, 4, 128]⟩ (shapeCast ⟨3, ![u.m, 4, 128]⟩
      (extractStridedSlice ⟨2, ![4 * u.m, 128]⟩ ![u.o, j * 128] v (slM hu.2.2.2.1 j.isLt)) (scM u.m) : FVec F ⟨3, ![u.m, 4, 128]⟩ .bf16) (scM' u.m))
    (pos5 (by decide) (by decide) hu.2.2.1 (by decide) (by decide))
    (View.stores_vmem (pos5 (by decide) (by decide) hu.2.2.1 (by decide) (by decide))
      ((Memref.isWhole_whole _).storeExact_slice rfl _ (packed_rO _ _ _ _ _ _ _)) (fun _ => rfl)) K

/-- Store a rounded piece, 128 of its columns. -/
def stPiece (P : Piece) (hP : P.Ok) (q : Nat) (hq : q < 9) (j : Fin 2) (v : FVec F ⟨2, ![P.M, 256]⟩ .bf16) (K : PG F) : PG F :=
  stO P.s0 P hP.2.2.2.2.1 q hq j v <|
  match h : P.s1 with
  | none => K
  | some u => stO u P (hP.2.2.2.2.2 u h) q hq j v K

/-- Pop a piece of a unit's accumulator, add the bias, round and store. -/
def drain (u : Fin 2) (q : Nat) (hq : q < 9) (P : Piece) (hP : P.Ok) (mx : Mxu F) (K : Mxu F → PG F) : PG F :=
  ld vB (rB (q * 128) (by omega)) posB fun b =>
  stPiece P hP q hq 0 (biased P (mx.read u (P.r / 4) hP.fits) b (bcM P.M)) <|
  stPiece P hP q hq 1 (biased P (mx.read u (P.r / 4) hP.fits) b (bcM P.M)) <|
  K (mx.pop u (P.r / 4) P.M hP.fits)

/-- Drain both units' accumulators. -/
def drains (q : Nat) (hq : q + 2 < 9) (mx : Mxu F) (K : Mxu F → PG F) : PG F :=
  loop 8 (fun p mx K => drain 0 q (by omega) (piece p) (piece_ok p) mx fun mx =>
    drain 1 (q + 2) hq (piece p) (piece_ok p) mx K) mx K

/-- Drain the shared phase's accumulators: the first half of the pieces is in unit 0, the second in unit 1. -/
def drainsC (mx : Mxu F) (K : Mxu F → PG F) : PG F :=
  loop 8 (fun p mx K => bif p.val.ble 3 then drain 0 8 (by decide) (piece p) (piece_ok p) mx K
    else drain 1 8 (by decide) (piece p) (piece_ok p) mx K) mx K

/-! ## The body -/

/-- What a later step of the first phase waits for. -/
def waits (i : Fin 16) (K : PG F) : PG F :=
  bif i.val.beq 0 then cpNear waitIn K else bif i.val.beq 4 then cpFar waitIn (cpB waitIn K) else K

/-- A later step of the first phase. -/
def stepA (i : Fin 16) (mx : Mxu F) (K : Mxu F → PG F) : PG F :=
  waits i <| bif (i.val % 2).beq 0 then scaleW (tapY ⟨i + 2, by omega⟩) (tapX ⟨i + 2, by omega⟩) (step colsA ⟨i + 2, by omega⟩ mx K)
    else step colsA ⟨i + 2, by omega⟩ mx K

/-- The first phase. -/
def phaseA (mx : Mxu F) (K : Mxu F → PG F) : PG F :=
  cpWs waitIn <| cpFirst waitIn 0 <| cpXs waitIn <| cpX waitIn 0 <| groups fun g0 g1 => scaleW 1 1 <|
  stepP 0 g0 g1 mx fun mx => cpX waitIn 1 <| cpFirst waitIn 1 <| stepP 1 g0 g1 mx fun mx =>
  loop 16 stepA mx fun mx => drains 0 (by decide) mx K

/-- The second phase. -/
def phaseB (mx : Mxu F) (K : Mxu F → PG F) : PG F :=
  cpRest waitIn <| loop 18 (step colsB) mx fun mx => drains 4 (by decide) mx K

/-- The third phase. -/
def phaseC (mx : Mxu F) (K : Mxu F → PG F) : PG F :=
  loop 18 (step colsC) mx fun mx => drainsC mx K

/-- The body. -/
def body : PG F :=
  starts <| zeros <| phaseA Mxu.init fun mx =>
  loop' 4 (fun i => cpO startOut i (by omega)) <| phaseB mx fun mx =>
  loop' 4 (fun i => cpO startOut (i + 4) (by omega)) <| phaseC mx fun mx =>
  loop' 2 (fun i => cpO startOut (i + 8) (by omega)) <| loop' 10 (fun i => cpO waitOut i i.isLt) <|
  mx.exit

end Cert.KernelIdeal.Conv
-- ==== Proof.Own.lean ====
module

public import proofs.«01_k».proof.Proof.Prog
public import Idealize.ShloMosaic.Lib.Pipeline.FrameSuffixV
public import Idealize.ShloMosaic.Lib.Pipeline.FrameBody
public import Idealize.ShloMosaic.Lib.Tactic

/-! # What the kernel holds, and its instructions

The eight VMEM buffers, each held on a set of elements and known on some of them. An instruction asks for the
elements it touches and leaves more of them known. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

/-- The algebra the proof is over. -/
local notation "𝕄" => MT nD τ sig Unit (Elt F) ℕ (Pipeline.UD sig nD τ) ℕ

section Has
variable (c : Dev nD) {sp : Space} {s : Shape} {e : EltTy}

/-- A buffer held on the elements `D` of a memref, of which those in `S` are `T`. -/
def Has (m : Memref sig .tc sp s e) (D : Finset s.Idx) (S : s.Idx → Prop) (T : s.Idx → Elt F e) : sProp 𝕄 :=
  iprop(∃ f : Buf (Elt F) (m.view.loc (c : Thread nD τ)), ⌜∀ x, S x → m.view.read (Elt F) f x = T x⌝
    ∗ m.view.loc (c : Thread nD τ) ↦[D.map m.view.emb]{fullShare} f)

/-- Less known. -/
theorem Has.weaken {m : Memref sig .tc sp s e} {D : Finset s.Idx} {S S' : s.Idx → Prop} {T : s.Idx → Elt F e}
    (h : ∀ x, S' x → S x) : (Has c m D S T : sProp 𝕄) ⊢ Has c m D S' T := by
  unfold Has
  iintro ⟨%f, %hf, H⟩
  iexists f
  isplitr
  · ipureintro; exact fun x hx => hf x (h x hx)
  · iexact H

/-- Two disjoint parts of a buffer are one part. -/
theorem Has.join {m : Memref sig .tc sp s e} {D D' : Finset s.Idx} {S S' S'' : s.Idx → Prop} {T : s.Idx → Elt F e}
    (hd : Disjoint D D') (h : ∀ x, S'' x → (x ∈ D ∧ S x) ∨ (x ∈ D' ∧ S' x)) :
    iprop(Has c m D S T ∗ Has c m D' S' T) ⊢ (Has c m (D ∪ D') S'' T : sProp 𝕄) := by
  classical
  unfold Has
  iintro ⟨⟨%f, %hf, H⟩, ⟨%g, %hg, H'⟩⟩
  iexists (D'.map m.view.emb).piecewise g f
  isplitr
  · ipureintro
    intro x hx
    rw [View.read_apply]
    rcases h x hx with ⟨hm, hs⟩ | ⟨hm, hs⟩
    · rw [Finset.piecewise_eq_of_notMem, ← View.read_apply, hf x hs]
      rw [Finset.mem_map']
      exact fun h' => Finset.disjoint_left.mp hd hm h'
    · rw [Finset.piecewise_eq_of_mem, ← View.read_apply, hg x hs]
      rw [Finset.mem_map']
      exact hm
  · rw [Finset.map_union]
    iapply (pointsTo_join ((Finset.disjoint_map _).mpr hd))
    isplitl [H]
    · iexact H
    · iexact H'

/-- A part of a buffer is two disjoint parts. -/
theorem Has.split {m : Memref sig .tc sp s e} {D D' : Finset s.Idx} {S : s.Idx → Prop} {T : s.Idx → Elt F e}
    (hd : Disjoint D D') :
    (Has c m (D ∪ D') S T : sProp 𝕄) ⊢ iprop(Has c m D S T ∗ Has c m D' S T) := by
  unfold Has
  iintro ⟨%f, %hf, H⟩
  rw [Finset.map_union]
  ihave H' := (pointsTo_union ((Finset.disjoint_map _).mpr hd)).1 $$ H
  icases H' with ⟨H, H'⟩
  isplitl [H]
  · iexists f
    isplitr
    · ipureintro; exact hf
    · iexact H
  · iexists f
    isplitr
    · ipureintro; exact hf
    · iexact H'

theorem rect_mem {r : Rect s} {x : s.Idx} (h : x ∈ r.set) : ∃ j, r.emb j = x := by
  rw [LoadRect.mem_set] at h
  choose j hj he using h
  exact ⟨fun a => ⟨j a, hj a⟩, funext fun a => Fin.ext (he a).symm⟩

theorem set_access_sub {m : Memref sig .tc sp s e} {D : Finset s.Idx} {r : Rect s} (h : r.set ⊆ D) :
    (m.access r).set ⊆ D.map m.view.emb := by
  rw [show (m.access r).set = r.set.map m.view.emb from View.set_slice _ _]
  exact Finset.map_subset_map.mpr h

end Has

/-- The weakest precondition of a program on the kernel's core. -/
abbrev T (c : Dev nD) (Q : PUnit → sProp 𝕄) (p : PG F) : sProp 𝕄 := wp frame (wpE (defs₀ (F := F)) Variants.none (c : Thread nD τ) none) Set.univ p Q

/-- Load a rectangle of known elements. -/
theorem has_ld {c : Dev nD} {Q : PUnit → sProp 𝕄} {s : Shape} {e : EltTy} {m : Memref sig .tc .vmem s e} {D : Finset s.Idx} {S : s.Idx → Prop} {V : s.Idx → Elt F e}
    {r : Rect s} {h : 0 < r.shape.numel} {K : (r.shape.Idx → Elt F e) → PG F} {R R' : sProp 𝕄}
    (hD : r.set ⊆ D) (hS : ∀ j, S (r.emb j))
    (hR : iprop(R ∗ Has c m D S V ∗ R') ⊢ T (F := F) c Q (K fun j => V (r.emb j))) :
    iprop(R ∗ Has c m D S V ∗ R') ⊢ T (F := F) c Q (ld m r h K) := by
  unfold Has at hR ⊢
  iintro ⟨HR, ⟨%f, %hf, H⟩, HR'⟩
  iapply (wp_load_rect (defs := defs₀ (F := F)) Variants.none (c : Thread nD τ) none Set.univ (m := m) (r := r) (f := f)
    (set_access_sub hD)) $$ H
  iintro H
  rw [show (m.access r).read (Elt F) f = fun j => V (r.emb j) from funext fun j => hf _ (hS j)]
  iapply hR
  isplitl [HR]
  · iexact HR
  isplitl [H]
  · iexists f
    isplitr
    · ipureintro; exact hf
    · iexact H
  · iexact HR'

/-- Load a rectangle, drop what was read, and store to it what is to be known there. -/
theorem has_upd {c : Dev nD} {Q : PUnit → sProp 𝕄} {s : Shape} {e : EltTy} {m : Memref sig .tc .vmem s e} {D : Finset s.Idx} {S S' : s.Idx → Prop} {V : s.Idx → Elt F e}
    {r : Rect s} {w : r.shape.Idx → Elt F e} {h : 0 < r.shape.numel} {hs : (m.access r).Stores Finset.univ} {K : PG F} {R R' : sProp 𝕄}
    (hD : r.set ⊆ D) (hw : ∀ j, w j = V (r.emb j)) (hS : ∀ x, S' x → S x ∨ x ∈ r.set)
    (hR : iprop(R ∗ Has c m D S' V ∗ R') ⊢ T (F := F) c Q K) :
    iprop(R ∗ Has c m D S V ∗ R') ⊢ T (F := F) c Q (upd m r w h hs K) := by
  unfold Has at hR ⊢
  iintro ⟨HR, ⟨%f, %hf, H⟩, HR'⟩
  iapply (wp_load_rect (defs := defs₀ (F := F)) Variants.none (c : Thread nD τ) none Set.univ (m := m) (r := r) (f := f)
    (set_access_sub hD)) $$ H
  iintro H
  iapply (wp_store (defs := defs₀ (F := F)) Variants.none (c : Thread nD τ) none Set.univ (m := m) (r := r) (f := f)
    (set_access_sub hD)) $$ H
  iintro H
  iapply hR
  isplitl [HR]
  · iexact HR
  isplitl [H]
  · iexists _
    isplitr
    · ipureintro
      swap
      · exact (m.access r).write (Elt F) f w Finset.univ
      · intro x hx
        by_cases hm : x ∈ r.set
        · obtain ⟨j, rfl⟩ := rect_mem hm
          rw [show m.view.read (Elt F) ((m.access r).write (Elt F) f w Finset.univ) (r.emb j)
            = (m.access r).read (Elt F) ((m.access r).write (Elt F) f w Finset.univ) j from rfl, View.read_write_univ, hw]
        · rw [View.read_apply, View.write_of_not_mem, ← View.read_apply]
          · exact hf x ((hS x hx).resolve_right hm)
          · rw [show (m.access r).setOn Finset.univ = r.set.map m.view.emb from View.set_slice _ _, Finset.mem_map']
            exact hm
    · iexact H
  · iexact HR'

end Cert.KernelIdeal.Conv
-- ==== Proof.Vals.lean ====
module

public import proofs.«01_k».proof.Proof.Prog
public import Idealize.ShloMosaic.Lib.Pipeline.Value
public import Idealize.ShloMosaic.Lib.Pointwise.Index

/-! # What the kernel computes

The contents each buffer is to hold, as functions of the five inputs: the scale words, the padded input in its three
column shifts, the accumulators after each step and the result. They are written with the kernel's own operations,
an element at a time. -/

@[expose] public section

noncomputable section

namespace Cert.KernelIdeal.Conv

open Idealize.ShloMosaic Idealize.SL.Sem

variable {F : FTy → Type} [FloatOps F] [Facts]

/-- The five inputs, as the copies into VMEM read them. -/
structure Ins (F : FTy → Type) where
  X : S14x18x4x512.Idx → F .fp8e4m3
  Xs : S4x14x16x18.Idx → BitVec 8
  W : S3x3x512x1280.Idx → F .fp8e4m3
  Ws : S3x3x16x1280.Idx → BitVec 8
  B : S1280.Idx → F .f32

variable (E : Ins F)

/-! ## The scale words -/

/-- The words of a tap's scales. -/
def twiceT (t : Fin 9) : IVec S16x1280 32 :=
  twice fun j => E.Ws ((rWs (t.val / 3) (t.val % 3) (by omega) (Nat.mod_lt _ (by decide))).emb j)

/-- The weights' scale words. -/
def swT : S144x1280.Idx → BitVec 32 := fun i =>
  twiceT E ⟨(i 0).val / 16, by have : (i 0).val < 144 := (i 0).isLt; omega⟩
    (ix2 (n0 := 16) (n1 := 1280) ⟨(i 0).val % 16, Nat.mod_lt _ (by decide)⟩ (i 1))

/-- The scale words of an image row. -/
def rowWords (y : Nat) (hy : y < 14) : IVec S16x18 32 :=
  word4 (fun j => E.Xs ((rXs 0 y (by decide) hy).emb j)) (fun j => E.Xs ((rXs 1 y (by decide) hy).emb j))
    (fun j => E.Xs ((rXs 2 y (by decide) hy).emb j)) (fun j => E.Xs ((rXs 3 y (by decide) hy).emb j))

/-- The words of the first eight image rows. -/
def grp0 : IVec S18x128 32 :=
  group0 (rowWords E 0 (by decide)) (rowWords E 1 (by decide)) (rowWords E 2 (by decide)) (rowWords E 3 (by decide))
    (rowWords E 4 (by decide)) (rowWords E 5 (by decide)) (rowWords E 6 (by decide)) (rowWords E 7 (by decide))

/-- The words of the last six image rows. -/
def grp1 : IVec S18x128 32 :=
  group1 (rowWords E 8 (by decide)) (rowWords E 9 (by decide)) (rowWords E 10 (by decide)) (rowWords E 11 (by decide))
    (rowWords E 12 (by decide)) (rowWords E 13 (by decide))

/-- The words an image row's scales are taken from. -/
def grp (y : Fin 14) : IVec S18x128 32 := bif y.val.ble 7 then grp0 E else grp1 E

/-! ## The padded input -/

/-- A chunk of scaled input. -/
def chunkV (y : Fin 14) (lb : Fin 4) (s m : Nat) (hs : s + m ≤ 18) (h : Chunk m) (idx : IVec ⟨2, ![m, 128]⟩ 32) :
    FVec F ⟨2, ![4 * m, 128]⟩ .bf16 :=
  scaled h (fun j => E.X ((rXc y s m lb y.isLt hs lb.isLt).emb j)) (scl h (extractStridedSlice ⟨2, ![m, 128]⟩ ![s, 0] (grp E y) (slG hs h)) idx)

/-- The first eight pixels. -/
def chunk0 (y : Fin 14) (lb : Fin 4) : FVec F ⟨2, ![4 * 8, 128]⟩ .bf16 :=
  chunkV E y lb 0 8 (by decide) ch8 (laneIdx y lb)
/-- The next eight. -/
def chunk1 (y : Fin 14) (lb : Fin 4) : FVec F ⟨2, ![4 * 8, 128]⟩ .bf16 :=
  chunkV E y lb 8 8 (by decide) ch8 (laneIdx y lb)
/-- The last two. -/
def chunk2 (y : Fin 14) (lb : Fin 4) : FVec F ⟨2, ![4 * 2, 128]⟩ .bf16 :=
  chunkV E y lb 16 2 (by decide) ch2 (extractStridedSlice ⟨2, ![2, 128]⟩ ![0, 0] (laneIdx y lb) (by decide))

/-- An element of an image row in the column shift `dx`: row `o` of its 72, four images to a pixel. -/
def prepV (y : Fin 14) (lb : Fin 4) (dx o : Nat) (l : Fin 128) : F .bf16 :=
  if o < 32 then (bif dx == 2 then masked ch8 .slt (chunk0 E y lb) else chunk0 E y lb) (ix2 (n0 := 32) ⟨o % 32, Nat.mod_lt _ (by decide)⟩ l)
  else if o < 64 then chunk1 E y lb (ix2 (n0 := 32) ⟨(o - 32) % 32, Nat.mod_lt _ (by decide)⟩ l)
  else (bif dx == 0 then masked ch2 .sge (chunk2 E y lb) else chunk2 E y lb) (ix2 (n0 := 8) ⟨(o - 64) % 8, Nat.mod_lt _ (by decide)⟩ l)

/-- The padded input: twelve planes, four for each column shift. -/
def xbT : S12x1168x128.Idx → F .bf16 := fun i =>
  if 80 ≤ (i 1).val ∧ (i 1).val < 1088 then
    prepV E ⟨((i 1).val - 80) / 72 % 14, Nat.mod_lt _ (by decide)⟩ ⟨(i 0).val % 4, Nat.mod_lt _ (by decide)⟩ ((i 0).val / 4)
      (((i 1).val - 80) % 72) (i 2)
  else Scalar.ofBits .bf16 0x0000#16

/-- Above and below the image it is zero. -/
theorem xbT_pad (x : S12x1168x128.Idx) (h : (x 1).val < 80 ∨ 1088 ≤ (x 1).val) : xbT E x = Scalar.ofBits .bf16 0x0000#16 := by
  unfold xbT
  rw [if_neg]
  omega

/-- In the image it is the scaled input. -/
theorem xbT_at (x : S12x1168x128.Idx) (y : Fin 14) (lb : Fin 4) (dx o : Nat) (h0 : (x 0).val = dx * 4 + lb)
    (h1 : (x 1).val = 80 + y * 72 + o) (ho : o < 72) : xbT E x = prepV E y lb dx o (x 2) := by
  unfold xbT
  have hy := y.isLt
  have hl := lb.isLt
  rw [if_pos (by omega)]
  congr 1
  · exact Fin.ext (by simp only; omega)
  · exact Fin.ext (by simp only; omega)
  · omega
  · omega

/-! ## The tiles and the accumulators -/

/-- Thirty-two rows of a tile of scaled weights. -/
def wRowV (dy dx : Fin 3) (k : Fin 2) (q : Nat) (hq : q + 256 ≤ 1280) (g : Fin 8) : FVec F ⟨2, ![32, 256]⟩ .bf16 :=
  mulf (extf .bf16 (shapeCast ⟨2, ![32, 256]⟩ (fun j => E.W ((rW dy dx (k * 256 + g * 32) 32 q 256 dy.isLt dx.isLt (by omega) hq).emb j)) scW
      : FVec F ⟨2, ![32, 256]⟩ .fp8e4m3) (by decide))
    (bitcastToFloat .bf16 (bitcast ⟨2, ![32, 256]⟩ 16
      (broadcastTo ⟨2, ![16, 256]⟩ (shapeCast ⟨2, ![1, 256]⟩
        (fun j => swT E ((rSw1 ((dy.val * 3 + dx.val) * 16 + k * 8 + g) q (by omega) hq).emb j)) scSw1 : IVec ⟨2, ![1, 256]⟩ 32) (by decide)) (by decide)))

/-- A tile of scaled weights. -/
def wTile (dy dx : Fin 3) (k : Fin 2) (q : Nat) (hq : q + 256 ≤ 1280) : FVec F ⟨2, ![256, 256]⟩ .bf16 :=
  concatenate ⟨2, ![256, 256]⟩ 0 [⟨⟨2, ![32, 256]⟩, wRowV E dy dx k q hq 0⟩, ⟨⟨2, ![32, 256]⟩, wRowV E dy dx k q hq 1⟩,
    ⟨⟨2, ![32, 256]⟩, wRowV E dy dx k q hq 2⟩, ⟨⟨2, ![32, 256]⟩, wRowV E dy dx k q hq 3⟩, ⟨⟨2, ![32, 256]⟩, wRowV E dy dx k q hq 4⟩,
    ⟨⟨2, ![32, 256]⟩, wRowV E dy dx k q hq 5⟩, ⟨⟨2, ![32, 256]⟩, wRowV E dy dx k q hq 6⟩, ⟨⟨2, ![32, 256]⟩, wRowV E dy dx k q hq 7⟩] catW

/-- The tile of a step. -/
def stepTile (q : Nat) (hq : q + 256 ≤ 1280) (s : Fin 18) : FVec F ⟨2, ![256, 256]⟩ .bf16 :=
  wTile E (tapY s) (tapX s) (half s) q hq

/-- The rows of a piece a step multiplies. -/
def lhsV (s : Fin 18) (P : Piece) (hP : P.Ok) : FVec F ⟨2, ![P.M, 256]⟩ .bf16 :=
  concatenate ⟨2, ![P.M, 256]⟩ 1 [
    ⟨⟨2, ![P.M, 128]⟩, (shapeCast ⟨2, ![P.M, 128]⟩ (fun j => xbT E ((rXb (tapX s * 4 + half s * 2) (4 + tapY s * 72 + tapX s * 4 + P.r) P.M
      (by omega) (by have := hP.2.2.2.1; omega)).emb j)) (scXb' P.M) : FVec F ⟨2, ![P.M, 128]⟩ .bf16)⟩,
    ⟨⟨2, ![P.M, 128]⟩, (shapeCast ⟨2, ![P.M, 128]⟩ (fun j => xbT E ((rXb (tapX s * 4 + half s * 2 + 1) (4 + tapY s * 72 + tapX s * 4 + P.r) P.M
      (by omega) (by have := hP.2.2.2.1; omega)).emb j)) (scXb' P.M) : FVec F ⟨2, ![P.M, 128]⟩ .bf16)⟩] (catM P.M)

/-- What a step adds to a piece of an accumulator. -/
def passV (q : Nat) (hq : q + 256 ≤ 1280) (P : Piece) (hP : P.Ok) (n : Nat) : FVec F (Mxu.STile P.M) .f32 :=
  (⟨.bf16, false, stepTile E q hq ⟨n % 18, Nat.mod_lt _ (by decide)⟩⟩ : Mxu.Staged F).pass
    (lhsV E ⟨n % 18, Nat.mod_lt _ (by decide)⟩ P hP)

/-- A piece of an accumulator after `n` steps. -/
def accV (q : Nat) (hq : q + 256 ≤ 1280) (P : Piece) (hP : P.Ok) : Nat → FVec F (Mxu.STile P.M) .f32
  | 0 => constant _ .f32 0
  | 1 => passV E q hq P hP 0
  | n + 2 => addf (accV q hq P hP (n + 1)) (passV E q hq P hP (n + 1))

/-- The piece a row of the flattened output lies in. -/
def pieceOf (r : Nat) : Fin 8 :=
  if r < 144 then 0 else if r < 288 then 1 else if r < 432 then 2 else if r < 512 then 3 else if r < 576 then 4
  else if r < 720 then 5 else if r < 864 then 6 else 7

theorem pieceOf_eq (p : Fin 8) (r : Nat) (h : (piece p).r ≤ r) (h' : r < (piece p).r + (piece p).M) : pieceOf r = p := by
  unfold pieceOf
  fin_cases p <;> simp only [piece] at h h' <;> split_ifs <;> first | rfl | omega

/-- A piece of the result, 256 columns from `q * 128`. -/
def outP (q : Nat) (hq : q < 9) (P : Piece) (hP : P.Ok) : FVec F ⟨2, ![P.M, 256]⟩ .bf16 :=
  biased P (accV E (q * 128) (by omega) P hP 18) (fun j => E.B ((rB (q * 128) (by omega)).emb j)) (bcM P.M)

/-- An element of the result: the row of the flattened output and the column. -/
def outE (r : Nat) (q : Nat) (hq : q < 9) (l : Fin 256) : F .bf16 :=
  outP E q hq (piece (pieceOf r)) (piece_ok _) (ix2 (n0 := (piece (pieceOf r)).M) ⟨(r - (piece (pieceOf r)).r) % (piece (pieceOf r)).M,
    Nat.mod_lt _ (piece_ok _).2.1⟩ l)

/-- The result as it is staged: planes of 128 columns. -/
def oT : S10x14x18x4x128.Idx → F .bf16 := fun i =>
  outE E ((i 1).val * 72 + (i 2).val * 4 + (i 3).val) ((i 0).val / 2 * 2) (by have : (i 0).val < 10 := (i 0).isLt; omega)
    ⟨(i 0).val % 2 * 128 + (i 4).val, by have : (i 4).val < 128 := (i 4).isLt; omega⟩

/-- The result as it is copied out. -/
def yT : S14x18x4x1280.Idx → F .bf16 := fun i =>
  oT E (fun a => match a with
    | ⟨0, _⟩ => ⟨(i 3).val / 128, by have : (i 3).val < 1280 := (i 3).isLt; show _ < 10; omega⟩
    | ⟨1, _⟩ => i 0
    | ⟨2, _⟩ => i 1
    | ⟨3, _⟩ => i 2
    | ⟨4, _⟩ => ⟨(i 3).val % 128, Nat.mod_lt _ (by decide)⟩)

end Cert.KernelIdeal.Conv
-- ==== Proof.State.lean ====
module

public import proofs.«01_k».proof.Proof.Own
public import proofs.«01_k».proof.Proof.Vals

/-! # The state of the kernel between instructions

What is held of each VMEM buffer and known of it, and the rules of the loads and stores over it. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

/-- The algebra the proof is over. -/
local notation "𝕄" => MT nD τ sig Unit (Elt F) ℕ (Pipeline.UD sig nD τ) ℕ

/-- What can be held. -/
abbrev PP (F : FTy → Type) [FloatOps F] : Type := sProp (MT nD τ sig Unit (Elt F) ℕ (Pipeline.UD sig nD τ) ℕ)

/-- Of the five inputs, the elements that have landed; of the three other buffers, the elements known; of the staged
    result, the elements held. -/
structure St where
  dX : Finset S14x18x4x512.Idx
  dXs : Finset S4x14x16x18.Idx
  dW : Finset S3x3x512x1280.Idx
  dWs : Finset S3x3x16x1280.Idx
  dB : Finset S1280.Idx
  pSw : S144x1280.Idx → Prop
  pXb : S12x1168x128.Idx → Prop
  dO : Finset S10x14x18x4x128.Idx
  pO : S10x14x18x4x128.Idx → Prop

/-- The eight buffers, the record of waits, and whatever else. -/
def Ctx (E : Ins F) (c : Dev nD) (σ : St) (A : PP F) : sProp 𝕄 :=
  iprop(Has c vX σ.dX (· ∈ σ.dX) E.X ∗ Has c vXs σ.dXs (· ∈ σ.dXs) E.Xs ∗ Has c vW σ.dW (· ∈ σ.dW) E.W
    ∗ Has c vWs σ.dWs (· ∈ σ.dWs) E.Ws ∗ Has c vB σ.dB (· ∈ σ.dB) E.B ∗ Has c vSw Finset.univ σ.pSw (swT E)
    ∗ Has c vXb Finset.univ σ.pXb (xbT E) ∗ Has c vO σ.dO σ.pO (oT E) ∗ (∃ W, owes (c : Thread nD τ) 0 W) ∗ A)

/-- A program is right from a state. -/
def Ok (E : Ins F) (c : Dev nD) (Q : PUnit → PP F) (σ : St) (A : PP F) (p : PG F) : Prop :=
  Ctx E c σ A ⊢ T (F := F) c Q p

section Pull
variable {A C H R : PP F}

theorem pullS (h : C ⊢ iprop(H ∗ R)) : iprop(A ∗ C) ⊢ iprop(H ∗ (A ∗ R)) := by
  iintro ⟨HA, HC⟩
  ihave HC := h $$ HC
  icases HC with ⟨H1, H2⟩
  isplitl [H1]
  · iexact H1
  isplitl [HA]
  · iexact HA
  · iexact H2

theorem pushS (h : iprop(H ∗ R) ⊢ C) : iprop(H ∗ (A ∗ R)) ⊢ iprop(A ∗ C) := by
  iintro ⟨H1, HA, H2⟩
  isplitl [HA]
  · iexact HA
  iapply h
  isplitl [H1]
  · iexact H1
  · iexact H2

end Pull

/-- A load, wherever the buffer stands in what is held. -/
theorem ctx_ld {c : Dev nD} {Q : PUnit → PP F} {s : Shape} {e : EltTy} {m : Memref sig .tc .vmem s e} {D : Finset s.Idx} {S : s.Idx → Prop}
    {V : s.Idx → Elt F e} {r : Rect s} {h : 0 < r.shape.numel} {K : (r.shape.Idx → Elt F e) → PG F} {C R : PP F}
    (h1 : C ⊢ iprop(Has c m D S V ∗ R)) (h2 : iprop(Has c m D S V ∗ R) ⊢ C)
    (hD : r.set ⊆ D) (hS : ∀ j, S (r.emb j)) (hR : C ⊢ T (F := F) c Q (K fun j => V (r.emb j))) :
    C ⊢ T (F := F) c Q (ld m r h K) := by
  have := has_ld (R := iprop(emp)) (R' := R) (h := h) (K := K) (c := c) (Q := Q) hD hS
    ((show iprop(emp ∗ Has c m D S V ∗ R) ⊢ C from BIClass.emp_sep.mp.trans h2).trans hR)
  exact h1.trans (BIClass.emp_sep.mpr.trans this)

/-- A store, wherever the buffer stands in what is held. -/
theorem ctx_upd {c : Dev nD} {Q : PUnit → PP F} {s : Shape} {e : EltTy} {m : Memref sig .tc .vmem s e} {D : Finset s.Idx} {S S' : s.Idx → Prop}
    {V : s.Idx → Elt F e} {r : Rect s} {w : r.shape.Idx → Elt F e} {h : 0 < r.shape.numel} {hs : (m.access r).Stores Finset.univ} {K : PG F}
    {C C' R : PP F} (h1 : C ⊢ iprop(Has c m D S V ∗ R)) (h2 : iprop(Has c m D S' V ∗ R) ⊢ C')
    (hD : r.set ⊆ D) (hw : ∀ j, w j = V (r.emb j)) (hS : ∀ x, S' x → S x ∨ x ∈ r.set) (hR : C' ⊢ T (F := F) c Q K) :
    C ⊢ T (F := F) c Q (upd m r w h hs K) := by
  have := has_upd (R := iprop(emp)) (R' := R) (h := h) (hs := hs) (K := K) (c := c) (Q := Q) hD hw hS
    ((show iprop(emp ∗ Has c m D S' V ∗ R) ⊢ C' from BIClass.emp_sep.mp.trans h2).trans hR)
  exact h1.trans (BIClass.emp_sep.mpr.trans this)

theorem emb_mem {s : Shape} (r : Rect s) (j : r.shape.Idx) : r.emb j ∈ r.set := by
  rw [LoadRect.mem_set]
  exact fun a => ⟨j a, (j a).isLt, rfl⟩

section Rules
variable {E : Ins F} {c : Dev nD} {Q : PUnit → PP F} {σ : St}
  {A : PP F}

theorem ok_ldX {r : Rect S14x18x4x512} {h : 0 < r.shape.numel} {K : (r.shape.Idx → Elt F .fp8e4m3) → PG F} (hD : r.set ⊆ σ.dX)
    (hR : Ok E c Q σ A (K fun j => E.X (r.emb j))) : Ok E c Q σ A (ld vX r h K) :=
  ctx_ld (D := σ.dX) (S := (· ∈ σ.dX)) .rfl .rfl hD (fun j => hD (emb_mem r j)) hR

theorem ok_ldXs {r : Rect S4x14x16x18} {h : 0 < r.shape.numel} {K : (r.shape.Idx → Elt F .i8) → PG F} (hD : r.set ⊆ σ.dXs)
    (hR : Ok E c Q σ A (K fun j => E.Xs (r.emb j))) : Ok E c Q σ A (ld vXs r h K) :=
  ctx_ld (D := σ.dXs) (S := (· ∈ σ.dXs)) (pullS .rfl) (pushS .rfl) hD (fun j => hD (emb_mem r j)) hR

theorem ok_ldW {r : Rect S3x3x512x1280} {h : 0 < r.shape.numel} {K : (r.shape.Idx → Elt F .fp8e4m3) → PG F} (hD : r.set ⊆ σ.dW)
    (hR : Ok E c Q σ A (K fun j => E.W (r.emb j))) : Ok E c Q σ A (ld vW r h K) :=
  ctx_ld (D := σ.dW) (S := (· ∈ σ.dW)) (pullS (pullS .rfl)) (pushS (pushS .rfl)) hD (fun j => hD (emb_mem r j)) hR

theorem ok_ldWs {r : Rect S3x3x16x1280} {h : 0 < r.shape.numel} {K : (r.shape.Idx → Elt F .i8) → PG F} (hD : r.set ⊆ σ.dWs)
    (hR : Ok E c Q σ A (K fun j => E.Ws (r.emb j))) : Ok E c Q σ A (ld vWs r h K) :=
  ctx_ld (D := σ.dWs) (S := (· ∈ σ.dWs)) (pullS (pullS (pullS .rfl))) (pushS (pushS (pushS .rfl))) hD (fun j => hD (emb_mem r j)) hR

theorem ok_ldB {r : Rect S1280} {h : 0 < r.shape.numel} {K : (r.shape.Idx → Elt F .f32) → PG F} (hD : r.set ⊆ σ.dB)
    (hR : Ok E c Q σ A (K fun j => E.B (r.emb j))) : Ok E c Q σ A (ld vB r h K) :=
  ctx_ld (D := σ.dB) (S := (· ∈ σ.dB)) (pullS (pullS (pullS (pullS .rfl)))) (pushS (pushS (pushS (pushS .rfl)))) hD
    (fun j => hD (emb_mem r j)) hR

theorem ok_ldSw {r : Rect S144x1280} {h : 0 < r.shape.numel} {K : (r.shape.Idx → Elt F .i32) → PG F} (hD : ∀ x ∈ r.set, σ.pSw x)
    (hR : Ok E c Q σ A (K fun j => swT E (r.emb j))) : Ok E c Q σ A (ld vSw r h K) :=
  ctx_ld (D := Finset.univ) (S := σ.pSw) (pullS (pullS (pullS (pullS (pullS .rfl))))) (pushS (pushS (pushS (pushS (pushS .rfl)))))
    (Finset.subset_univ _) (fun j => hD _ (emb_mem r j)) hR

theorem ok_ldXb {r : Rect S12x1168x128} {h : 0 < r.shape.numel} {K : (r.shape.Idx → Elt F .bf16) → PG F} (hD : ∀ x ∈ r.set, σ.pXb x)
    (hR : Ok E c Q σ A (K fun j => xbT E (r.emb j))) : Ok E c Q σ A (ld vXb r h K) :=
  ctx_ld (D := Finset.univ) (S := σ.pXb) (pullS (pullS (pullS (pullS (pullS (pullS .rfl)))))) (pushS (pushS (pushS (pushS (pushS (pushS .rfl))))))
    (Finset.subset_univ _) (fun j => hD _ (emb_mem r j)) hR

theorem ok_updSw {r : Rect S144x1280} {w : r.shape.Idx → Elt F .i32} {h : 0 < r.shape.numel} {hs : (vSw.access r).Stores Finset.univ} {K : PG F}
    (hw : ∀ j, w j = swT E (r.emb j)) {p : S144x1280.Idx → Prop} (hp : ∀ x, p x → σ.pSw x ∨ x ∈ r.set)
    (hR : Ok E c Q { σ with pSw := p } A K) : Ok E c Q σ A (upd vSw r w h hs K) :=
  ctx_upd (D := Finset.univ) (S := σ.pSw) (S' := p) (pullS (pullS (pullS (pullS (pullS .rfl))))) (pushS (pushS (pushS (pushS (pushS .rfl)))))
    (Finset.subset_univ _) hw hp hR

theorem ok_updXb {r : Rect S12x1168x128} {w : r.shape.Idx → Elt F .bf16} {h : 0 < r.shape.numel} {hs : (vXb.access r).Stores Finset.univ} {K : PG F}
    (hw : ∀ j, w j = xbT E (r.emb j)) {p : S12x1168x128.Idx → Prop} (hp : ∀ x, p x → σ.pXb x ∨ x ∈ r.set)
    (hR : Ok E c Q { σ with pXb := p } A K) : Ok E c Q σ A (upd vXb r w h hs K) :=
  ctx_upd (D := Finset.univ) (S := σ.pXb) (S' := p) (pullS (pullS (pullS (pullS (pullS (pullS .rfl))))))
    (pushS (pushS (pushS (pushS (pushS (pushS .rfl)))))) (Finset.subset_univ _) hw hp hR

theorem ok_updO {r : Rect S10x14x18x4x128} {w : r.shape.Idx → Elt F .bf16} {h : 0 < r.shape.numel} {hs : (vO.access r).Stores Finset.univ} {K : PG F}
    (hD : r.set ⊆ σ.dO) (hw : ∀ j, w j = oT E (r.emb j)) {p : S10x14x18x4x128.Idx → Prop} (hp : ∀ x, p x → σ.pO x ∨ x ∈ r.set)
    (hR : Ok E c Q { σ with pO := p } A K) : Ok E c Q σ A (upd vO r w h hs K) :=
  ctx_upd (D := σ.dO) (S := σ.pO) (S' := p) (pullS (pullS (pullS (pullS (pullS (pullS (pullS .rfl)))))))
    (pushS (pushS (pushS (pushS (pushS (pushS (pushS .rfl))))))) hD hw hp hR

/-! ### Loops and the matrix units -/

theorem loop'_rule {P : Nat → PG F → Prop} : ∀ {n : Nat} {b : Fin n → PG F → PG F} {K : PG F},
    (∀ (i : Fin n) K, P (i.val + 1) K → P i.val (b i K)) → P n K → P 0 (loop' n b K) := by
  suffices H : ∀ {n : Nat} (k : Nat) {b : Fin n → PG F → PG F} {K : PG F},
      (∀ (i : Fin n) K, P (k + i.val + 1) K → P (k + i.val) (b i K)) → P (k + n) K → P k (loop' n b K) by
    intro n b K hb hK
    exact H 0 (by simpa using hb) (by simpa using hK)
  intro n
  induction n with
  | zero => intro k b K _ hK; exact hK
  | succ n ih =>
    intro k b K hb hK
    refine hb 0 _ (ih (k + 1) (fun i K h => ?_) ?_)
    · have := hb i.succ K
      simp only [Fin.val_succ] at this
      rw [show k + 1 + i.val = k + (i.val + 1) by omega] at h ⊢
      exact this h
    · rw [show k + 1 + n = k + (n + 1) by omega]; exact hK

/-- A loop that carries a state, by what holds of it and what is right at each turn. -/
theorem loop_rule {σ : Type} {I : Nat → σ → Prop} {P : Nat → PG F → Prop} : ∀ {n : Nat} {b : Fin n → σ → (σ → PG F) → PG F} {s : σ} {K : σ → PG F},
    (∀ (i : Fin n) s K, I i.val s → (∀ s', I (i.val + 1) s' → P (i.val + 1) (K s')) → P i.val (b i s K)) → I 0 s →
    (∀ s', I n s' → P n (K s')) → P 0 (loop n b s K) := by
  suffices H : ∀ {n : Nat} (k : Nat) {b : Fin n → σ → (σ → PG F) → PG F} {s : σ} {K : σ → PG F},
      (∀ (i : Fin n) s K, I (k + i.val) s → (∀ s', I (k + i.val + 1) s' → P (k + i.val + 1) (K s')) → P (k + i.val) (b i s K)) → I k s →
      (∀ s', I (k + n) s' → P (k + n) (K s')) → P k (loop n b s K) by
    intro n b s K hb hI hK
    exact H 0 (by simpa using hb) hI (by simpa using hK)
  intro n
  induction n with
  | zero => intro k b s K _ hI hK; exact hK s hI
  | succ n ih =>
    intro k b s K hb hI hK
    refine hb 0 s _ hI fun s' hs' => ih (k + 1) (fun i s K hI h => ?_) hs' ?_
    · have := hb i.succ s K
      simp only [Fin.val_succ] at this
      rw [show k + 1 + i.val = k + (i.val + 1) by omega] at hI h ⊢
      exact this hI h
    · rw [show k + 1 + n = k + (n + 1) by omega]; exact hK

theorem ok_push {mx : Mxu F} {q r : Fin 2} {v : FVec F (Mxu.STile 256) .bf16} (h : mx.reg q r = none) {K : Mxu F → PG F}
    (hR : Ok E c Q σ A (K (mx.pushed q r false v))) : Ok E c Q σ A ((mx.pushRhs q r false v).bind K) :=
  BIBase.Entails.trans hR (Mxu.wp_pushRhs v (mx.pushOk_of_none q r false h))

theorem ok_loaded {mx : Mxu F} {q : Fin 2} {Ad M : Nat} {lhs : FVec F (Mxu.STile M) .bf16} {hf : Mxu.Fits Ad M} {t : Mxu.Staged F}
    (h : mx.gmr q = some t) {K : Mxu F → PG F}
    (hR : Ok E c Q σ A (K (mx.accBy q t Ad lhs hf))) : Ok E c Q σ A ((mx.accLhsLoaded q Ad lhs hf).bind K) :=
  BIBase.Entails.trans hR (Mxu.wp_accLhsLoaded lhs hf h)

end Rules

end Cert.KernelIdeal.Conv
-- ==== Proof.Copies.lean ====
module

public import proofs.«01_k».proof.Proof.State
public import Idealize.ShloMosaic.Lib.Batch
public import Idealize.ShloMosaic.Lib.MixedBatch

/-! # The copies

A group of copies on one semaphore: what starting them takes, what is owed of them, and what waiting for them gives.
Then what is held of a rectangle of a buffer, in the rectangle's own indices and in the buffer's. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

/-! ## A group of copies -/

section
variable {c : Dev nD} {Q : PUnit → PP F} {sp sp' : Space} {s : Shape} {e : EltTy}

/-- A memref held as a whole, all of its elements known. -/
abbrev Full (c : Dev nD) (m : Memref sig .tc sp s e) (V : s.Idx → Elt F e) : PP F := Has c m Finset.univ (fun _ => True) V
/-- A memref held as a whole, none of its elements known. -/
abbrev Any (c : Dev nD) (m : Memref sig .tc sp s e) (V : s.Idx → Elt F e) : PP F := Has c m Finset.univ (fun _ => False) V

/-- What a copy takes. -/
abbrev Tak (c : Dev nD) (src : Memref sig .tc sp s e) (dst : Memref sig .tc sp' s e) (V : s.Idx → Elt F e) : PP F :=
  iprop(Full c src V ∗ Any c dst V)
/-- What a copy gives. -/
abbrev Giv (c : Dev nD) (src : Memref sig .tc sp s e) (dst : Memref sig .tc sp' s e) (V : s.Idx → Elt F e) : PP F :=
  iprop(Full c src V ∗ Full c dst V)

instance {m : Memref sig .tc sp s e} {D : Finset s.Idx} {S : s.Idx → Prop} {V : s.Idx → Elt F e} :
    BI.Storable (upEmb : UEmb _ (MT nD τ sig Unit (Elt F) ℕ (Pipeline.UD sig nD τ) ℕ)) (Has c m D S V : PP F) := by
  unfold Has; infer_instance

/-- Copies under way: `j` of `n` started, `u` units waited for. -/
abbrev Fl (c : Dev nD) (sem : DmaSem sig) (N n : Nat) (D : Fin n → PP F) (j u : Nat) : PP F :=
  Transfers.Batch (Lvl := ℕ) (countersEmb (U := Pipeline.UD sig nD τ)) (c : Thread nD τ) (.dma sem) () N D j u

theorem start1 {n N j : Nat} {src : Memref sig .tc sp s e} {dst : Memref sig .tc sp' s e} {V : s.Idx → Elt F e}
    {D : Fin n → PP F} {sem : DmaSem sig} {hs : src.view.WordExact} {hd : dst.view.WordExact} {ht} {K : PG F}
    (hN : dst.view.dmaCredit = N) (hj : j < n) (hD : Giv c src dst V ⊢ D ⟨j, hj⟩) :
    iprop(Tak c src dst V ∗ Fl c sem N n D j 0 ∗ (Fl c sem N n D (j + 1) 0 -∗ T (F := F) c Q K))
      ⊢ T (F := F) c Q (.op (.enqueueDma src (.here dst) (.dma sem) hs hd ht) fun _ => K) := by
  unfold Tak Full Any Has
  iintro ⟨⟨⟨%fs, %hfs, Hs⟩, ⟨%fd, %hfd, Hd⟩⟩, HB, HK⟩
  iapply (Transfers.wp_dmaBatch (Lvl := ℕ) (countersEmb (U := Pipeline.UD sig nD τ)) Variants.none (c : Thread nD τ) none
    (src := src) (dst := dst) (fs := fs) (fd := fd) (Sd := Finset.univ.map dst.view.emb) (D := D) (j := j) (u := 0)
    (sm := .dma sem) (defs := defs₀ (F := F)) (k := fun _ => K) (Q := Q) () N hN (Finset.Subset.refl _) hj (Nat.zero_le _) ?_) $$ [Hs Hd HB] HK
  · refine BIBase.Entails.trans ?_ hD
    unfold Giv Full Has
    iintro ⟨Hd, Hs⟩
    isplitl [Hs]
    · iexists fs
      isplitr
      · ipureintro; exact hfs
      · iexact Hs
    · iexists (dst.view.write (Elt F) fd (src.view.read (Elt F) fs) Finset.univ)
      isplitr
      · ipureintro
        intro x _
        rw [View.read_write_univ]
        exact hfs x trivial
      · iexact Hd
  · isplitl [Hs]
    · iexact Hs
    isplitl [Hd]
    · iexact Hd
    · iexact HB

variable {n : Nat} {src : Fin n → Memref sig .tc sp s e} {dst : Fin n → Memref sig .tc sp' s e} {V : Fin n → s.Idx → Elt F e}
  {N : Nat} {sem : DmaSem sig} {hs : ∀ i, (src i).view.WordExact} {hd : ∀ i, (dst i).view.WordExact} {ht : ∀ i, _}

/-- Starting a group of copies. -/
theorem startAll {K : PG F} (hN : ∀ i, (dst i).view.dmaCredit = N) :
    iprop((bigSep Finset.univ fun i => Tak c (src i) (dst i) (V i)) ∗ semVal (c, .dma sem) 0
        ∗ (Fl c sem N n (fun i => Giv c (src i) (dst i) (V i)) n 0 -∗ T (F := F) c Q K))
      ⊢ T (F := F) c Q (loop' n (fun i K => .op (.enqueueDma (src i) (.here (dst i)) (.dma sem) (hs i) (hd i) (ht i)) fun _ => K) K) := by
  rw [Transfers.bigSep_pending_zero]
  iintro ⟨HT, Hv, HK⟩
  imod (Transfers.batch_alloc' (Lvl := ℕ) (countersEmb (U := Pipeline.UD sig nD τ)) (c : Thread nD τ) () N
    (fun i => Giv c (src i) (dst i) (V i)) (E := Set.univ)) $$ Hv with HB
  have key := loop'_rule (n := n) (b := fun i K => .op (.enqueueDma (src i) (.here (dst i)) (.dma sem) (hs i) (hd i) (ht i)) fun _ => K)
    (K := K) (P := fun j p => iprop((bigSep (Transfers.pending j) fun i => Tak c (src i) (dst i) (V i))
      ∗ Fl c sem N n (fun i => Giv c (src i) (dst i) (V i)) j 0
      ∗ (Fl c sem N n (fun i => Giv c (src i) (dst i) (V i)) n 0 -∗ T (F := F) c Q K)) ⊢ T (F := F) c Q p) ?_ ?_
  · iapply key
    isplitl [HT]
    · iexact HT
    isplitl [HB]
    · iexact HB
    · iexact HK
  · intro i K' h
    rw [Transfers.bigSep_pending_step _ _ i.isLt]
    iintro ⟨⟨H1, H2⟩, HB, HK⟩
    iapply (start1 (V := V i) (D := fun i => Giv c (src i) (dst i) (V i)) (hN i) i.isLt .rfl)
    isplitl [H1]
    · iexact H1
    isplitl [HB]
    · iexact HB
    iintro HB
    iapply h
    isplitl [H2]
    · iexact H2
    isplitl [HB]
    · iexact HB
    · iexact HK
  · iintro ⟨-, HB, HK⟩
    iapply HK $$ HB

/-- Waiting for a group of copies. -/
theorem waitAll {K : PG F} (hn : 0 < n) (hN : ∀ i, (dst i).view.dmaCredit = N) (hN0 : 0 < N) {D : Fin n → PP F} :
    iprop(Fl c sem N n D n 0 ∗ (∃ W, owes (c : Thread nD τ) 0 W)
        ∗ (bigSep Finset.univ D -∗ semVal (c, .dma sem) 0 -∗ (∃ W, owes (c : Thread nD τ) 0 W) -∗ T (F := F) c Q K))
      ⊢ T (F := F) c Q (loop' n (fun i K => .op (.waitDma2 sem (src i) (dst i) (hs i) (hd i)) fun _ => K) K) := by
  have key := loop'_rule (n := n) (b := fun i K => .op (.waitDma2 sem (src i) (dst i) (hs i) (hd i)) fun _ => K)
    (K := K) (P := fun j p => iprop((if j < n then Fl c sem N n D n (j * N) else iprop(bigSep Finset.univ D ∗ semVal (c, .dma sem) 0))
      ∗ (∃ W, owes (c : Thread nD τ) 0 W)
      ∗ (bigSep Finset.univ D -∗ semVal (c, .dma sem) 0 -∗ (∃ W, owes (c : Thread nD τ) 0 W) -∗ T (F := F) c Q K))
      ⊢ T (F := F) c Q p) ?_ ?_
  · rw [if_pos hn, Nat.zero_mul] at key
    exact key
  · intro i K' h
    rw [if_pos i.isLt]
    iintro ⟨HB, ⟨%W, HO⟩, HK⟩
    by_cases hl : i.val + 1 < n
    · rw [if_pos hl] at h
      have hlt : i.val * N + N < N * n := by
        have := Nat.mul_lt_mul_of_lt_of_le (a := i.val + 1) (b := N) (c := n) (d := N) hl le_rfl hN0
        rw [Nat.add_mul, Nat.one_mul] at this
        rw [Nat.mul_comm N n]; exact this
      iapply (Transfers.wp_waitBatch (Lvl := ℕ) (countersEmb (U := Pipeline.UD sig nD τ)) Variants.none (c : Thread nD τ) none () (hN i) hlt) $$ [HB HO]
      · isplitl [HB]
        · iexact HB
        · iexact HO
      iintro ⟨HB, HO⟩
      iapply h
      isplitl [HB]
      · rw [Nat.add_mul, Nat.one_mul]; iexact HB
      isplitl [HO]
      · iexists _; iexact HO
      · iexact HK
    · rw [if_neg hl] at h
      have hlt : i.val * N + N = N * n := by
        have h1 : i.val + 1 = n := by omega
        have h2 : (i.val + 1) * N = n * N := by rw [h1]
        rw [Nat.add_mul, Nat.one_mul] at h2
        rw [Nat.mul_comm N n]; exact h2
      iapply (Transfers.wp_waitBatchLast (Lvl := ℕ) (countersEmb (U := Pipeline.UD sig nD τ)) Variants.none (c : Thread nD τ) none () (hN i) hN0 hlt) $$ [HB HO]
      · isplitl [HB]
        · iexact HB
        · iexact HO
      iintro ⟨HD, Hv, HO⟩
      iapply h
      isplitl [HD Hv]
      · isplitl [HD]
        · iexact HD
        · iexact Hv
      isplitl [HO]
      · iexists _; iexact HO
      · iexact HK
  · rw [if_neg (lt_irrefl n)]
    iintro ⟨⟨HD, Hv⟩, HO, HK⟩
    iapply HK $$ HD Hv HO

end

/-! ## Parts of a buffer -/

section
variable {c : Dev nD} {sp : Space} {s : Shape} {e : EltTy} {m : Memref sig .tc sp s e}

/-- The elements of a buffer, each index being one. -/
theorem univ_map_slice (r : Rect s) (h) : (Finset.univ.map (m.slice r h).view.emb) = r.set.map m.view.emb :=
  View.set_slice _ _

/-- A rectangle of a buffer, in its own indices. -/
theorem Has.slice {r : Rect s} {h} {S : s.Idx → Prop} {V : s.Idx → Elt F e} :
    (Has c m r.set S V : PP F) ⊢ Has c (m.slice r h) Finset.univ (fun j => S (r.emb j)) fun j => V (r.emb j) := by
  unfold Has
  iintro ⟨%f, %hf, H⟩
  iexists f
  isplitr
  · ipureintro; exact fun j hj => hf _ hj
  · rw [univ_map_slice]; iexact H

/-- and back. -/
theorem Has.unslice {r : Rect s} {h} {S : s.Idx → Prop} {V : s.Idx → Elt F e} :
    (Has c (m.slice r h) Finset.univ (fun j => S (r.emb j)) fun j => V (r.emb j) : PP F) ⊢ Has c m r.set (fun x => x ∈ r.set ∧ S x) V := by
  unfold Has
  iintro ⟨%f, %hf, H⟩
  iexists f
  isplitr
  · ipureintro
    intro x hx
    obtain ⟨j, rfl⟩ := rect_mem hx.1
    exact hf j hx.2
  · rw [univ_map_slice]; iexact H

/-- Dropping dimensions of size one. -/
theorem Has.squeeze {s' : Shape} {h : s.Squeezes s'} {S : s.Idx → Prop} {V : s.Idx → Elt F e} :
    (Has c m Finset.univ S V : PP F) ⊢ Has c (m.squeeze s' h) Finset.univ (fun j => S (Shape.reshapeEquiv h.numel_eq j))
      fun j => V (Shape.reshapeEquiv h.numel_eq j) := by
  unfold Has
  iintro ⟨%f, %hf, H⟩
  iexists f
  isplitr
  · ipureintro; exact fun j hj => hf _ hj
  · rw [show Finset.univ.map (m.squeeze s' h).view.emb = Finset.univ.map m.view.emb from View.set_reshape _ _]; iexact H

/-- and back. -/
theorem Has.unsqueeze {s' : Shape} {h : s.Squeezes s'} {S : s.Idx → Prop} {V : s.Idx → Elt F e} :
    (Has c (m.squeeze s' h) Finset.univ (fun j => S (Shape.reshapeEquiv h.numel_eq j))
      fun j => V (Shape.reshapeEquiv h.numel_eq j) : PP F) ⊢ Has c m Finset.univ S V := by
  unfold Has
  iintro ⟨%f, %hf, H⟩
  iexists f
  isplitr
  · ipureintro
    intro x hx
    have := hf ((Shape.reshapeEquiv h.numel_eq).symm x)
    simp only [Equiv.apply_symm_apply] at this
    have h2 := this hx
    rw [View.read_apply] at h2 ⊢
    rw [← h2]
    congr 2
    exact congrArg m.view.emb ((Equiv.apply_symm_apply (Shape.reshapeEquiv h.numel_eq) x).symm)
  · rw [show Finset.univ.map (m.squeeze s' h).view.emb = Finset.univ.map m.view.emb from View.set_reshape _ _]; iexact H

variable {n : Nat}

/-- A buffer in parts that do not meet. -/
theorem Has.parts {D : Fin n → Finset s.Idx} (h : ∀ i j, i ≠ j → Disjoint (D i) (D j)) {S : s.Idx → Prop} {V : s.Idx → Elt F e}
    (s₀ : Finset (Fin n)) :
    (Has c m (s₀.biUnion D) S V : PP F) ⊢ bigSep s₀ fun i => Has c m (D i) S V := by
  induction s₀ using Finset.induction_on with
  | empty => rw [bigSep_empty]; iintro -; iempintro
  | insert a t ha ih =>
    rw [bigSep_insert ha, Finset.biUnion_insert]
    refine (Has.split c ?_).trans (sep_mono .rfl ih)
    exact Finset.disjoint_biUnion_right _ _ _ |>.mpr fun i hi => h _ _ fun e => ha (e ▸ hi)

/-- and together again. -/
theorem Has.unparts {D : Fin n → Finset s.Idx} (h : ∀ i j, i ≠ j → Disjoint (D i) (D j)) {V : s.Idx → Elt F e}
    (s₀ : Finset (Fin n)) (a : Fin n) (ha : a ∈ s₀) :
    (bigSep s₀ fun i => Has c m (D i) (· ∈ D i) V : PP F) ⊢ Has c m (s₀.biUnion D) (fun x => x ∈ s₀.biUnion D) V := by
  induction s₀ using Finset.induction_on generalizing a with
  | empty => simp at ha
  | insert b t hb ih =>
    rw [bigSep_insert hb, Finset.biUnion_insert]
    have hd : Disjoint (D b) (t.biUnion D) := Finset.disjoint_biUnion_right _ _ _ |>.mpr fun i hi => h _ _ fun e => hb (e ▸ hi)
    by_cases ht : t = ∅
    · subst ht
      rw [bigSep_empty, Finset.biUnion_empty, Finset.union_empty]
      exact sep_elim_left
    · obtain ⟨a', ha'⟩ := Finset.nonempty_iff_ne_empty.mpr ht
      exact (sep_mono .rfl (ih a' ha')).trans (Has.join c hd fun x hx => (Finset.mem_union.mp hx).imp (fun h => ⟨h, h⟩) fun h => ⟨h, h⟩)

end

end Cert.KernelIdeal.Conv
-- ==== Proof.Moves.lean ====
module

public import proofs.«01_k».proof.Proof.Copies

/-! # Copies of parts of buffers

A copy between the same rectangle of two buffers, of one whole buffer to another, and a group of copies between the same
rectangles: what starting takes and what waiting gives, in the buffers' own indices. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

section
variable {c : Dev nD} {Q : PUnit → PP F} {sp sp' : Space} {s : Shape} {e : EltTy}

/-- Before a copy: the elements `D` of both buffers, the source's known. -/
abbrev Pre (c : Dev nD) (m : Memref sig .tc sp s e) (m' : Memref sig .tc sp' s e) (D : Finset s.Idx) (V : s.Idx → Elt F e) : PP F :=
  iprop(Has c m D (fun _ => True) V ∗ Has c m' D (fun _ => False) V)
/-- The elements `D` of a buffer, all known. -/
abbrev Kn (c : Dev nD) (m : Memref sig .tc sp s e) (D : Finset s.Idx) (V : s.Idx → Elt F e) : PP F := Has c m D (· ∈ D) V
/-- The record of waits. -/
abbrev Ow (c : Dev nD) : PP F := iprop(∃ W, owes (c : Thread nD τ) 0 W)

theorem bigSep_one (f : Fin 1 → PP F) : bigSep Finset.univ f = f 0 := by
  rw [show (Finset.univ : Finset (Fin 1)) = {0} from rfl, bigSep_singleton]

theorem bigSep_two {n : Nat} {s : Finset (Fin n)} (f g : Fin n → PP F) :
    bigSep s (fun i => iprop(f i ∗ g i)) = iprop(bigSep s f ∗ bigSep s g) := bigSep_sep s f g

/-- What is owed of one copy. -/
abbrev F1 (c : Dev nD) (sem : DmaSem sig) (src : Memref sig .tc sp s e) (dst : Memref sig .tc sp' s e) (V : s.Idx → Elt F e) : PP F :=
  Fl c sem dst.view.dmaCredit 1 (fun _ => Giv c src dst V) 1 0

/-- Starting one copy. -/
theorem startOne {src : Memref sig .tc sp s e} {dst : Memref sig .tc sp' s e} {V : s.Idx → Elt F e} {sem : DmaSem sig}
    {hs : src.view.WordExact} {hd : dst.view.WordExact} {ht} {K : PG F} {P : PP F} (hP : P ⊢ Tak c src dst V) :
    iprop(P ∗ semVal (c, .dma sem) 0 ∗ (F1 c sem src dst V -∗ T (F := F) c Q K))
      ⊢ T (F := F) c Q (.op (.enqueueDma src (.here dst) (.dma sem) hs hd ht) fun _ => K) := by
  have h := startAll (c := c) (Q := Q) (n := 1) (src := fun _ => src) (dst := fun _ => dst) (V := fun _ => V) (sem := sem)
    (hs := fun _ => hs) (hd := fun _ => hd) (ht := fun _ => ht) (K := K) (N := dst.view.dmaCredit) (fun _ => rfl)
  rw [bigSep_one] at h
  exact (BIClass.sep_mono hP .rfl).trans h

/-- Waiting for one copy. -/
theorem waitOne {src : Memref sig .tc sp s e} {dst : Memref sig .tc sp' s e} {V : s.Idx → Elt F e} {sem : DmaSem sig}
    {hs : src.view.WordExact} {hd : dst.view.WordExact} {K : PG F} {R : PP F} (hN : 0 < s.numel) (hR : Giv c src dst V ⊢ R) :
    iprop(F1 c sem src dst V ∗ Ow c ∗ (R -∗ semVal (c, .dma sem) 0 -∗ Ow c -∗ T (F := F) c Q K))
      ⊢ T (F := F) c Q (.op (.waitDma2 sem src dst hs hd) fun _ => K) := by
  have h := waitAll (c := c) (Q := Q) (n := 1) (src := fun _ => src) (dst := fun _ => dst) (sem := sem)
    (hs := fun _ => hs) (hd := fun _ => hd) (K := K) (N := dst.view.dmaCredit) (by decide) (fun _ => rfl) (dst.view.dmaCredit_pos hN)
    (D := fun _ => Giv c src dst V)
  rw [bigSep_one] at h
  refine BIBase.Entails.trans ?_ h
  iintro ⟨H, HO, HK⟩
  isplitl [H]
  · iexact H
  isplitl [HO]
  · iexact HO
  iintro HG
  iapply HK
  iapply hR $$ HG

variable {m : Memref sig .tc sp s e} {m' : Memref sig .tc sp' s e} {V : s.Idx → Elt F e}

theorem tak_slice {r : Rect s} {h h'} : Pre c m m' r.set V ⊢ Tak c (m.slice r h) (m'.slice r h') fun j => V (r.emb j) :=
  BIClass.sep_mono Has.slice Has.slice
theorem giv_slice {r : Rect s} {h h'} : Giv c (m.slice r h) (m'.slice r h') (fun j => V (r.emb j)) ⊢ iprop(Kn c m r.set V ∗ Kn c m' r.set V) :=
  BIClass.sep_mono ((Has.unslice (S := fun _ => True)).trans (Has.weaken c fun x hx => ⟨hx, trivial⟩))
    ((Has.unslice (S := fun _ => True)).trans (Has.weaken c fun x hx => ⟨hx, trivial⟩))

/-- A whole buffer. -/
theorem giv_whole : Giv c m m' V ⊢ iprop(Kn c m Finset.univ V ∗ Kn c m' Finset.univ V) :=
  BIClass.sep_mono (Has.weaken c fun x hx => trivial) (Has.weaken c fun x hx => trivial)

variable {n : Nat} {r : Fin n → Rect s} {h : ∀ i, _} {h' : ∀ i, _} {t : Shape} {hq : ∀ i, (r i).shape.Squeezes t}

/-- The elements of a group of rectangles. -/
abbrev cover (r : Fin n → Rect s) : Finset s.Idx := Finset.univ.biUnion fun i => (r i).set

theorem tak_group (hd : ∀ i j, i ≠ j → Disjoint (r i).set (r j).set) :
    Pre c m m' (cover r) V ⊢ bigSep Finset.univ fun i => Tak c ((m.slice (r i) (h i)).squeeze t (hq i)) ((m'.slice (r i) (h' i)).squeeze t (hq i))
      fun j => V ((r i).emb (Shape.reshapeEquiv (hq i).numel_eq j)) := by
  refine (BIClass.sep_mono (Has.parts hd _) (Has.parts hd _)).trans ?_
  rw [← bigSep_two]
  exact bigSep_mono fun i _ => BIClass.sep_mono (Has.slice.trans Has.squeeze) (Has.slice.trans Has.squeeze)

theorem giv_group (hd : ∀ i j, i ≠ j → Disjoint (r i).set (r j).set) (hn : 0 < n) :
    (bigSep Finset.univ fun i => Giv c ((m.slice (r i) (h i)).squeeze t (hq i)) ((m'.slice (r i) (h' i)).squeeze t (hq i))
      fun j => V ((r i).emb (Shape.reshapeEquiv (hq i).numel_eq j))) ⊢ iprop(Kn c m (cover r) V ∗ Kn c m' (cover r) V) := by
  refine BIBase.Entails.trans (bigSep_mono (Ψ := fun i => iprop(Kn c m (r i).set V ∗ Kn c m' (r i).set V)) fun i _ => BIClass.sep_mono
    ((Has.unsqueeze (S := fun _ => True)).trans ((Has.unslice (S := fun _ => True)).trans (Has.weaken c fun x hx => ⟨hx, trivial⟩)))
    ((Has.unsqueeze (S := fun _ => True)).trans ((Has.unslice (S := fun _ => True)).trans (Has.weaken c fun x hx => ⟨hx, trivial⟩)))) ?_
  rw [bigSep_two]
  exact BIClass.sep_mono (Has.unparts hd _ ⟨0, hn⟩ (Finset.mem_univ _)) (Has.unparts hd _ ⟨0, hn⟩ (Finset.mem_univ _))

end

end Cert.KernelIdeal.Conv
-- ==== Proof.Parts.lean ====
module

public import proofs.«01_k».proof.Proof.Moves

/-! # The parts the kernel copies

The halves of the input and the groups of the weights' taps: which elements they are, that they do not meet, and that together
they are everything. -/

@[expose] public section

noncomputable section

namespace Cert.KernelIdeal.Conv

open Idealize.ShloMosaic Idealize.ShloMosaic.TcCoe Idealize.ShloMosaic.Tactic

/-! ## The input -/

theorem mem_rX {k hc} {x : S14x18x4x512.Idx} : x ∈ (rX k hc).set ↔ k ≤ (x 3).val ∧ (x 3).val < k + 256 := by
  have h0 : (x 0).val < 14 := (x 0).isLt
  have h1 : (x 1).val < 18 := (x 1).isLt
  have h2 : (x 2).val < 4 := (x 2).isLt
  rw [Rect.mem_set_unit]
  constructor
  · intro h
    exact h 3
  · intro h a
    fin_cases a
    · exact ⟨Nat.zero_le _, by show (x 0).val < 0 + 14; omega⟩
    · exact ⟨Nat.zero_le _, by show (x 1).val < 0 + 18; omega⟩
    · exact ⟨Nat.zero_le _, by show (x 2).val < 0 + 4; omega⟩
    · exact h

/-- A half of the input. -/
abbrev GX (k : Fin 2) : Finset S14x18x4x512.Idx := (rX (k * 256) (by omega)).set

theorem mem_GX {k : Fin 2} {x : S14x18x4x512.Idx} : x ∈ GX k ↔ (x 3).val / 256 = k := by
  rw [mem_rX]; omega

theorem GX_disj : Disjoint (GX 0) (GX 1) := by
  rw [Finset.disjoint_left]
  intro x h h'
  rw [mem_GX] at h h'
  omega

theorem GX_univ : GX 0 ∪ GX 1 = Finset.univ := by
  ext x
  have h3 : (x 3).val < 512 := (x 3).isLt
  rw [Finset.mem_union, mem_GX, mem_GX]
  show (x 3).val / 256 = 0 ∨ (x 3).val / 256 = 1 ↔ _
  simp only [Finset.mem_univ, iff_true]
  omega

/-! ## The weights -/

theorem mem_rW {dy dx r m q c hy hx hr hc} {x : S3x3x512x1280.Idx} :
    x ∈ (rW dy dx r m q c hy hx hr hc).set ↔
      (x 0).val = dy ∧ (x 1).val = dx ∧ (r ≤ (x 2).val ∧ (x 2).val < r + m) ∧ q ≤ (x 3).val ∧ (x 3).val < q + c := by
  rw [Rect.mem_set_unit]
  constructor
  · intro h
    have h0 : dy ≤ (x 0).val ∧ (x 0).val < dy + 1 := h 0
    have h1 : dx ≤ (x 1).val ∧ (x 1).val < dx + 1 := h 1
    exact ⟨by omega, by omega, h 2, h 3⟩
  · rintro ⟨h0, h1, h2, h3⟩ a
    fin_cases a
    · exact ⟨by show dy ≤ (x 0).val; omega, by show (x 0).val < dy + 1; omega⟩
    · exact ⟨by show dx ≤ (x 1).val; omega, by show (x 1).val < dx + 1; omega⟩
    · exact h2
    · exact h3

/-- The weights of a tap. -/
def Tap (t : Fin 9) (x : S3x3x512x1280.Idx) : Prop := (x 0).val = (off3 (t.val % 3)).val ∧ (x 1).val = (off3 (t.val / 3)).val

theorem off3_inj : ∀ t t' : Fin 9, off3 (t.val % 3) = off3 (t'.val % 3) → off3 (t.val / 3) = off3 (t'.val / 3) → t = t' := by decide
theorem off3_surj : ∀ dy dx : Fin 3, ∃ t : Fin 9, off3 (t.val % 3) = dy ∧ off3 (t.val / 3) = dx := by decide

theorem Tap.inj {t t' : Fin 9} {x} (h : Tap t x) (h' : Tap t' x) : t = t' :=
  off3_inj t t' (Fin.ext (h.1.symm.trans h'.1)) (Fin.ext (h.2.symm.trans h'.2))
theorem Tap.ex (x : S3x3x512x1280.Idx) : ∃ t, Tap t x := by
  obtain ⟨t, h, h'⟩ := off3_surj ⟨(x 0).val, (x 0).isLt⟩ ⟨(x 1).val, (x 1).isLt⟩
  exact ⟨t, (congrArg Fin.val h).symm, (congrArg Fin.val h').symm⟩

/-- The rectangle of a tap, all rows. -/
abbrev rT (t : Fin 9) (q c : Nat) (hc : q + c ≤ 1280) : Rect S3x3x512x1280 :=
  rW (off3 (t.val % 3)).val (off3 (t.val / 3)).val 0 512 q c (off3 (t.val % 3)).isLt (off3 (t.val / 3)).isLt (by decide) hc

theorem mem_rT {t q c hc} {x : S3x3x512x1280.Idx} : x ∈ (rT t q c hc).set ↔ Tap t x ∧ q ≤ (x 3).val ∧ (x 3).val < q + c := by
  have h2 : (x 2).val < 512 := (x 2).isLt
  rw [mem_rW, Tap]
  constructor
  · rintro ⟨h0, h1, -, h3⟩
    exact ⟨⟨h0, h1⟩, h3⟩
  · rintro ⟨⟨h0, h1⟩, h3⟩
    exact ⟨h0, h1, ⟨Nat.zero_le _, by omega⟩, h3⟩

/-- A half of the first tap, the first 512 columns. -/
abbrev GF (k : Fin 2) : Finset S3x3x512x1280.Idx :=
  (rW (1 : Fin 3).val (1 : Fin 3).val (k * 256) 256 0 512 (1 : Fin 3).isLt (1 : Fin 3).isLt (by omega) (by decide)).set
/-- The taps from `o` on, the first 512 columns. -/
abbrev rTap (n o : Nat) (h : n + o ≤ 9) (i : Fin n) : Rect S3x3x512x1280 := rT ⟨i.val + o, by omega⟩ 0 512 (by decide)
/-- All taps, the last 768 columns. -/
abbrev rRest (i : Fin 9) : Rect S3x3x512x1280 := rT i 512 768 (by decide)

theorem mem_GF {k : Fin 2} {x : S3x3x512x1280.Idx} : x ∈ GF k ↔ Tap 0 x ∧ (x 2).val / 256 = k ∧ (x 3).val < 512 := by
  rw [mem_rW, Tap]
  show (x 0).val = 1 ∧ (x 1).val = 1 ∧ _ ↔ ((x 0).val = 1 ∧ (x 1).val = 1) ∧ _
  constructor
  · rintro ⟨h0, h1, h2, h3⟩
    exact ⟨⟨h0, h1⟩, by omega, by omega⟩
  · rintro ⟨⟨h0, h1⟩, h2, h3⟩
    exact ⟨h0, h1, by omega, by omega⟩

theorem mem_taps {n o h} {x : S3x3x512x1280.Idx} :
    x ∈ cover (rTap n o h) ↔ ∃ t, Tap t x ∧ o ≤ t.val ∧ t.val < o + n ∧ (x 3).val < 512 := by
  simp only [Finset.mem_biUnion, Finset.mem_univ, true_and, mem_rT]
  constructor
  · rintro ⟨i, ht, h3⟩
    exact ⟨_, ht, Nat.le_add_left _ _, by show i.val + o < _; omega, by omega⟩
  · rintro ⟨t, ht, h1, h2, h3⟩
    refine ⟨⟨t.val - o, by omega⟩, ?_, by omega⟩
    rw [show (⟨(⟨t.val - o, by omega⟩ : Fin n).val + o, by show t.val - o + o < 9; omega⟩ : Fin 9) = t from Fin.ext (by show t.val - o + o = _; omega)]
    exact ht

theorem mem_rest {x : S3x3x512x1280.Idx} : x ∈ cover rRest ↔ 512 ≤ (x 3).val := by
  have h3 : (x 3).val < 1280 := (x 3).isLt
  simp only [Finset.mem_biUnion, Finset.mem_univ, true_and, mem_rT]
  constructor
  · rintro ⟨i, ht, h3⟩
    exact h3.1
  · intro h
    obtain ⟨t, ht⟩ := Tap.ex x
    exact ⟨t, ht, h, by omega⟩

theorem taps_disj {n o h} (i j : Fin n) (hij : i ≠ j) : Disjoint (rTap n o h i).set (rTap n o h j).set := by
  rw [Finset.disjoint_left]
  intro x h1 h2
  rw [mem_rT] at h1 h2
  have := congrArg Fin.val (h1.1.inj h2.1)
  exact hij (Fin.ext (by change i.val + o = j.val + o at this; omega))

theorem rest_disj (i j : Fin 9) (hij : i ≠ j) : Disjoint (rRest i).set (rRest j).set := by
  rw [Finset.disjoint_left]
  intro x h1 h2
  rw [mem_rT] at h1 h2
  exact hij (h1.1.inj h2.1)

/-- The next two taps. -/
abbrev GN : Finset S3x3x512x1280.Idx := cover (rTap 2 1 (by decide))
/-- The last six taps. -/
abbrev GL : Finset S3x3x512x1280.Idx := cover (rTap 6 3 (by decide))
/-- The last columns. -/
abbrev GR : Finset S3x3x512x1280.Idx := cover rRest

/-- The tap of an element. -/
theorem mem_GF' {k : Fin 2} {x t} (ht : Tap t x) : x ∈ GF k ↔ t.val = 0 ∧ (x 2).val / 256 = k ∧ (x 3).val < 512 := by
  rw [mem_GF]
  exact ⟨fun h => ⟨congrArg Fin.val (ht.inj h.1), h.2⟩, fun h => ⟨(show t = 0 from Fin.ext h.1) ▸ ht, h.2⟩⟩
theorem mem_taps' {n o h} {x t} (ht : Tap t x) : x ∈ cover (rTap n o h) ↔ o ≤ t.val ∧ t.val < o + n ∧ (x 3).val < 512 := by
  rw [mem_taps]
  constructor
  · rintro ⟨t', h1, h2⟩
    rw [ht.inj h1]; exact h2
  · intro h
    exact ⟨t, ht, h⟩

/-- The weights landed, after each wait. -/
abbrev LW1 : Finset S3x3x512x1280.Idx := GF 0
abbrev LW2 : Finset S3x3x512x1280.Idx := LW1 ∪ GF 1
abbrev LW3 : Finset S3x3x512x1280.Idx := LW2 ∪ GN
abbrev LW4 : Finset S3x3x512x1280.Idx := LW3 ∪ GL
abbrev LW5 : Finset S3x3x512x1280.Idx := LW4 ∪ GR

theorem mem_LW2 {x t} (ht : Tap t x) : x ∈ LW2 ↔ t.val = 0 ∧ (x 3).val < 512 := by
  have h2 : (x 2).val < 512 := (x 2).isLt
  rw [Finset.mem_union, mem_GF' ht, mem_GF' ht]
  show _ ∧ _ = 0 ∧ _ ∨ _ ∧ _ = 1 ∧ _ ↔ _
  omega
theorem mem_LW3 {x t} (ht : Tap t x) : x ∈ LW3 ↔ t.val < 3 ∧ (x 3).val < 512 := by
  rw [Finset.mem_union, mem_LW2 ht, mem_taps' ht]
  omega
theorem mem_LW4 {x : S3x3x512x1280.Idx} : x ∈ LW4 ↔ (x 3).val < 512 := by
  obtain ⟨t, ht⟩ := Tap.ex x
  have := t.isLt
  rw [Finset.mem_union, mem_LW3 ht, mem_taps' ht]
  omega

theorem LW2_disj : Disjoint LW1 (GF 1) := by
  rw [Finset.disjoint_left]
  intro x h h'
  obtain ⟨t, ht⟩ := Tap.ex x
  rw [mem_GF' ht] at h h'
  have h1 : _ = 0 := h.2.1
  have h2 : _ = 1 := h'.2.1
  omega
theorem LW3_disj : Disjoint LW2 GN := by
  rw [Finset.disjoint_left]
  intro x h h'
  obtain ⟨t, ht⟩ := Tap.ex x
  rw [mem_LW2 ht] at h
  rw [mem_taps' ht] at h'
  omega
theorem LW4_disj : Disjoint LW3 GL := by
  rw [Finset.disjoint_left]
  intro x h h'
  obtain ⟨t, ht⟩ := Tap.ex x
  rw [mem_LW3 ht] at h
  rw [mem_taps' ht] at h'
  omega
theorem LW5_disj : Disjoint LW4 GR := by
  rw [Finset.disjoint_left]
  intro x h h'
  rw [mem_LW4] at h
  rw [mem_rest] at h'
  omega
theorem LW5_univ : LW5 = Finset.univ := by
  ext x
  rw [Finset.mem_union, mem_LW4, mem_rest]
  simp only [Finset.mem_univ, iff_true]
  omega

/-! ## The result -/

theorem mem_rOp {k hk} {x : S10x14x18x4x128.Idx} : x ∈ (rOp k hk).set ↔ (x 0).val = k := by
  have h1 : (x 1).val < 14 := (x 1).isLt
  have h2 : (x 2).val < 18 := (x 2).isLt
  have h3 : (x 3).val < 4 := (x 3).isLt
  have h4 : (x 4).val < 128 := (x 4).isLt
  rw [Rect.mem_set_unit]
  constructor
  · intro h
    have h0 : k ≤ (x 0).val ∧ (x 0).val < k + 1 := h 0
    omega
  · intro h a
    fin_cases a
    · exact ⟨by show k ≤ (x 0).val; omega, by show (x 0).val < k + 1; omega⟩
    · exact ⟨Nat.zero_le _, by show (x 1).val < 0 + 14; omega⟩
    · exact ⟨Nat.zero_le _, by show (x 2).val < 0 + 18; omega⟩
    · exact ⟨Nat.zero_le _, by show (x 3).val < 0 + 4; omega⟩
    · exact ⟨Nat.zero_le _, by show (x 4).val < 0 + 128; omega⟩

theorem mem_rY {k hk} {x : S14x18x4x1280.Idx} : x ∈ (rY k hk).set ↔ (x 3).val / 128 = k := by
  have h0 : (x 0).val < 14 := (x 0).isLt
  have h1 : (x 1).val < 18 := (x 1).isLt
  have h2 : (x 2).val < 4 := (x 2).isLt
  rw [Rect.mem_set_unit]
  constructor
  · intro h
    have h3 : k * 128 ≤ (x 3).val ∧ (x 3).val < k * 128 + 128 := h 3
    omega
  · intro h a
    fin_cases a
    · exact ⟨Nat.zero_le _, by show (x 0).val < 0 + 14; omega⟩
    · exact ⟨Nat.zero_le _, by show (x 1).val < 0 + 18; omega⟩
    · exact ⟨Nat.zero_le _, by show (x 2).val < 0 + 4; omega⟩
    · exact ⟨by show k * 128 ≤ (x 3).val; omega, by show (x 3).val < k * 128 + 128; omega⟩

end Cert.KernelIdeal.Conv
-- ==== Proof.InOut.lean ====
module

public import proofs.«01_k».proof.Proof.Parts

/-! # The kernel's copies in and out

The flights of the copies in, what starting and waiting for each does to the state; and the blocks of the result copied out. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts] (E : Ins F) (c : Dev nD)

/-! ## The copies in under way -/

/-- A half of the input, as copied. -/
abbrev pX {sp : Space} (m : Memref sig .tc sp S14x18x4x512 .fp8e4m3) (k : Fin 2) :=
  m.slice (rX (k * 256) (by omega)) (fun _ => rfl)
/-- A rectangle of the weights, as copied. -/
abbrev pW {sp : Space} (m : Memref sig .tc sp S3x3x512x1280 .fp8e4m3) (dy dx : Fin 3) (r n q c : Nat) (hr : r + n ≤ 512) (hc : q + c ≤ 1280) :=
  (m.slice (rW dy dx r n q c dy.isLt dx.isLt hr hc) (fun _ => rfl)).squeeze ⟨2, ![n, c]⟩ (sqW n c)
/-- What it holds. -/
abbrev vWp (dy dx : Fin 3) (r n q c : Nat) (hr : r + n ≤ 512) (hc : q + c ≤ 1280) : (⟨2, ![n, c]⟩ : Shape).Idx → Elt F .fp8e4m3 :=
  fun j => E.W ((rW dy dx r n q c dy.isLt dx.isLt hr hc).emb (Shape.reshapeEquiv (sqW n c).numel_eq j))

abbrev FXs : PP F := F1 c (inSem 2 (by decide)) hXs vXs E.Xs
abbrev FWs : PP F := F1 c (inSem 3 (by decide)) hWs vWs E.Ws
abbrev FB : PP F := F1 c (inSem 4 (by decide)) hB vB E.B
abbrev FX (k : Fin 2) : PP F := F1 c (inSem k (by omega)) (pX hX k) (pX vX k) fun j => E.X ((rX (k * 256) (by omega)).emb j)
abbrev FF (k : Fin 2) : PP F :=
  F1 c (wSem k (by omega)) (pW hW 1 1 (k * 256) 256 0 512 (by omega) (by decide)) (pW vW 1 1 (k * 256) 256 0 512 (by omega) (by decide))
    (vWp E 1 1 (k * 256) 256 0 512 (by omega) (by decide))
/-- A group of taps' copies. -/
abbrev FT (n sem q w : Nat) (t : Fin n → Fin 9) (hc : q + w ≤ 1280) (hs : sem + 1 ≤ 5) : PP F :=
  Fl c (wSem sem hs) (pW vW 0 0 0 512 q w (by decide) hc).view.dmaCredit n
    (fun i => Giv c (pW hW (off3 ((t i).val % 3)) (off3 ((t i).val / 3)) 0 512 q w (by decide) hc)
      (pW vW (off3 ((t i).val % 3)) (off3 ((t i).val / 3)) 0 512 q w (by decide) hc)
      (vWp E (off3 ((t i).val % 3)) (off3 ((t i).val / 3)) 0 512 q w (by decide) hc)) n 0
abbrev FN : PP F := FT E c 2 2 0 512 (fun i => ⟨i.val + 1, by omega⟩) (by decide) (by decide)
abbrev FL : PP F := FT E c 6 3 0 512 (fun i => ⟨i.val + 3, by omega⟩) (by decide) (by decide)
abbrev FR : PP F := FT E c 9 4 512 768 (fun i => i) (by decide) (by decide)

abbrev smI (i : Nat) (hi : i + 1 ≤ 5) : PP F := semVal (c, .dma (inSem i hi)) 0
abbrev smW (i : Nat) (hi : i + 1 ≤ 5) : PP F := semVal (c, .dma (wSem i hi)) 0
abbrev smO (i : Nat) (hi : i + 1 ≤ 10) : PP F := semVal (c, .dma (oSem i hi)) 0

variable {E c} {Q : PUnit → PP F} {σ : St} {K : PG F}

/-! ## Starting them -/

theorem start_Xs : iprop(Pre c hXs vXs Finset.univ E.Xs ∗ smI c 2 (by decide) ∗ (FXs E c -∗ T (F := F) c Q K)) ⊢ T (F := F) c Q (cpXs startIn K) :=
  startOne .rfl
theorem start_Ws : iprop(Pre c hWs vWs Finset.univ E.Ws ∗ smI c 3 (by decide) ∗ (FWs E c -∗ T (F := F) c Q K)) ⊢ T (F := F) c Q (cpWs startIn K) :=
  startOne .rfl
theorem start_B : iprop(Pre c hB vB Finset.univ E.B ∗ smI c 4 (by decide) ∗ (FB E c -∗ T (F := F) c Q K)) ⊢ T (F := F) c Q (cpB startIn K) :=
  startOne .rfl
theorem start_X (k : Fin 2) : iprop(Pre c hX vX (GX k) E.X ∗ smI c k (by omega) ∗ (FX E c k -∗ T (F := F) c Q K)) ⊢ T (F := F) c Q (cpX startIn k K) :=
  startOne tak_slice
theorem start_F (k : Fin 2) : iprop(Pre c hW vW (GF k) E.W ∗ smW c k (by omega) ∗ (FF E c k -∗ T (F := F) c Q K)) ⊢ T (F := F) c Q (cpFirst startIn k K) :=
  startOne (BIClass.sep_mono (Has.slice.trans Has.squeeze) (Has.slice.trans Has.squeeze))
theorem start_N : iprop(Pre c hW vW GN E.W ∗ smW c 2 (by decide) ∗ (FN E c -∗ T (F := F) c Q K)) ⊢ T (F := F) c Q (cpNear startIn K) :=
  (BIClass.sep_mono (tak_group taps_disj) .rfl).trans (startAll fun _ => rfl)
theorem start_L : iprop(Pre c hW vW GL E.W ∗ smW c 3 (by decide) ∗ (FL E c -∗ T (F := F) c Q K)) ⊢ T (F := F) c Q (cpFar startIn K) :=
  (BIClass.sep_mono (tak_group taps_disj) .rfl).trans (startAll fun _ => rfl)
theorem start_R : iprop(Pre c hW vW GR E.W ∗ smW c 4 (by decide) ∗ (FR E c -∗ T (F := F) c Q K)) ⊢ T (F := F) c Q (cpRest startIn K) :=
  (BIClass.sep_mono (tak_group rest_disj) .rfl).trans (startAll fun _ => rfl)

/-! ## Waiting for them -/

theorem wait_Xs : iprop(FXs E c ∗ Ow c ∗ (iprop(Kn c hXs Finset.univ E.Xs ∗ Kn c vXs Finset.univ E.Xs) -∗ smI c 2 (by decide) -∗ Ow c -∗ T (F := F) c Q K))
    ⊢ T (F := F) c Q (cpXs waitIn K) :=
  waitOne (by decide) giv_whole
theorem wait_Ws : iprop(FWs E c ∗ Ow c ∗ (iprop(Kn c hWs Finset.univ E.Ws ∗ Kn c vWs Finset.univ E.Ws) -∗ smI c 3 (by decide) -∗ Ow c -∗ T (F := F) c Q K))
    ⊢ T (F := F) c Q (cpWs waitIn K) :=
  waitOne (by decide) giv_whole
theorem wait_B : iprop(FB E c ∗ Ow c ∗ (iprop(Kn c hB Finset.univ E.B ∗ Kn c vB Finset.univ E.B) -∗ smI c 4 (by decide) -∗ Ow c -∗ T (F := F) c Q K))
    ⊢ T (F := F) c Q (cpB waitIn K) :=
  waitOne (by decide) giv_whole
theorem pos_pX : 0 < (⟨4, ![14, 18, 4, 256]⟩ : Shape).numel := by decide
theorem pos_pW {n w : Nat} (hn : 0 < n) (hw : 0 < w) : 0 < (⟨2, ![n, w]⟩ : Shape).numel := pos2 hn hw
theorem wait_X (k : Fin 2) : iprop(FX E c k ∗ Ow c ∗ (iprop(Kn c hX (GX k) E.X ∗ Kn c vX (GX k) E.X) -∗ smI c k (by omega) -∗ Ow c -∗ T (F := F) c Q K))
    ⊢ T (F := F) c Q (cpX waitIn k K) :=
  waitOne pos_pX giv_slice
theorem giv_sq {sp sp' : Space} {s t : Shape} {e : EltTy} {m : Memref sig .tc sp s e} {m' : Memref sig .tc sp' s e} {V : s.Idx → Elt F e}
    {r : Rect s} {h h'} {hq : r.shape.Squeezes t} :
    Giv c ((m.slice r h).squeeze t hq) ((m'.slice r h').squeeze t hq) (fun j => V (r.emb (Shape.reshapeEquiv hq.numel_eq j)))
      ⊢ iprop(Kn c m r.set V ∗ Kn c m' r.set V) :=
  BIClass.sep_mono
    ((Has.unsqueeze (S := fun _ => True)).trans ((Has.unslice (S := fun _ => True)).trans (Has.weaken c fun x hx => ⟨hx, trivial⟩)))
    ((Has.unsqueeze (S := fun _ => True)).trans ((Has.unslice (S := fun _ => True)).trans (Has.weaken c fun x hx => ⟨hx, trivial⟩)))
theorem wait_F (k : Fin 2) : iprop(FF E c k ∗ Ow c ∗ (iprop(Kn c hW (GF k) E.W ∗ Kn c vW (GF k) E.W) -∗ smW c k (by omega) -∗ Ow c -∗ T (F := F) c Q K))
    ⊢ T (F := F) c Q (cpFirst waitIn k K) :=
  waitOne (pos_pW (by decide) (by decide)) giv_sq

theorem wait_group {n : Nat} {sp sp' : Space} {s t : Shape} {e : EltTy} {m : Memref sig .tc sp s e} {m' : Memref sig .tc sp' s e} {V : s.Idx → Elt F e}
    {r : Fin n → Rect s} {h : ∀ i, _} {h' : ∀ i, _} {hq : ∀ i, (r i).shape.Squeezes t} {N : Nat} {sem : DmaSem sig} {hs : ∀ i, _} {hd' : ∀ i, _}
    (hd : ∀ i j, i ≠ j → Disjoint (r i).set (r j).set) (hn : 0 < n)
    (hN : ∀ i, ((m'.slice (r i) (h' i)).squeeze t (hq i)).view.dmaCredit = N) (ht : 0 < t.numel) :
    iprop(Fl c sem N n (fun i => Giv c ((m.slice (r i) (h i)).squeeze t (hq i)) ((m'.slice (r i) (h' i)).squeeze t (hq i))
          fun j => V ((r i).emb (Shape.reshapeEquiv (hq i).numel_eq j))) n 0 ∗ Ow c
        ∗ (iprop(Kn c m (cover r) V ∗ Kn c m' (cover r) V) -∗ semVal (c, .dma sem) 0 -∗ Ow c -∗ T (F := F) c Q K))
      ⊢ T (F := F) c Q (loop' n (fun i K => .op (.waitDma2 sem ((m.slice (r i) (h i)).squeeze t (hq i)) ((m'.slice (r i) (h' i)).squeeze t (hq i))
          (hs i) (hd' i)) fun _ => K) K) := by
  refine BIBase.Entails.trans ?_ (waitAll (c := c) (Q := Q) hn hN (by rw [← hN ⟨0, hn⟩]; exact View.dmaCredit_pos _ ht)
    (D := fun i => Giv c ((m.slice (r i) (h i)).squeeze t (hq i)) ((m'.slice (r i) (h' i)).squeeze t (hq i))
          fun j => V ((r i).emb (Shape.reshapeEquiv (hq i).numel_eq j))))
  iintro ⟨H, HO, HK⟩
  isplitl [H]
  · iexact H
  isplitl [HO]
  · iexact HO
  iintro HG
  iapply HK
  iapply (giv_group hd hn) $$ HG

theorem wait_N : iprop(FN E c ∗ Ow c ∗ (iprop(Kn c hW GN E.W ∗ Kn c vW GN E.W) -∗ smW c 2 (by decide) -∗ Ow c -∗ T (F := F) c Q K))
    ⊢ T (F := F) c Q (cpNear waitIn K) :=
  wait_group (taps_disj (h := by decide)) (by decide) (fun _ => rfl) (pos_pW (by decide) (by decide))
theorem wait_L : iprop(FL E c ∗ Ow c ∗ (iprop(Kn c hW GL E.W ∗ Kn c vW GL E.W) -∗ smW c 3 (by decide) -∗ Ow c -∗ T (F := F) c Q K))
    ⊢ T (F := F) c Q (cpFar waitIn K) :=
  wait_group (taps_disj (h := by decide)) (by decide) (fun _ => rfl) (pos_pW (by decide) (by decide))
theorem wait_R : iprop(FR E c ∗ Ow c ∗ (iprop(Kn c hW GR E.W ∗ Kn c vW GR E.W) -∗ smW c 4 (by decide) -∗ Ow c -∗ T (F := F) c Q K))
    ⊢ T (F := F) c Q (cpRest waitIn K) :=
  wait_group rest_disj (by decide) (fun _ => rfl) (pos_pW (by decide) (by decide))

/-! ## One cell of a row of cells changes -/

theorem sweep {n : Nat} {f g : Fin n → PP F} (j : Fin n) :
    (bigSep Finset.univ fun i => if i.val < j.val then f i else g i) ⊢
      iprop(g j ∗ (f j -∗ bigSep Finset.univ fun i => if i.val < j.val + 1 then f i else g i)) := by
  rw [bigSep_erase (Finset.mem_univ j), bigSep_erase (Finset.mem_univ j) (Φ := fun i => if i.val < j.val + 1 then f i else g i),
    if_neg (lt_irrefl _), if_pos (Nat.lt_succ_self _),
    bigSep_congr (s := Finset.univ.erase j) (Ψ := fun i => if i.val < j.val + 1 then f i else g i) (fun i hi => by
      have : i ≠ j := (Finset.mem_erase.mp hi).1
      have : i.val ≠ j.val := fun h => this (Fin.ext h)
      by_cases h : i.val < j.val
      · rw [if_pos h, if_pos (by omega)]
      · rw [if_neg h, if_neg (by omega)])]
  exact BIClass.sep_mono .rfl (BIClass.wand_intro BI.sep_comm)

/-! ## The copies out -/

variable (E c) in
/-- A block of the result before its copy is started. -/
abbrev PreO (k : Fin 10) : PP F := iprop(Has c hY (rY k k.isLt).set (fun _ => False) (yT E) ∗ smO c k (by omega))
variable (E c) in
/-- Its copy under way. -/
abbrev FO (k : Fin 10) : PP F :=
  F1 c (oSem k (by omega)) ((vO.slice (rOp k k.isLt) (fun _ => rfl)).squeeze S14x18x4x128 sqO) (hY.slice (rY k k.isLt) (fun _ => rfl)) fun j => yT E ((rY k k.isLt).emb j)
variable (E c) in
/-- and when it is done. -/
abbrev DnO (k : Fin 10) : PP F :=
  iprop((Kn c vO (rOp k k.isLt).set (oT E) ∗ Kn c hY (rY k k.isLt).set (yT E)) ∗ smO c k (by omega))
variable (E c) in
/-- Some started. -/
abbrev SO (j : Nat) : PP F := bigSep Finset.univ fun i : Fin 10 => if i.val < j then FO E c i else PreO E c i
variable (E c) in
/-- Some done. -/
abbrev WO (j : Nat) : PP F := bigSep Finset.univ fun i : Fin 10 => if i.val < j then DnO E c i else FO E c i

/-- A block of the result is a plane of what is staged. -/
theorem yT_block (k : Fin 10) (j : S14x18x4x128.Idx) :
    oT E ((rOp k k.isLt).emb (Shape.reshapeEquiv sqO.numel_eq j)) = yT E ((rY k k.isLt).emb j) := by
  rw [show Shape.reshapeEquiv sqO.numel_eq j = Fin.cons (0 : Fin 1) j from Shape.reshapeEquiv_cons_one _ _]
  unfold yT
  have h3 : (j 3).val < 128 := (j 3).isLt
  refine congrArg (oT E) (funext fun a => Fin.ext ?_)
  fin_cases a
  · show k.val + 1 * 0 = (k.val * 128 + 1 * (j 3).val) / 128
    omega
  · show 0 + 1 * (j 0).val = 0 + 1 * (j 0).val
    rfl
  · show 0 + 1 * (j 1).val = 0 + 1 * (j 1).val
    rfl
  · show 0 + 1 * (j 2).val = 0 + 1 * (j 2).val
    rfl
  · show 0 + 1 * (j 3).val = (k.val * 128 + 1 * (j 3).val) % 128
    omega

/-- The planes not yet taken. -/
abbrev geO (k : Nat) : Finset S10x14x18x4x128.Idx := Finset.univ.filter fun x => k ≤ (x 0).val

theorem geO_split (k : Fin 10) : geO k.val = (rOp k k.isLt).set ∪ geO (k.val + 1) := by
  ext x
  rw [Finset.mem_union, mem_rOp]
  simp only [Finset.mem_filter, Finset.mem_univ, true_and]
  omega
theorem geO_disj (k : Fin 10) : Disjoint (rOp k k.isLt).set (geO (k.val + 1)) := by
  rw [Finset.disjoint_left]
  intro x h h'
  rw [mem_rOp] at h
  simp only [Finset.mem_filter, Finset.mem_univ, true_and] at h'
  omega

/-- A block as copied out. -/
abbrev pO (k : Fin 10) : Memref sig .tc .vmem S14x18x4x128 .bf16 := (vO.slice (rOp k k.isLt) (fun _ => rfl)).squeeze S14x18x4x128 sqO
/-- and where to. -/
abbrev pY (k : Fin 10) : Memref sig .tc .hbm S14x18x4x128 .bf16 := hY.slice (rY k k.isLt) (fun _ => rfl)

theorem tak_O {k : Fin 10} {S : S10x14x18x4x128.Idx → Prop} (hp : ∀ x : S10x14x18x4x128.Idx, (x 0).val = k.val → S x) :
    iprop(Has c vO (rOp k k.isLt).set S (oT E) ∗ Has c hY (rY k k.isLt).set (fun _ => False) (yT E))
      ⊢ Tak c (pO k) (pY k) fun j => yT E ((rY k k.isLt).emb j) := by
  refine BIClass.sep_mono ?_ Has.slice
  have h := (Has.slice (c := c) (m := vO) (r := rOp k k.isLt) (h := fun _ => rfl) (S := S) (V := oT E)).trans (Has.squeeze (h := sqO))
  rw [show (fun j => oT E ((rOp k k.isLt).emb (Shape.reshapeEquiv sqO.numel_eq j))) = fun j => yT E ((rY k k.isLt).emb j) from
    funext (yT_block k)] at h
  exact h.trans (Has.weaken c fun j _ => hp _ (mem_rOp.mp (by rw [← Rect.map_emb_univ]; exact Finset.mem_map_of_mem _ (Finset.mem_univ _))))

theorem giv_O {k : Fin 10} : Giv c (pO k) (pY k) (fun j => yT E ((rY k k.isLt).emb j))
    ⊢ iprop(Kn c vO (rOp k k.isLt).set (oT E) ∗ Kn c hY (rY k k.isLt).set (yT E)) := by
  refine BIClass.sep_mono ?_ ((Has.unslice (S := fun _ => True)).trans (Has.weaken c fun x hx => ⟨hx, trivial⟩))
  have h := (Has.unsqueeze (c := c) (m := vO.slice (rOp k k.isLt) fun _ => rfl) (h := sqO) (S := fun _ => True)
    (V := fun j => oT E ((rOp k k.isLt).emb j))).trans ((Has.unslice (S := fun _ => True)).trans (Has.weaken c fun x hx => ⟨hx, trivial⟩))
  rw [show (fun j => oT E ((rOp k k.isLt).emb (Shape.reshapeEquiv sqO.numel_eq j))) = fun j => yT E ((rY k k.isLt).emb j) from
    funext (yT_block k)] at h
  exact h

theorem ok_startO {A : PP F} (k : Fin 10) (hk : k.val + 1 ≤ 10) (hD : σ.dO = geO k.val) (hp : ∀ x : S10x14x18x4x128.Idx, (x 0).val = k.val → σ.pO x)
    (hR : Ok E c Q { σ with dO := geO (k.val + 1) } iprop(SO E c (k.val + 1) ∗ A) K) :
    Ok E c Q σ iprop(SO E c k.val ∗ A) (cpO startOut k.val k.isLt K) := by
  unfold Ok Ctx at hR ⊢
  rw [hD, geO_split]
  have hS := sweep (f := FO E c) (g := PreO E c) k
  have hV : (Has c vO ((rOp k k.isLt).set ∪ geO (k.val + 1)) σ.pO (oT E) : PP F)
      ⊢ iprop(Has c vO (rOp k k.isLt).set σ.pO (oT E) ∗ Has c vO (geO (k.val + 1)) σ.pO (oT E)) := Has.split c (geO_disj k)
  iintro ⟨H1, H2, H3, H4, H5, H6, H7, H8, H9, HS, HA⟩
  icases hV $$ H8 with ⟨Hk, H8⟩
  icases hS $$ HS with ⟨⟨HY, Hv⟩, HS⟩
  iapply (startOne (c := c) (Q := Q) (K := K) (V := fun j => yT E ((rY k k.isLt).emb j))
    (src := pO k) (dst := pY k)
    (sem := oSem k hk)
    (P := iprop(Has c vO (rOp k k.isLt).set σ.pO (oT E) ∗ Has c hY (rY k k.isLt).set (fun _ => False) (yT E)))
    (tak_O hp))
  isplitl [Hk HY]
  · isplitl [Hk]
    · iexact Hk
    · iexact HY
  isplitl [Hv]
  · iexact Hv
  iintro HF
  ihave HS := HS $$ HF
  iapply hR
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [HS]
  · iexact HS
  · iexact HA

theorem ok_waitO {A : PP F} (k : Fin 10) (hk : k.val + 1 ≤ 10) (hR : Ok E c Q σ iprop(WO E c (k.val + 1) ∗ A) K) :
    Ok E c Q σ iprop(WO E c k.val ∗ A) (cpO waitOut k.val k.isLt K) := by
  unfold Ok Ctx at hR ⊢
  have hS := sweep (f := DnO E c) (g := FO E c) k
  iintro ⟨H1, H2, H3, H4, H5, H6, H7, H8, H9, HS, HA⟩
  icases hS $$ HS with ⟨HF, HS⟩
  iapply (waitOne (c := c) (Q := Q) (K := K) (V := fun j => yT E ((rY k k.isLt).emb j))
    (src := pO k) (dst := pY k)
    (sem := oSem k hk)
    (R := iprop(Kn c vO (rOp k k.isLt).set (oT E) ∗ Kn c hY (rY k k.isLt).set (yT E))) (by decide) giv_O)
  isplitl [HF]
  · iexact HF
  isplitl [H9]
  · iexact H9
  iintro HR Hv H9
  ihave HS := HS $$ [HR Hv]
  · isplitl [HR]
    · iexact HR
    · iexact Hv
  iapply hR
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [HS]
  · iexact HS
  · iexact HA

/-- All started, none done. -/
theorem SO_all : SO E c 10 = WO E c 0 :=
  bigSep_congr fun i _ => by rw [if_pos i.isLt, if_neg (Nat.not_lt_zero _)]

/-! ## The waits, over the state -/

/-- A wait moves what it gives of VMEM into the state, and the source and the semaphore to what is done. -/
theorem ok_wait {Fl Src Dst Sm O R G : PP F} {p : PG F} {σ' : St}
    (wt : iprop(Fl ∗ Ow c ∗ (iprop(Src ∗ Dst) -∗ Sm -∗ Ow c -∗ T (F := F) c Q K)) ⊢ T (F := F) c Q p)
    (land : ∀ A, iprop(Dst ∗ Ctx E c σ A) ⊢ Ctx E c σ' A)
    (hR : Ok E c Q σ' iprop(O ∗ (R ∗ (Src ∗ Sm)) ∗ G) K) : Ok E c Q σ iprop(O ∗ R ∗ Fl ∗ G) p := by
  unfold Ok at hR ⊢
  have h1 : Ctx E c σ iprop(O ∗ R ∗ Fl ∗ G) ⊢ iprop(Fl ∗ Ow c ∗ (Ow c -∗ Ctx E c σ iprop(O ∗ R ∗ G))) := by
    unfold Ctx
    iintro ⟨H1, H2, H3, H4, H5, H6, H7, H8, H9, HO, HR, HF, HG⟩
    isplitl [HF]
    · iexact HF
    isplitl [H9]
    · iexact H9
    iintro H9
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HO]
    · iexact HO
    isplitl [HR]
    · iexact HR
    · iexact HG
  have h2 : iprop(Ctx E c σ' iprop(O ∗ R ∗ G) ∗ Src ∗ Sm) ⊢ Ctx E c σ' iprop(O ∗ (R ∗ (Src ∗ Sm)) ∗ G) := by
    unfold Ctx
    iintro ⟨⟨H1, H2, H3, H4, H5, H6, H7, H8, H9, HO, HR, HG⟩, HS, HM⟩
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HO]
    · iexact HO
    isplitl [HR HS HM]
    · isplitl [HR]
      · iexact HR
      isplitl [HS]
      · iexact HS
      · iexact HM
    · iexact HG
  refine h1.trans ?_
  have hl := land iprop(O ∗ R ∗ G)
  iintro ⟨HF, HO, HC⟩
  iapply wt
  isplitl [HF]
  · iexact HF
  isplitl [HO]
  · iexact HO
  iintro ⟨HS, HD⟩ HM HO
  iapply hR
  iapply h2
  isplitl [HD HO HC]
  · iapply hl
    isplitl [HD]
    · iexact HD
    iapply HC $$ HO
  isplitl [HS]
  · iexact HS
  · iexact HM

end Cert.KernelIdeal.Conv
-- ==== Proof.Blocks.lean ====
module

public import proofs.«01_k».proof.Proof.State

/-! # The parts of the body that load and store

The padding, the scaled input, the scale words and the operands of the products. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
variable {E : Ins F} {c : Dev nD} {Q : PUnit → PP F} {σ : St} {A : PP F}

/-! ## Membership in the rectangles -/

theorem mem_rXb {p r m hp hr} {x : S12x1168x128.Idx} :
    x ∈ (rXb p r m hp hr).set ↔ (x 0).val = p ∧ r ≤ (x 1).val ∧ (x 1).val < r + m := by
  have h2 : (x 2).val < 128 := (x 2).isLt
  rw [Rect.mem_set_unit]
  constructor
  · intro h
    have h0 : p ≤ (x 0).val ∧ (x 0).val < p + 1 := h 0
    have h1 : r ≤ (x 1).val ∧ (x 1).val < r + m := h 1
    omega
  · rintro ⟨h0, h1, h1'⟩ a
    fin_cases a
    · show p ≤ (x 0).val ∧ (x 0).val < p + 1
      omega
    · exact ⟨h1, h1'⟩
    · exact ⟨Nat.zero_le _, by show (x 2).val < 0 + 128; omega⟩

theorem mem_rSw {t ht} {x : S144x1280.Idx} : x ∈ (rSw t ht).set ↔ (x 0).val / 16 = t := by
  have h1 : (x 1).val < 1280 := (x 1).isLt
  rw [Rect.mem_set_unit]
  constructor
  · intro h
    have h0 : t * 16 ≤ (x 0).val ∧ (x 0).val < t * 16 + 16 := h 0
    omega
  · intro h0 a
    fin_cases a
    · show t * 16 ≤ (x 0).val ∧ (x 0).val < t * 16 + 16
      omega
    · exact ⟨Nat.zero_le _, by show (x 1).val < 0 + 1280; omega⟩

theorem mem_rSw1 {r q hr hq} {x : S144x1280.Idx} : x ∈ (rSw1 r q hr hq).set → (x 0).val = r := by
  rw [Rect.mem_set_unit]
  intro h
  have h0 : r ≤ (x 0).val ∧ (x 0).val < r + 1 := h 0
  omega

theorem mem_rO {c y x0 m hc hy hx} {x : S10x14x18x4x128.Idx} :
    x ∈ (rO c y x0 m hc hy hx).set ↔ (x 0).val = c ∧ (x 1).val = y ∧ x0 ≤ (x 2).val ∧ (x 2).val < x0 + m := by
  have h3 : (x 3).val < 4 := (x 3).isLt
  have h4 : (x 4).val < 128 := (x 4).isLt
  rw [Rect.mem_set_unit]
  constructor
  · intro h
    have h0 : c ≤ (x 0).val ∧ (x 0).val < c + 1 := h 0
    have h1 : y ≤ (x 1).val ∧ (x 1).val < y + 1 := h 1
    have h2 : x0 ≤ (x 2).val ∧ (x 2).val < x0 + m := h 2
    omega
  · rintro ⟨h0, h1, h2, h2'⟩ a
    fin_cases a
    · show c ≤ (x 0).val ∧ (x 0).val < c + 1
      omega
    · show y ≤ (x 1).val ∧ (x 1).val < y + 1
      omega
    · exact ⟨h2, h2'⟩
    · exact ⟨Nat.zero_le _, by show (x 3).val < 0 + 4; omega⟩
    · exact ⟨Nat.zero_le _, by show (x 4).val < 0 + 128; omega⟩

/-! ## The padded input -/

theorem cast3_apply {α : Type} {m : Nat} (v : (⟨2, ![m, 128]⟩ : Shape).Idx → α) (j : (⟨3, ![1, m, 128]⟩ : Shape).Idx) :
    shapeCast ⟨3, ![1, m, 128]⟩ v (scXb m) j = v (ix2 (j 1) (j 2)) := by
  refine shapeCast_apply _ _ _ _ ?_
  rw [Shape.rowMajor_val_two, Shape.rowMajor_val_three]
  have h0 : (j 0).val < 1 := (j 0).isLt
  show (j 1).val * 128 + (j 2).val = ((j 0).val * m + (j 1).val) * 128 + (j 2).val
  obtain h : (j 0).val = 0 := by omega
  rw [h]; omega

theorem ok_stXb {p r m : Nat} {hp hr hm h h'} {v : FVec F ⟨2, ![m, 128]⟩ .bf16} {K : PG F}
    (hw : ∀ (x : S12x1168x128.Idx) (hx : (x 1).val - r < m), (x 0).val = p → r ≤ (x 1).val → xbT E x = v (ix2 ⟨(x 1).val - r, hx⟩ (x 2)))
    {p' : S12x1168x128.Idx → Prop} (hp' : ∀ x, p' x → σ.pXb x ∨ ((x 0).val = p ∧ r ≤ (x 1).val ∧ (x 1).val < r + m))
    (hR : Ok E c Q { σ with pXb := p' } A K) : Ok E c Q σ A (stXb p r m hp hr hm h h' v K) := by
  refine ok_updXb (fun j => ?_) (fun x hx => (hp' x hx).imp_right mem_rXb.2) hR
  have h0 : (j 0).val < 1 := (j 0).isLt
  have h1 : (j 1).val < m := (j 1).isLt
  have e0 : ((rXb p r m hp hr).emb j 0).val = p + 1 * (j 0).val := rfl
  have e1 : ((rXb p r m hp hr).emb j 1).val = r + 1 * (j 1).val := rfl
  have e2 : ((rXb p r m hp hr).emb j 2).val = 0 + 1 * (j 2).val := rfl
  rw [cast3_apply, hw _ (by omega) (by omega) (by omega)]
  congr 1
  have a1 : (⟨((rXb p r m hp hr).emb j 1).val - r, by omega⟩ : Fin m) = j 1 := Fin.ext (by show _ - _ = _; omega)
  have a2 : (rXb p r m hp hr).emb j 2 = j 2 := Fin.ext (by omega)
  rw [a1, a2]

/-- The padding above and below the image. -/
def Pad (x : S12x1168x128.Idx) : Prop := (x 1).val < 80 ∨ 1088 ≤ (x 1).val

/-- Knowing less of the padded input. -/
theorem ok_wkXb {p : S12x1168x128.Idx → Prop} {K : PG F} (hp : ∀ x, p x → σ.pXb x) (hR : Ok E c Q { σ with pXb := p } A K) : Ok E c Q σ A K := by
  have : Ctx E c σ A ⊢ Ctx E c { σ with pXb := p } A := by
    unfold Ctx
    iintro ⟨H1, H2, H3, H4, H5, H6, H7, HR⟩
    ihave H7 := Has.weaken c (S' := p) hp $$ H7
    iframe
  exact this.trans hR

theorem ok_zeros {K : PG F} (hR : Ok E c Q { σ with pXb := Pad } A K) : Ok E c Q σ A (zeros K) := by
  have h0 : Ok E c Q { σ with pXb := fun x => Pad x ∧ (x 0).val < 0 } A (zeros K) := by
    refine loop'_rule (P := fun n K => Ok E c Q { σ with pXb := fun x => Pad x ∧ (x 0).val < n } A K) (fun i K h => ?_) ?_
    · refine ok_stXb (p' := fun x => (Pad x ∧ (x 0).val < i.val) ∨ ((x 0).val = i.val ∧ 0 ≤ (x 1).val ∧ (x 1).val < 0 + 80))
        (fun x hx h0 h1 => xbT_pad E x (.inl (by omega))) (fun x hx => hx) ?_
      refine ok_stXb (fun x hx h0 h1 => xbT_pad E x (.inr h1)) (fun x hx => ?_) h
      obtain ⟨hx | hx, h'⟩ := hx <;> show (_ ∨ _) ∨ _ <;> have h2 : (x 1).val < 1168 := (x 1).isLt <;> unfold Pad <;> omega
    · exact ok_wkXb (σ := { σ with pXb := fun x => Pad x ∧ (x 0).val < 12 }) (fun x h => ⟨h, (x 0).isLt⟩) hR
  exact ok_wkXb (fun x hx => absurd hx.2 (Nat.not_lt_zero _)) h0

/-- What a scaled chunk adds to what is known. -/
abbrev addRows (p : S12x1168x128.Idx → Prop) (lb a b : Nat) (x : S12x1168x128.Idx) : Prop :=
  p x ∨ ((x 0).val % 4 = lb ∧ a ≤ (x 1).val ∧ (x 1).val < b)

theorem ok_chunk {y : Fin 14} {lb : Fin 4} {s m : Nat} {hs : s + m ≤ 18} {h : Chunk m} {idx : IVec ⟨2, ![m, 128]⟩ 32}
    {fl fr : FVec F ⟨2, ![4 * m, 128]⟩ .bf16 → FVec F ⟨2, ![4 * m, 128]⟩ .bf16} {K : PG F}
    (hX : ∀ x : S14x18x4x512.Idx, (x 3).val / 128 = lb → x ∈ σ.dX)
    (h1 : ∀ (o : Nat) (ho : o < 4 * m) l, prepV E y lb 1 (s * 4 + o) l = chunkV E y lb s m hs h idx (ix2 ⟨o, ho⟩ l))
    (h0 : ∀ (o : Nat) (ho : o < 4 * m) l, prepV E y lb 0 (s * 4 + o) l = fl (chunkV E y lb s m hs h idx) (ix2 ⟨o, ho⟩ l))
    (h2 : ∀ (o : Nat) (ho : o < 4 * m) l, prepV E y lb 2 (s * 4 + o) l = fr (chunkV E y lb s m hs h idx) (ix2 ⟨o, ho⟩ l))
    (hR : Ok E c Q { σ with pXb := addRows σ.pXb lb (80 + y * 72 + s * 4) (80 + y * 72 + s * 4 + 4 * m) } A K) :
    Ok E c Q σ A (chunk y lb s m hs h (grp E y) idx fl fr K) := by
  refine ok_ldX (fun x hx => hX x ?_) ?_
  · have := (Rect.mem_set_unit.1 hx) 3
    have h3 : lb.val * 128 ≤ (x 3).val ∧ (x 3).val < lb.val * 128 + 128 := this
    omega
  have hl := lb.isLt
  have g : ∀ (d : Nat) (x : S12x1168x128.Idx) (hx : (x 1).val - (80 + y * 72 + s * 4) < 4 * m), (x 0).val = d * 4 + lb → 80 + y * 72 + s * 4 ≤ (x 1).val →
      xbT E x = prepV E y lb d (s * 4 + ((x 1).val - (80 + y * 72 + s * 4))) (x 2) := fun d x hx e0 e1 =>
    xbT_at E x y lb d _ e0 (by omega) (by omega)
  refine ok_stXb (p' := fun x => σ.pXb x ∨ ((x 0).val = 4 + lb ∧ 80 + y * 72 + s * 4 ≤ (x 1).val ∧ (x 1).val < 80 + y * 72 + s * 4 + 4 * m))
    (fun x hx e0 e1 => (g 1 x hx (by omega) e1).trans (h1 _ hx _)) (fun x hx => hx) ?_
  refine ok_stXb (p' := fun x => σ.pXb x ∨ (((x 0).val = 4 + lb ∨ (x 0).val = lb) ∧ 80 + y * 72 + s * 4 ≤ (x 1).val ∧ (x 1).val < 80 + y * 72 + s * 4 + 4 * m))
    (fun x hx e0 e1 => (g 0 x hx (by omega) e1).trans (h0 _ hx _)) (fun x hx => ?_) ?_
  · show (_ ∨ _) ∨ _
    by_cases hs : σ.pXb x
    · exact .inl (.inl hs)
    · simp only [hs, _root_.false_or] at hx ⊢; omega
  refine ok_stXb (fun x hx e0 e1 => (g 2 x hx (by omega) e1).trans (h2 _ hx _)) (fun x hx => ?_) hR
  show (_ ∨ _) ∨ _
  have h12 : (x 0).val < 12 := (x 0).isLt
  by_cases hs : σ.pXb x
  · exact .inl (.inl hs)
  · simp only [addRows, hs, _root_.false_or] at hx ⊢; omega

theorem ok_prep {y : Fin 14} {lb : Fin 4} {g : IVec S18x128 32} {K : PG F} (hg : g = grp E y)
    (hX : ∀ x : S14x18x4x512.Idx, (x 3).val / 128 = lb → x ∈ σ.dX)
    (hR : Ok E c Q { σ with pXb := addRows σ.pXb lb (80 + y * 72) (80 + y * 72 + 72) } A K) : Ok E c Q σ A (prep y lb g K) := by
  subst hg
  have ix : ∀ {n : Nat} (a b : Fin n) (l : Fin 128), a.val = b.val → (ix2 a l : (⟨2, ![n, 128]⟩ : Shape).Idx) = ix2 b l := by
    intro n a b l h; rw [Fin.ext h]
  have b : ∀ (d o : Nat) l, o < 32 → prepV E y lb d o l = (bif d == 2 then masked ch8 .slt (chunk0 E y lb) else chunk0 E y lb) (ix2 (n0 := 32) ⟨o % 32, Nat.mod_lt _ (by decide)⟩ l) := by
    intro d o l h; unfold prepV; rw [if_pos h]
  have b1 : ∀ (d o : Nat) l, ∀ h : o < 32, prepV E y lb d (8 * 4 + o) l = chunk1 E y lb (ix2 (n0 := 32) ⟨o, h⟩ l) := by
    intro d o l h; unfold prepV; rw [if_neg (by omega), if_pos (by omega)]
    exact congrArg _ (ix _ _ l (by show (8 * 4 + o - 32) % 32 = o; omega))
  have b2 : ∀ (d o : Nat) (h : o < 8) l, prepV E y lb d (16 * 4 + o) l = (bif d == 0 then masked ch2 .sge (chunk2 E y lb) else chunk2 E y lb) (ix2 (n0 := 8) ⟨o, h⟩ l) := by
    intro d o h l; unfold prepV; rw [if_neg (by omega), if_neg (by omega)]
    exact congrArg _ (ix _ _ l (by show (16 * 4 + o - 64) % 8 = o; omega))
  have b0 : ∀ (d o : Nat) (h : o < 32) l, prepV E y lb d (0 * 4 + o) l = (bif d == 2 then masked ch8 .slt (chunk0 E y lb) else chunk0 E y lb) (ix2 (n0 := 32) ⟨o, h⟩ l) := by
    intro d o h l; rw [b _ _ _ (by omega)]
    exact congrArg _ (ix _ _ l (by show (0 * 4 + o) % 32 = o; omega))
  refine ok_chunk hX (fun o h l => b0 1 o h l) (fun o h l => b0 0 o h l) (fun o h l => b0 2 o h l) ?_
  refine ok_chunk (σ := { σ with pXb := _ }) hX (fun o h l => b1 1 o l h) (fun o h l => b1 0 o l h) (fun o h l => b1 2 o l h) ?_
  refine ok_chunk (σ := { σ with pXb := _ }) hX (fun o h l => b2 1 o h l) (fun o h l => b2 0 o h l) (fun o h l => b2 2 o h l) ?_
  refine ok_wkXb (σ := { σ with pXb := _ }) (fun x hx => ?_) hR
  show ((_ ∨ _) ∨ _) ∨ _
  by_cases hs : σ.pXb x
  · exact .inl (.inl (.inl hs))
  · simp only [addRows, hs, _root_.false_or] at hx ⊢; omega

/-- The image rows of each half of the channels that are ready. -/
def XbP (n0 n1 : Nat) (x : S12x1168x128.Idx) : Prop :=
  Pad x ∨ ((x 0).val % 4 < 2 ∧ (x 1).val < 80 + 72 * n0) ∨ (2 ≤ (x 0).val % 4 ∧ (x 1).val < 80 + 72 * n1)

theorem ok_prepHalf {y : Fin 14} {k : Fin 2} {K : PG F}
    (hX : ∀ x : S14x18x4x512.Idx, (x 3).val / 256 = k → x ∈ σ.dX)
    (hR : Ok E c Q { σ with pXb := fun x => σ.pXb x ∨ ((x 0).val % 4 / 2 = k ∧ 80 + y * 72 ≤ (x 1).val ∧ (x 1).val < 80 + y * 72 + 72) } A K) :
    Ok E c Q σ A (prepHalf y k (grp0 E) (grp1 E) K) := by
  have hk := k.isLt
  refine ok_prep rfl (fun x hx => hX x (by simp only at hx; omega)) ?_
  refine ok_prep (σ := { σ with pXb := _ }) rfl (fun x hx => hX x (by simp only at hx; omega)) ?_
  refine ok_wkXb (σ := { σ with pXb := _ }) (fun x hx => ?_) hR
  show (_ ∨ _) ∨ _
  by_cases hs : σ.pXb x
  · exact .inl (.inl hs)
  · simp only [addRows, hs, _root_.false_or] at hx ⊢; omega

/-- The image rows ready before a piece of the first two steps. -/
def rdy (p : Nat) : Nat := if p ≤ 4 then 2 * p else 2 * (p - 1)

theorem ok_prepPiece {p : Fin 8} {k : Fin 2} {K : PG F} (hX : ∀ x : S14x18x4x512.Idx, (x 3).val / 256 = k → x ∈ σ.dX)
    (hR : Ok E c Q { σ with pXb := fun x => σ.pXb x ∨ ((x 0).val % 4 / 2 = k ∧ 80 + 72 * rdy p ≤ (x 1).val ∧ (x 1).val < 80 + 72 * rdy (p + 1)) } A K) :
    Ok E c Q σ A (prepPiece p k (grp0 E) (grp1 E) K) := by
  unfold prepPiece
  by_cases h4 : p.val = 4
  · rw [h4]
    refine ok_wkXb (σ := σ) (fun x hx => ?_) hR
    rcases hx with hx | ⟨_, h1, h2⟩
    · exact hx
    · rw [h4] at h1 h2
      have : rdy 4 = 8 := rfl
      have : rdy (4 + 1) = 8 := rfl
      omega
  · rw [show p.val.beq 4 = false from Bool.eq_false_iff.2 fun h => h4 (Nat.eq_of_beq_eq_true h)]
    have h1 : rdy p = prepRow p := by fin_cases p <;> first | rfl | exact absurd rfl h4
    have h2 : rdy (p + 1) = prepRow p + 2 := by fin_cases p <;> first | rfl | exact absurd rfl h4
    refine ok_prepHalf hX ?_
    refine ok_prepHalf (σ := { σ with pXb := _ }) hX ?_
    refine ok_wkXb (σ := { σ with pXb := _ }) (fun x hx => ?_) hR
    show (_ ∨ _) ∨ _
    rw [h1, h2] at hx
    by_cases hs : σ.pXb x
    · exact .inl (.inl hs)
    · simp only [hs, _root_.false_or] at hx ⊢; omega

/-! ## The scale words -/

theorem ok_wkSw {p : S144x1280.Idx → Prop} {K : PG F} (hp : ∀ x, p x → σ.pSw x) (hR : Ok E c Q { σ with pSw := p } A K) : Ok E c Q σ A K := by
  have : Ctx E c σ A ⊢ Ctx E c { σ with pSw := p } A := by
    unfold Ctx
    iintro ⟨H1, H2, H3, H4, H5, H6, HR⟩
    ihave H6 := Has.weaken c (S' := p) hp $$ H6
    iframe
  exact this.trans hR

theorem ok_scaleW {dy dx : Fin 3} {K : PG F} (hD : σ.dWs = Finset.univ)
    (hR : Ok E c Q { σ with pSw := fun x => σ.pSw x ∨ (x 0).val / 16 = dy.val * 3 + dx.val } A K) : Ok E c Q σ A (scaleW dy dx K) := by
  refine ok_ldWs (fun x _ => hD ▸ Finset.mem_univ x) ?_
  refine ok_updSw (fun j => ?_) (fun x hx => hx.imp_right mem_rSw.2) hR
  rw [shapeCast_self]
  have h0 : (j 0).val < 16 := (j 0).isLt
  have e0 : ((rSw (dy.val * 3 + dx.val) (by omega)).emb j 0).val = (dy.val * 3 + dx.val) * 16 + 1 * (j 0).val := rfl
  have e1 : (rSw (dy.val * 3 + dx.val) (by omega)).emb j 1 = j 1 := Fin.ext (by show 0 + 1 * (j 1).val = _; omega)
  have key : ∀ (a b : Nat) (ha : a < 3) (hb : b < 3) (t : Fin 9), t.val = a * 3 + b → twiceT E t = twice fun j => E.Ws ((rWs a b ha hb).emb j) := by
    intro a b ha hb t ht
    obtain rfl : a = t.val / 3 := by omega
    obtain rfl : b = t.val % 3 := by omega
    rfl
  unfold swT
  rw [key dy.val dx.val dy.isLt dx.isLt _ (by show _ / 16 = _; omega)]
  refine congrArg _ ?_
  funext a
  fin_cases a
  · exact Fin.ext (by show (j 0).val = _ % 16; omega)
  · exact e1.symm

theorem ok_words {y : Fin 14} {K : IVec S16x18 32 → PG F} (hD : σ.dXs = Finset.univ)
    (hR : Ok E c Q σ A (K (rowWords E y y.isLt))) : Ok E c Q σ A (words y K) := by
  have h : ∀ r : Rect S4x14x16x18, r.set ⊆ σ.dXs := fun r x _ => hD ▸ Finset.mem_univ x
  exact ok_ldXs (h _) (ok_ldXs (h _) (ok_ldXs (h _) (ok_ldXs (h _) hR)))

theorem ok_groups {K : IVec S18x128 32 → IVec S18x128 32 → PG F} (hD : σ.dXs = Finset.univ)
    (hR : Ok E c Q σ A (K (grp0 E) (grp1 E))) : Ok E c Q σ A (groups K) := by
  unfold groups
  iterate 14 refine ok_words hD ?_
  exact hR

/-! ## The operands -/

theorem ok_wRow {dy dx : Fin 3} {k : Fin 2} {q : Nat} {hq : q + 256 ≤ 1280} {g : Fin 8} {K : FVec F ⟨2, ![32, 256]⟩ .bf16 → PG F}
    (hW : (rW dy dx (k * 256 + g * 32) 32 q 256 dy.isLt dx.isLt (by omega) hq).set ⊆ σ.dW)
    (hS : ∀ x : S144x1280.Idx, (x 0).val / 16 = dy.val * 3 + dx.val → σ.pSw x)
    (hR : Ok E c Q σ A (K (wRowV E dy dx k q hq g))) : Ok E c Q σ A (wRow dy dx k q hq g K) := by
  refine ok_ldW hW (ok_ldSw (fun x hx => hS x ?_) hR)
  have := mem_rSw1 hx
  omega

theorem ok_weights {dy dx : Fin 3} {k : Fin 2} {q : Nat} {hq : q + 256 ≤ 1280} {K : FVec F ⟨2, ![256, 256]⟩ .bf16 → PG F}
    (hW : ∀ x : S3x3x512x1280.Idx, (x 0).val = dy → (x 1).val = dx → (x 2).val / 256 = k → q ≤ (x 3).val → (x 3).val < q + 256 → x ∈ σ.dW)
    (hS : ∀ x : S144x1280.Idx, (x 0).val / 16 = dy.val * 3 + dx.val → σ.pSw x)
    (hR : Ok E c Q σ A (K (wTile E dy dx k q hq))) : Ok E c Q σ A (weights dy dx k q hq K) := by
  have h : ∀ g : Fin 8, (rW dy dx (k * 256 + g * 32) 32 q 256 dy.isLt dx.isLt (by omega) hq).set ⊆ σ.dW := by
    intro g x hx
    rw [Rect.mem_set_unit] at hx
    have h0 : dy.val ≤ (x 0).val ∧ (x 0).val < dy.val + 1 := hx 0
    have h1 : dx.val ≤ (x 1).val ∧ (x 1).val < dx.val + 1 := hx 1
    have h2 : k.val * 256 + g.val * 32 ≤ (x 2).val ∧ (x 2).val < k.val * 256 + g.val * 32 + 32 := hx 2
    have h3 : q ≤ (x 3).val ∧ (x 3).val < q + 256 := hx 3
    exact hW x (by omega) (by omega) (by omega) h3.1 h3.2
  exact ok_wRow (h _) hS (ok_wRow (h _) hS (ok_wRow (h _) hS (ok_wRow (h _) hS (ok_wRow (h _) hS (ok_wRow (h _) hS
    (ok_wRow (h _) hS (ok_wRow (h _) hS hR)))))))

theorem ok_lhs {s : Fin 18} {P : Piece} {hP : P.Ok} {K : FVec F ⟨2, ![P.M, 256]⟩ .bf16 → PG F}
    (hX : ∀ x : S12x1168x128.Idx, (x 0).val % 4 / 2 = half s → 4 + tapY s * 72 + tapX s * 4 + P.r ≤ (x 1).val →
      (x 1).val < 4 + tapY s * 72 + tapX s * 4 + P.r + P.M → σ.pXb x)
    (hR : Ok E c Q σ A (K (lhsV E s P hP))) : Ok E c Q σ A (lhs (tapY s) (tapX s) (half s) P hP K) := by
  have hk := (half s).isLt
  refine ok_ldXb (fun x hx => ?_) (ok_ldXb (fun x hx => ?_) hR)
  · rw [mem_rXb] at hx
    exact hX x (by omega) hx.2.1 hx.2.2
  · rw [mem_rXb] at hx
    exact hX x (by omega) hx.2.1 hx.2.2

end Cert.KernelIdeal.Conv
-- ==== Proof.Steps.lean ====
module

public import proofs.«01_k».proof.Proof.Blocks

/-! # The matrix units

What the accumulators, the staging registers and the loaded tiles hold through a step, and the steps over it. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
variable {E : Ins F} {c : Dev nD} {Q : PUnit → PP F} {σ : St} {A : PP F}

/-- The first column of a unit's block. -/
def Cols.q (C : Cols) : Fin 2 → Nat
  | 0 => C.c0
  | 1 => C.c1
theorem Cols.hq (C : Cols) (u : Fin 2) : C.q u + 256 ≤ 1280 := by
  fin_cases u
  exacts [C.h0, C.h1]
/-- Whether a unit multiplies a piece. -/
def Cols.has (C : Cols) (u : Fin 2) (p : Fin 8) : Prop := C.shared = true → p.val / 4 = u.val
/-- The first piece a unit multiplies. -/
def Cols.start (C : Cols) (u : Fin 2) : Nat := bif C.shared then 4 * u.val else 0

instance (C : Cols) (u : Fin 2) (p : Fin 8) : Decidable (C.has u p) := by unfold Cols.has; infer_instance

/-- The accumulators: of each unit and piece, how many steps have been added. -/
structure MI (E : Ins F) (C : Cols) (cnt : Fin 2 → Fin 8 → Nat) (mx : Mxu F) : Prop where
  live : ∀ u (R : Fin 1024), mx.live u R = true ↔ R.val < 1008 ∧ 0 < cnt u (pieceOf R)
  val : ∀ u p, 0 < cnt u p → mx.read u ((piece p).r / 4) (piece_ok p).fits = accV E (C.q u) (C.hq u) (piece p) (piece_ok p) (cnt u p)

theorem MI.congr {C : Cols} {cnt : Fin 2 → Fin 8 → Nat} {mx mx' : Mxu F} (h : MI E C cnt mx) (ha : mx'.acc = mx.acc) (hl : mx'.live = mx.live) :
    MI E C cnt mx' := by
  refine ⟨fun u R => by rw [hl]; exact h.live u R, fun u p hp => ?_⟩
  rw [← h.val u p hp]
  unfold Mxu.read
  rw [ha]

theorem pieceOf_range (R : Nat) (h : R < 1008) : (piece (pieceOf R)).r ≤ R ∧ R < (piece (pieceOf R)).r + (piece (pieceOf R)).M := by
  unfold pieceOf
  split_ifs <;> simp only [piece] <;> omega

theorem piece_disj {p p' : Fin 8} (h : p ≠ p') : (piece p).r + (piece p).M ≤ (piece p').r ∨ (piece p').r + (piece p').M ≤ (piece p).r := by
  have h2 := (piece_ok p).2.1
  have h2' := (piece_ok p').2.1
  by_contra hc
  obtain ⟨a, b⟩ := not_or.1 hc
  have e1 := pieceOf_eq p (max (piece p).r (piece p').r) (by omega) (by omega)
  have e2 := pieceOf_eq p' (max (piece p).r (piece p').r) (by omega) (by omega)
  exact h (e1.symm.trans e2)

theorem piece_r4 (p : Fin 8) : 4 * ((piece p).r / 4) = (piece p).r := by
  have := (piece_ok p).2.2.1
  omega

theorem MI.row_live {C : Cols} {cnt : Fin 2 → Fin 8 → Nat} {mx : Mxu F} (h : MI E C cnt mx) (u : Fin 2) (p : Fin 8) (r : Fin (piece p).M) :
    mx.live u (Mxu.row (piece_ok p).fits r) = true ↔ 0 < cnt u p := by
  have hr := r.isLt
  have e : (Mxu.row (piece_ok p).fits r).val = (piece p).r + r.val := by
    show 4 * ((piece p).r / 4) + r.val = _
    rw [piece_r4]
  have hl := (piece_ok p).2.2.2.1
  rw [h.live, e, pieceOf_eq p _ (by omega) (by omega)]
  exact ⟨fun h => h.2, fun h => ⟨by omega, h⟩⟩

/-- The tile a step stages for a unit. -/
def stg (E : Ins F) (C : Cols) (s : Fin 18) (u : Fin 2) : Mxu.Staged F := ⟨.bf16, false, stepTile E (C.q u) (C.hq u) s⟩

/-- One more step in one piece of one unit. -/
theorem MI.accBy {C : Cols} {cnt cnt' : Fin 2 → Fin 8 → Nat} {mx : Mxu F} (h : MI E C cnt mx) (u : Fin 2) (p : Fin 8) (s : Fin 18) (hs : cnt u p = s)
    (h1 : cnt' u p = cnt u p + 1) (h2 : ∀ u' p', ¬(u' = u ∧ p' = p) → cnt' u' p' = cnt u' p') :
    MI E C cnt' (mx.accBy u (stg E C s u) ((piece p).r / 4) (lhsV E s (piece p) (piece_ok p)) (piece_ok p).fits) := by
  have hl := (piece_ok p).2.2.2.1
  constructor
  · intro u' R
    rw [Mxu.live_accBy, piece_r4]
    by_cases hc : u' = u ∧ (piece p).r ≤ R.val ∧ R.val < (piece p).r + (piece p).M
    · rw [if_pos hc, hc.1, pieceOf_eq p _ hc.2.1 hc.2.2, h1]
      exact ⟨fun _ => ⟨by omega, by omega⟩, fun _ => rfl⟩
    · rw [if_neg hc, h.live]
      refine and_congr_right fun hR => ?_
      rw [h2]
      rintro ⟨rfl, e⟩
      have := pieceOf_range R.val hR
      rw [e] at this
      exact hc ⟨rfl, this⟩
  · intro u' p' hp
    by_cases hc : u' = u ∧ p' = p
    · obtain ⟨rfl, rfl⟩ := hc
      rw [h1, hs]
      have hn : s.val % 18 = s.val := Nat.mod_eq_of_lt s.isLt
      have hpass : passV E (C.q u') (C.hq u') (piece p') (piece_ok p') s.val = (stg E C s u').pass (lhsV E s (piece p') (piece_ok p')) := by
        unfold passV stg
        have : (⟨s.val % 18, Nat.mod_lt _ (by decide)⟩ : Fin 18) = s := Fin.ext hn
        rw [this]
      rcases hz : s.val with _ | n
      · rw [Mxu.read_accBy_of_not_live]
        · show _ = passV E (C.q u') (C.hq u') (piece p') (piece_ok p') 0
          rw [← hpass, hz]
        · intro r
          have := (h.row_live u' p' r).not
          rw [hs, hz] at this
          exact Bool.eq_false_iff.2 (this.2 (by decide))
      · rw [Mxu.read_accBy_of_live, h.val u' p' (by omega), hs, hz]
        · show _ = addf (accV E (C.q u') (C.hq u') (piece p') (piece_ok p') (n + 1)) (passV E (C.q u') (C.hq u') (piece p') (piece_ok p') (n + 1))
          rw [← hpass, hz]
        · intro r
          exact (h.row_live u' p' r).2 (by omega)
    · rw [h2 _ _ hc] at hp ⊢
      rw [Mxu.read_accBy_ne, h.val u' p' hp]
      rw [piece_r4, piece_r4]
      by_cases hu : u' = u
      · exact .inr (piece_disj fun e => hc ⟨hu, e⟩)
      · exact .inl hu

/-- Dropping one piece of one unit. -/
theorem MI.pop {C : Cols} {cnt cnt' : Fin 2 → Fin 8 → Nat} {mx : Mxu F} (h : MI E C cnt mx) (u : Fin 2) (p : Fin 8)
    (h1 : cnt' u p = 0) (h2 : ∀ u' p', ¬(u' = u ∧ p' = p) → cnt' u' p' = cnt u' p') :
    MI E C cnt' (mx.pop u ((piece p).r / 4) (piece p).M (piece_ok p).fits) := by
  constructor
  · intro u' R
    rw [Mxu.live_pop, piece_r4]
    by_cases hc : u' = u ∧ (piece p).r ≤ R.val ∧ R.val < (piece p).r + (piece p).M
    · rw [if_pos hc, hc.1, pieceOf_eq p _ hc.2.1 hc.2.2, h1]
      exact ⟨fun h => absurd h (by decide), fun h => absurd h.2 (by decide)⟩
    · rw [if_neg hc, h.live]
      refine and_congr_right fun hR => ?_
      rw [h2]
      rintro ⟨rfl, e⟩
      have := pieceOf_range R.val hR
      rw [e] at this
      exact hc ⟨rfl, this⟩
  · intro u' p' hp
    have hc : ¬(u' = u ∧ p' = p) := by rintro ⟨rfl, rfl⟩; omega
    rw [h2 _ _ hc] at hp ⊢
    rw [Mxu.read_pop_ne, h.val u' p' hp]
    rw [piece_r4, piece_r4]
    by_cases hu : u' = u
    · exact .inr (piece_disj fun e => hc ⟨hu, e⟩)
    · exact .inl hu

/-- Between steps: `s` steps added in every piece, nothing staged. -/
structure RI (E : Ins F) (C : Cols) (s : Nat) (mx : Mxu F) : Prop where
  acc : MI E C (fun u p => if C.has u p then s else 0) mx
  reg : ∀ u r, mx.reg u r = none

/-- In the step `s`: the first `n u` pieces of the unit `u` are done. -/
structure SI (E : Ins F) (C : Cols) (s : Fin 18) (n : Fin 2 → Nat) (mx : Mxu F) : Prop where
  acc : MI E C (fun u p => if C.has u p then (if p.val < n u then s.val + 1 else s.val) else 0) mx
  reg : ∀ u r, mx.reg u r = if n u ≤ C.start u ∧ r = half s then some (stg E C s u) else none
  gmr : ∀ u, C.start u < n u → mx.gmr u = some (stg E C s u)

theorem RI.pushed {C : Cols} {s : Fin 18} {mx : Mxu F} (h : RI E C s mx) :
    SI E C s (fun _ => 0) ((mx.pushed 0 (half s) false (stepTile E (C.q 0) (C.hq 0) s)).pushed 1 (half s) false (stepTile E (C.q 1) (C.hq 1) s)) := by
  refine ⟨?_, fun u r => ?_, fun u hu => absurd hu (Nat.not_lt_zero _)⟩
  · refine MI.congr (mx := mx) ?_ (by simp) (by simp)
    simpa using h.acc
  · by_cases hu : u = 1
    · subst hu
      by_cases hr : r = half s
      · subst hr
        rw [Mxu.reg_pushed_of_none, if_pos ⟨Nat.zero_le _, rfl⟩]
        · rfl
        · rw [Mxu.reg_pushed_ne _ _ _ _ _ _ _ (by rintro ⟨h, -⟩; exact absurd h (by decide))]; exact h.reg _ _
      · rw [Mxu.reg_pushed_ne _ _ _ _ _ _ _ (by rintro ⟨-, h⟩; exact hr h), Mxu.reg_pushed_ne _ _ _ _ _ _ _ (by rintro ⟨-, h⟩; exact hr h),
          if_neg (fun h => hr h.2)]
        exact h.reg _ _
    · rw [Mxu.reg_pushed_ne _ _ _ _ _ _ _ (by rintro ⟨h, -⟩; exact hu h)]
      obtain rfl : u = 0 := by omega
      by_cases hr : r = half s
      · subst hr
        rw [Mxu.reg_pushed_of_none _ _ _ _ _ (h.reg _ _), if_pos ⟨Nat.zero_le _, rfl⟩]
        rfl
      · rw [Mxu.reg_pushed_ne _ _ _ _ _ _ _ (by rintro ⟨-, h⟩; exact hr h), if_neg (fun h => hr h.2)]
        exact h.reg _ _

/-- What a step's tiles need. -/
structure WOk (C : Cols) (s : Fin 18) (σ : St) : Prop where
  w : ∀ x : S3x3x512x1280.Idx, (x 0).val = tapY s → (x 1).val = tapX s → (x 2).val / 256 = half s →
    (∃ u, C.q u ≤ (x 3).val ∧ (x 3).val < C.q u + 256) → x ∈ σ.dW
  sw : ∀ x : S144x1280.Idx, (x 0).val / 16 = (tapY s).val * 3 + (tapX s).val → σ.pSw x

theorem ok_push' {mx : Mxu F} {q r : Fin 2} {v v' : FVec F (Mxu.STile 256) .bf16} (h : mx.reg q r = none) {K : Mxu F → PG F} (hv : v = v')
    (hR : Ok E c Q σ A (K (mx.pushed q r false v'))) : Ok E c Q σ A ((mx.pushRhs q r false v).bind K) := by
  subst hv
  exact ok_push h hR

theorem ok_pushC {C : Cols} {s : Fin 18} {mx : Mxu F} {K : Mxu F → PG F} (hC : C.shared = true → C.c0 = C.c1) (hw : WOk C s σ) (h : RI E C s mx)
    (hR : ∀ mx', SI E C s (fun _ => 0) mx' → Ok E c Q σ A (K mx')) : Ok E c Q σ A (push C s mx K) := by
  have hlast := hR _ h.pushed
  have h1 : (mx.pushed 0 (half s) false (stepTile E (C.q 0) (C.hq 0) s)).reg 1 (half s) = none := by
    rw [Mxu.reg_pushed_ne _ _ _ _ _ _ _ (by rintro ⟨h, -⟩; exact absurd h (by decide))]; exact h.reg _ _
  have e0 : wTile E (tapY s) (tapX s) (half s) C.c0 C.h0 = stepTile E (C.q 0) (C.hq 0) s := rfl
  have e1 : wTile E (tapY s) (tapX s) (half s) C.c1 C.h1 = stepTile E (C.q 1) (C.hq 1) s := rfl
  have w0 : ∀ x : S3x3x512x1280.Idx, (x 0).val = tapY s → (x 1).val = tapX s → (x 2).val / 256 = half s → C.c0 ≤ (x 3).val → (x 3).val < C.c0 + 256 → x ∈ σ.dW :=
    fun x a b c d e => hw.w x a b c ⟨0, d, e⟩
  have w1 : ∀ x : S3x3x512x1280.Idx, (x 0).val = tapY s → (x 1).val = tapX s → (x 2).val / 256 = half s → C.c1 ≤ (x 3).val → (x 3).val < C.c1 + 256 → x ∈ σ.dW :=
    fun x a b c d e => hw.w x a b c ⟨1, d, e⟩
  unfold push
  by_cases hsh : C.shared = true
  · have e2 : stepTile E (C.q 1) (C.hq 1) s = stepTile E (C.q 0) (C.hq 0) s := by
      have : ∀ a b (ha : a + 256 ≤ 1280) (hb : b + 256 ≤ 1280), a = b → stepTile E a ha s = stepTile E b hb s := by
        rintro a b ha hb rfl; rfl
      exact this _ _ _ _ (hC hsh).symm
    rw [hsh, cond_true]
    exact ok_weights w0 hw.sw (ok_push' (h.reg _ _) e0 (ok_push' h1 (e0.trans e2.symm) hlast))
  · rw [Bool.eq_false_iff.2 hsh, cond_false]
    refine ok_weights w0 hw.sw (ok_push' (h.reg _ _) e0 ?_)
    exact ok_weights w1 hw.sw (ok_push' h1 e1 hlast)

/-- Adding a piece of a step to a unit. -/
theorem ok_accum {C : Cols} {s : Fin 18} {n n' : Fin 2 → Nat} {u : Fin 2} {p : Fin 8} {first : Bool} {mx : Mxu F} {K : Mxu F → PG F}
    (h : SI E C s n mx) (hn : n u = p) (hh : C.has u p) (hf : first = (p.val.beq (C.start u))) (hn' : ∀ u', n' u' = if u' = u then p.val + 1 else n u')
    (hR : ∀ mx', SI E C s n' mx' → Ok E c Q σ A (K mx')) :
    Ok E c Q σ A (accum u (half s) first (piece p) (piece_ok p) (lhsV E s (piece p) (piece_ok p)) mx K) := by
  have hst : C.start u ≤ p.val := by
    unfold Cols.start
    unfold Cols.has at hh
    rcases hs : C.shared
    · exact Nat.zero_le _
    · have := hh hs
      show 4 * u.val ≤ p.val
      omega
  have hacc := h.acc.accBy u p s (cnt' := fun u p => if C.has u p then (if p.val < n' u then s.val + 1 else s.val) else 0)
    (by simp only [if_pos hh, hn, Nat.lt_irrefl, if_false])
    (by simp only [if_pos hh, hn, Nat.lt_irrefl, if_false, hn', if_true, Nat.lt_succ_self])
    (fun u' p' hne => by
      by_cases hu : u' = u
      · subst hu
        have hpp : p'.val ≠ p.val := fun e => hne ⟨rfl, Fin.ext e⟩
        have : (p'.val < n' u') ↔ p'.val < n u' := by rw [hn', if_pos rfl, hn]; omega
        simp only [this]
      · simp only [hn', if_neg hu])
  unfold accum
  by_cases hp : p.val = C.start u
  · have hb : first = true := by rw [hf, hp]; exact Nat.beq_refl _
    rw [hb]
    have hreg : mx.reg u (half s) = some (stg E C s u) := by
      rw [h.reg, if_pos ⟨by rw [hn]; exact hp.le, rfl⟩]
    have hstaged : mx.staged u (half s) = stg E C s u := by rw [Mxu.staged_eq, hreg]; rfl
    refine hR _ ⟨?_, fun u' r => ?_, fun u' hu' => ?_⟩
    · refine hacc.congr ?_ ?_
      · rw [← hstaged]; rfl
      · rw [← hstaged]; rfl
    · by_cases hc : u' = u ∧ r = half s
      · obtain ⟨rfl, rfl⟩ := hc
        rw [Mxu.reg_accLhs, if_neg]
        rw [hn', if_pos rfl, hp]
        omega
      · rw [Mxu.reg_accLhs_ne _ _ _ _ _ _ _ _ hc, h.reg]
        by_cases hu : u' = u
        · subst hu
          rw [if_neg (fun h => hc ⟨rfl, h.2⟩), if_neg (fun h => hc ⟨rfl, h.2⟩)]
        · simp only [hn', if_neg hu]
    · by_cases hu : u' = u
      · subst hu
        rw [Mxu.gmr_accLhs, hstaged]
      · rw [Mxu.gmr_accLhs_ne _ _ _ _ _ _ _ hu]
        rw [hn', if_neg hu] at hu'
        exact h.gmr _ hu'
  · have hb : first = false := by rw [hf]; exact Bool.eq_false_iff.2 fun h => hp (Nat.eq_of_beq_eq_true h)
    rw [hb]
    have hg := h.gmr u (by rw [hn]; omega)
    refine ok_loaded hg (hR _ ⟨hacc, fun u' r => ?_, fun u' hu' => ?_⟩)
    · rw [Mxu.reg_accBy, h.reg]
      by_cases hu : u' = u
      · subst hu
        rw [if_neg (fun h => by have := h.1; omega), if_neg (fun h => by have := h.1; rw [hn', if_pos rfl] at this; omega)]
      · simp only [hn', if_neg hu]
    · rw [Mxu.gmr_accBy]
      by_cases hu : u' = u
      · subst hu; exact hg
      · rw [hn', if_neg hu] at hu'
        exact h.gmr _ hu'

theorem SI.congr {C : Cols} {s : Fin 18} {n n' : Fin 2 → Nat} {mx : Mxu F} (h : SI E C s n mx)
    (h1 : ∀ u p, C.has u p → (p.val < n u ↔ p.val < n' u)) (h2 : ∀ u, n u ≤ C.start u ↔ n' u ≤ C.start u) : SI E C s n' mx := by
  refine ⟨?_, fun u r => ?_, fun u hu => h.gmr u ?_⟩
  · convert h.acc using 1
    funext u p
    by_cases hh : C.has u p
    · simp only [if_pos hh, h1 u p hh]
    · simp only [if_neg hh]
  · rw [h.reg]; simp only [h2]
  · by_contra hc
    have := (h2 u).1 (by omega)
    omega

/-- What a piece of a step reads of the padded input. -/
def XOk (s : Fin 18) (p : Fin 8) (σ : St) : Prop :=
  ∀ x : S12x1168x128.Idx, (x 0).val % 4 / 2 = half s → 4 + tapY s * 72 + tapX s * 4 + (piece p).r ≤ (x 1).val →
      (x 1).val < 4 + tapY s * 72 + tapX s * 4 + (piece p).r + (piece p).M → σ.pXb x

theorem ok_pieceStep {C : Cols} {s : Fin 18} {p : Fin 8} {mx : Mxu F} {K : Mxu F → PG F} (hx : XOk s p σ)
    (h : SI E C s (fun _ => p.val) mx) (hR : ∀ mx', SI E C s (fun _ => p.val + 1) mx' → Ok E c Q σ A (K mx')) :
    Ok E c Q σ A (pieceStep C s p mx K) := by
  refine ok_lhs hx ?_
  by_cases hsh : C.shared = false
  · rw [hsh, cond_false]
    have hh : ∀ u, C.has u p := fun u e => by rw [hsh] at e; exact absurd e (by decide)
    have hst : ∀ u, C.start u = 0 := fun u => by unfold Cols.start; rw [hsh]; rfl
    refine ok_accum (n' := fun u => if u = 0 then p.val + 1 else p.val) h rfl (hh 0) (by rw [hst]) (fun u => rfl) fun mx' h' => ?_
    refine ok_accum (n' := fun u => p.val + 1) h' rfl (hh 1) (by rw [hst]) (fun u => ?_) hR
    fin_cases u <;> rfl
  · replace hsh : C.shared = true := by simpa using hsh
    rw [hsh, cond_true]
    have hst : ∀ u, C.start u = 4 * u.val := fun u => by unfold Cols.start; rw [hsh]; rfl
    by_cases hp : p.val ≤ 3
    · rw [show (p.val.ble 3) = true from Nat.ble_eq_true_of_le hp]
      refine ok_accum (n' := fun u => if u = 0 then p.val + 1 else p.val) h rfl (fun _ => by show p.val / 4 = 0; omega) (by rw [hst]; rfl) (fun u => rfl)
        fun mx' h' => hR mx' (h'.congr (fun u p' hh => ?_) (fun u => ?_))
      · have hh := hh hsh
        by_cases hu : u = 0
        · rw [if_pos hu]
        · rw [if_neg hu]; omega
      · rw [hst]
        by_cases hu : u = 0
        · rw [if_pos hu]
        · rw [if_neg hu]; omega
    · rw [show (p.val.ble 3) = false from Bool.eq_false_iff.2 fun e => hp (Nat.le_of_ble_eq_true e)]
      refine ok_accum (n' := fun u => if u = 1 then p.val + 1 else p.val) h rfl (fun _ => by show p.val / 4 = 1; omega) (by rw [hst]; rfl) (fun u => rfl)
        fun mx' h' => hR mx' (h'.congr (fun u p' hh => ?_) (fun u => ?_))
      · have hh := hh hsh
        by_cases hu : u = 1
        · rw [if_pos hu]
        · rw [if_neg hu]; omega
      · rw [hst]
        by_cases hu : u = 1
        · rw [if_pos hu]
        · rw [if_neg hu]; omega

theorem SI.done {C : Cols} {s : Fin 18} {mx : Mxu F} (h : SI E C s (fun _ => 8) mx) : RI E C (s.val + 1) mx := by
  refine ⟨?_, fun u r => ?_⟩
  · convert h.acc using 1
    funext u p
    rw [if_pos p.isLt]
  · rw [h.reg, if_neg]
    rintro ⟨h, -⟩
    have := u.isLt
    unfold Cols.start at h
    rcases hs : C.shared <;> rw [hs] at h
    · change 8 ≤ 0 at h; omega
    · change 8 ≤ 4 * u.val at h; omega

theorem ok_step {C : Cols} {s : Fin 18} {mx : Mxu F} {K : Mxu F → PG F} (hC : C.shared = true → C.c0 = C.c1) (hw : WOk C s σ) (hx : ∀ p, XOk s p σ)
    (h : RI E C s mx) (hR : ∀ mx', RI E C (s.val + 1) mx' → Ok E c Q σ A (K mx')) : Ok E c Q σ A (step C s mx K) := by
  refine ok_pushC hC hw h fun mx' h' => ?_
  exact loop_rule (I := fun n mx => SI E C s (fun _ => n) mx) (P := fun _ K => Ok E c Q σ A K)
    (fun p mx K h hR => ok_pieceStep (hx p) h hR) h' (fun mx h => hR mx h.done)

/-- The state with some of the padded input ready. -/
abbrev St.xb (σ : St) (n0 n1 : Nat) : St := { σ with pXb := XbP n0 n1 }

theorem ok_stepP {k : Fin 2} {n0 n1 : Nat → Nat} {mx : Mxu F} {K : Mxu F → PG F} {s : Fin 18} (hs : s.val = k)
    (hw : WOk colsA s σ) (hX : ∀ x : S14x18x4x512.Idx, (x 3).val / 256 = k → x ∈ σ.dX)
    (h0 : ∀ n, n0 n = if k.val = 0 then rdy n else 14) (h1 : ∀ n, n1 n = if k.val = 0 then 0 else rdy n)
    (h : RI E colsA s mx)
    (hR : ∀ mx', RI E colsA (s.val + 1) mx' → Ok E c Q (σ.xb (n0 8) (n1 8)) A (K mx')) :
    Ok E c Q (σ.xb (n0 0) (n1 0)) A (stepP s (grp0 E) (grp1 E) mx K) := by
  have hk := k.isLt
  have hhalf : half s = k := Fin.ext (by show s.val % 2 = k.val; omega)
  have hty : (tapY s).val = 1 := by
    have : s.val = 0 ∨ s.val = 1 := by omega
    rcases this with e | e <;> · unfold tapY; rw [e]; rfl
  have htx : (tapX s).val = 1 := by
    have : s.val = 0 ∨ s.val = 1 := by omega
    rcases this with e | e <;> · unfold tapX; rw [e]; rfl
  refine ok_pushC (σ := σ.xb _ _) (fun e => absurd e (by decide)) ⟨hw.w, hw.sw⟩ h fun mx' h' => ?_
  refine loop_rule (I := fun n mx => SI E colsA s (fun _ => n) mx) (P := fun n K => Ok E c Q (σ.xb (n0 n) (n1 n)) A K)
    (fun p mx K h hR => ?_) h' (fun mx h => hR mx h.done)
  rw [hhalf]
  refine ok_prepPiece (σ := σ.xb _ _) hX ?_
  refine ok_wkXb (σ := { σ with pXb := _ }) (p := XbP (n0 (p.val + 1)) (n1 (p.val + 1))) (fun x hx => ?_) ?_
  · show XbP _ _ x ∨ _
    unfold XbP at hx ⊢
    rw [h0, h1] at hx
    rw [h0, h1]
    by_cases hP : Pad x
    · exact .inl (.inl hP)
    · simp only [hP, _root_.false_or] at hx ⊢
      split_ifs at hx ⊢ <;> omega
  · refine ok_pieceStep (σ := σ.xb _ _) (fun x e a b => ?_) h hR
    show XbP _ _ x
    rw [hty, htx] at a b
    rw [hhalf] at e
    have hb : (piece p).r + (piece p).M ≤ 72 * rdy (p.val + 1) := by fin_cases p <;> decide
    unfold XbP
    rw [h0, h1]
    split_ifs <;> omega

end Cert.KernelIdeal.Conv
-- ==== Proof.Drain.lean ====
module

public import proofs.«01_k».proof.Proof.Steps

/-! # Draining the accumulators

The pops, the bias, the rounding and the stores of the staged result. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
variable {E : Ins F} {c : Dev nD} {Q : PUnit → PP F} {σ : St} {A : PP F}

theorem ok_wkO {p : S10x14x18x4x128.Idx → Prop} {K : PG F} (hp : ∀ x, p x → σ.pO x) (hR : Ok E c Q { σ with pO := p } A K) : Ok E c Q σ A K := by
  have : Ctx E c σ A ⊢ Ctx E c { σ with pO := p } A := by
    unfold Ctx
    iintro ⟨H1, H2, H3, H4, H5, H6, H7, H8, HR⟩
    ihave H8 := Has.weaken c (S' := p) hp $$ H8
    iframe
  exact this.trans hR

/-- The row of the flattened output. -/
abbrev rowO (x : S10x14x18x4x128.Idx) : Nat := (x 1).val * 72 + (x 2).val * 4 + (x 3).val

theorem outE_at (p : Fin 8) (r q : Nat) (hq : q < 9) (l : Fin 256) (h : (piece p).r ≤ r) (h' : r - (piece p).r < (piece p).M) :
    outE E r q hq l = outP E q hq (piece p) (piece_ok p) (ix2 (n0 := (piece p).M) ⟨r - (piece p).r, h'⟩ l) := by
  obtain rfl := pieceOf_eq p r h (by omega)
  unfold outE
  congr 1
  have : (⟨(r - (piece (pieceOf r)).r) % (piece (pieceOf r)).M, Nat.mod_lt _ (piece_ok (pieceOf r)).2.1⟩ : Fin (piece (pieceOf r)).M) = ⟨r - (piece (pieceOf r)).r, h'⟩ :=
    Fin.ext (Nat.mod_eq_of_lt h')
  rw [this]

theorem castO_apply {α : Type} {M o m j : Nat} (v : (⟨2, ![M, 256]⟩ : Shape).Idx → α) (hs : o + 4 * m ≤ M) (hj : j < 2)
    (i : (⟨5, ![1, 1, m, 4, 128]⟩ : Shape).Idx) (a : Fin M) (b : Fin 256) (ha : a.val = o + 4 * (i 2).val + (i 3).val) (hb : b.val = j * 128 + (i 4).val) :
    shapeCast ⟨5, ![1, 1, m, 4, 128]⟩ (shapeCast ⟨3, ![m, 4, 128]⟩
      (extractStridedSlice ⟨2, ![4 * m, 128]⟩ ![o, j * 128] v (slM hs hj)) (scM m)) (scM' m) i = v (ix2 a b) := by
  have h0 : (i 0).val < 1 := (i 0).isLt
  have h1 : (i 1).val < 1 := (i 1).isLt
  have h2 : (i 2).val < m := (i 2).isLt
  have h3 : (i 3).val < 4 := (i 3).isLt
  have z0 : (i 0).val = 0 := by omega
  have z1 : (i 1).val = 0 := by omega
  rw [shapeCast_apply _ _ i (ix3 (n0 := m) (n1 := 4) (n2 := 128) (i 2) (i 3) (i 4))]
  · rw [shapeCast_apply _ _ _ (ix2 (n0 := 4 * m) (n1 := 128) ⟨4 * (i 2).val + (i 3).val, by omega⟩ (i 4))]
    · refine extractStridedSlice_apply _ _ _ _ _ fun d => ?_
      fin_cases d
      · show a.val = o + (4 * (i 2).val + (i 3).val)
        omega
      · exact hb
    · rw [Shape.rowMajor_val_two, Shape.rowMajor_val_three]
      show (4 * (i 2).val + (i 3).val) * 128 + (i 4).val = ((i 2).val * 4 + (i 3).val) * 128 + (i 4).val
      omega
  · rw [Shape.rowMajor_val_three, Shape.rowMajor_val_five]
    show ((i 2).val * 4 + (i 3).val) * 128 + (i 4).val = ((((i 0).val * 1 + (i 1).val) * m + (i 2).val) * 4 + (i 3).val) * 128 + (i 4).val
    rw [z0, z1]
    omega

/-- A run of pixels of a piece. -/
def inSub (u : Sub) (x : S10x14x18x4x128.Idx) : Prop := (x 1).val = u.y ∧ u.x ≤ (x 2).val ∧ (x 2).val < u.x + u.m

theorem ok_stO {u : Sub} {p : Fin 8} {hu : u.Ok (piece p).r (piece p).M} {q : Nat} {hq : q < 9} {j : Fin 2} {K : PG F}
    {v : FVec F ⟨2, ![(piece p).M, 256]⟩ .bf16} (hv : v = outP E q hq (piece p) (piece_ok p)) (he : q % 2 = 0)
    (hD : ∀ x : S10x14x18x4x128.Idx, (x 0).val / 2 * 2 = q → x ∈ σ.dO)
    (hR : Ok E c Q { σ with pO := fun x => σ.pO x ∨ ((x 0).val = q + j ∧ inSub u x) } A K) :
    Ok E c Q σ A (stO u (piece p) hu q hq j v K) := by
  have hj := j.isLt
  refine ok_updO (fun x hx => ?_) (fun i => ?_) (fun x hx => hx.imp_right fun h => mem_rO.2 h) hR
  · rw [mem_rO] at hx
    exact hD x (by omega)
  · obtain ⟨o1, o2, o3, o4, o5⟩ := hu
    have h0 : (i 0).val < 1 := (i 0).isLt
    have h1 : (i 1).val < 1 := (i 1).isLt
    have h2 : (i 2).val < u.m := (i 2).isLt
    have h3 : (i 3).val < 4 := (i 3).isLt
    have h4 : (i 4).val < 128 := (i 4).isLt
    subst hv
    have e0 : ((rO (q + j) u.y u.x u.m (by omega) o1 o2).emb i 0).val = q + j + 1 * (i 0).val := rfl
    have e1 : ((rO (q + j) u.y u.x u.m (by omega) o1 o2).emb i 1).val = u.y + 1 * (i 1).val := rfl
    have e2 : ((rO (q + j) u.y u.x u.m (by omega) o1 o2).emb i 2).val = u.x + 1 * (i 2).val := rfl
    have e3 : ((rO (q + j) u.y u.x u.m (by omega) o1 o2).emb i 3).val = 0 + 1 * (i 3).val := rfl
    have e4 : ((rO (q + j) u.y u.x u.m (by omega) o1 o2).emb i 4).val = 0 + 1 * (i 4).val := rfl
    have key : ∀ (r q' : Nat) (hq' : q' < 9) (l : Fin 256), q' = q → r = (piece p).r + u.o + 4 * (i 2).val + (i 3).val → l.val = j * 128 + (i 4).val →
        outE E r q' hq' l = shapeCast ⟨5, ![1, 1, u.m, 4, 128]⟩ (shapeCast ⟨3, ![u.m, 4, 128]⟩
          (extractStridedSlice ⟨2, ![4 * u.m, 128]⟩ ![u.o, j * 128] (outP E q hq (piece p) (piece_ok p)) (slM o4 j.isLt)) (scM u.m)) (scM' u.m) i := by
      rintro r q' hq' l rfl hr hl
      rw [outE_at p r q' hq' l (by omega) (by omega)]
      exact (castO_apply _ o4 j.isLt i _ _ (by show r - _ = _; omega) hl).symm
    have hx : ∀ x : S10x14x18x4x128.Idx, (x 0).val = q + j + 1 * (i 0).val → (x 1).val = u.y + 1 * (i 1).val → (x 2).val = u.x + 1 * (i 2).val →
        (x 3).val = 0 + 1 * (i 3).val → (x 4).val = 0 + 1 * (i 4).val → oT E x = shapeCast ⟨5, ![1, 1, u.m, 4, 128]⟩ (shapeCast ⟨3, ![u.m, 4, 128]⟩
          (extractStridedSlice ⟨2, ![4 * u.m, 128]⟩ ![u.o, j * 128] (outP E q hq (piece p) (piece_ok p)) (slM o4 j.isLt)) (scM u.m)) (scM' u.m) i := by
      intro x e0 e1 e2 e3 e4
      refine key _ _ _ _ (by omega) (by omega) ?_
      show (x 0).val % 2 * 128 + (x 4).val = _
      have : (x 0).val % 2 = j.val := by omega
      rw [this, e4]
      omega
    exact (hx _ e0 e1 e2 e3 e4).symm

/-- A piece of the staged result, 128 columns. -/
theorem ok_stPiece {p : Fin 8} {q : Nat} {hq : q < 9} {j : Fin 2} {K : PG F}
    {v : FVec F ⟨2, ![(piece p).M, 256]⟩ .bf16} (hv : v = outP E q hq (piece p) (piece_ok p)) (he : q % 2 = 0)
    (hD : ∀ x : S10x14x18x4x128.Idx, (x 0).val / 2 * 2 = q → x ∈ σ.dO)
    (hR : Ok E c Q { σ with pO := fun x => σ.pO x ∨ ((x 0).val = q + j ∧ pieceOf (rowO x) = p) } A K) :
    Ok E c Q σ A (stPiece (piece p) (piece_ok p) q hq j v K) := by
  have cov : ∀ x : S10x14x18x4x128.Idx, pieceOf (rowO x) = p → inSub (piece p).s0 x ∨ ∃ u ∈ (piece p).s1, inSub u x := by
    intro x hp
    have h1 : (x 1).val < 14 := (x 1).isLt
    have h2 : (x 2).val < 18 := (x 2).isLt
    have h3 : (x 3).val < 4 := (x 3).isLt
    have hr := pieceOf_range (rowO x) (by show (x 1).val * 72 + (x 2).val * 4 + (x 3).val < 1008; omega)
    rw [hp] at hr
    unfold inSub
    fin_cases p <;> simp only [piece, rowO, Option.mem_def, Option.some.injEq, exists_eq_left', reduceCtorEq, _root_.false_and, exists_false] at hr ⊢ <;> omega
  unfold stPiece
  refine ok_stO hv he hD ?_
  split
  · rename_i hs
    refine ok_wkO (σ := { σ with pO := _ }) (fun x hx => ?_) hR
    rcases hx with hx | ⟨h0, hp⟩
    · exact .inl hx
    · rcases cov x hp with h | ⟨u, hu, -⟩
      · exact .inr ⟨h0, h⟩
      · rw [hs] at hu; exact absurd hu (by simp)
  · rename_i u hs
    refine ok_stO (σ := { σ with pO := _ }) hv he hD ?_
    refine ok_wkO (σ := { σ with pO := _ }) (fun x hx => ?_) hR
    rcases hx with hx | ⟨h0, hp⟩
    · exact .inl (.inl hx)
    · rcases cov x hp with h | ⟨u', hu, h⟩
      · exact .inl (.inr ⟨h0, h⟩)
      · rw [hs] at hu
        obtain rfl : u = u' := by simpa using hu
        exact .inr ⟨h0, h⟩

theorem ok_drain {u : Fin 2} {q : Nat} {hq : q < 9} {p : Fin 8} {mx : Mxu F} {K : Mxu F → PG F} (he : q % 2 = 0)
    (hB : σ.dB = Finset.univ) (hD : ∀ x : S10x14x18x4x128.Idx, (x 0).val / 2 * 2 = q → x ∈ σ.dO)
    (hv : mx.read u ((piece p).r / 4) (piece_ok p).fits = accV E (q * 128) (by omega) (piece p) (piece_ok p) 18)
    (hR : Ok E c Q { σ with pO := fun x => σ.pO x ∨ ((x 0).val / 2 * 2 = q ∧ pieceOf (rowO x) = p) } A
      (K (mx.pop u ((piece p).r / 4) (piece p).M (piece_ok p).fits))) :
    Ok E c Q σ A (drain u q hq (piece p) (piece_ok p) mx K) := by
  unfold drain
  rw [hv]
  refine ok_ldB (fun x _ => hB ▸ Finset.mem_univ x) ?_
  refine ok_stPiece rfl he hD (ok_stPiece (σ := { σ with pO := _ }) rfl he hD ?_)
  refine ok_wkO (σ := { σ with pO := _ }) (fun x hx => ?_) hR
  rcases hx with hx | ⟨h0, hp⟩
  · exact .inl (.inl hx)
  · have : (x 0).val = q + (0 : Fin 2).val ∨ (x 0).val = q + (1 : Fin 2).val := by
      show (x 0).val = q + 0 ∨ (x 0).val = q + 1
      omega
    rcases this with h | h
    · exact .inl (.inr ⟨h, hp⟩)
    · exact .inr ⟨h, hp⟩

/-- While draining: the first `n u` pieces of the unit `u` are drained. -/
structure DI (E : Ins F) (C : Cols) (n : Fin 2 → Nat) (mx : Mxu F) : Prop where
  acc : MI E C (fun u p => if C.has u p ∧ n u ≤ p.val then 18 else 0) mx
  reg : ∀ u r, mx.reg u r = none

theorem RI.drain {C : Cols} {mx : Mxu F} (h : RI E C 18 mx) : DI E C (fun _ => 0) mx := by
  refine ⟨?_, h.reg⟩
  convert h.acc using 1
  funext u p
  simp only [Nat.zero_le, and_true]

theorem DI.done {C C' : Cols} {mx : Mxu F} (h : DI E C (fun _ => 8) mx) : RI E C' 0 mx ∧ mx.Drained := by
  have h0 : ∀ u R, mx.live u R = false := by
    intro u R
    refine Bool.eq_false_iff.2 fun hl => ?_
    have := ((h.acc.live u R).1 hl).2
    rw [if_neg (by rintro ⟨-, h⟩; have := (pieceOf R.val).isLt; omega)] at this
    exact absurd this (by decide)
  refine ⟨⟨⟨fun u R => ?_, fun u p hp => ?_⟩, h.reg⟩, fun u r => ?_, h0⟩
  · rw [h0, ite_self]
    exact ⟨fun h => absurd h (by decide), fun h => absurd h.2 (by decide)⟩
  · rw [ite_self] at hp; exact absurd hp (by decide)
  · rw [h.reg]; rfl

theorem init_RI {C : Cols} : RI E C 0 (Mxu.init : Mxu F) := by
  refine ⟨⟨fun u R => ?_, fun u p hp => ?_⟩, fun u r => Mxu.reg_init u r⟩
  · rw [ite_self]
    exact ⟨fun h => absurd h (by simp), fun h => absurd h.2 (by decide)⟩
  · rw [ite_self] at hp; exact absurd hp (by decide)

theorem DI.pop {C : Cols} {n n' : Fin 2 → Nat} {u : Fin 2} {p : Fin 8} {mx : Mxu F} (h : DI E C n mx) (hn : n u = p)
    (hn' : ∀ u', n' u' = if u' = u then p.val + 1 else n u') : DI E C n' (mx.pop u ((piece p).r / 4) (piece p).M (piece_ok p).fits) := by
  refine ⟨h.acc.pop u p (by simp only [hn', if_true]; rw [if_neg]; rintro ⟨-, h⟩; omega) fun u' p' hne => ?_, h.reg⟩
  by_cases hu : u' = u
  · subst hu
    have hpp : p'.val ≠ p.val := fun e => hne ⟨rfl, Fin.ext e⟩
    have : (n' u' ≤ p'.val) ↔ n u' ≤ p'.val := by rw [hn', if_pos rfl, hn]; omega
    simp only [this]
  · simp only [hn', if_neg hu]

theorem DI.read {C : Cols} {n : Fin 2 → Nat} {u : Fin 2} {p : Fin 8} {mx : Mxu F} (h : DI E C n mx) (hn : n u = p) (hh : C.has u p)
    {q : Nat} (hq : q < 9) (hc : C.q u = q * 128) :
    mx.read u ((piece p).r / 4) (piece_ok p).fits = accV E (q * 128) (by omega) (piece p) (piece_ok p) 18 := by
  have hif : (if C.has u p ∧ n u ≤ p.val then 18 else 0) = 18 := if_pos ⟨hh, by rw [hn]⟩
  have h1 := h.acc.val u p (by rw [hif]; decide)
  rw [hif] at h1
  rw [h1]
  have : ∀ a b (ha : a + 256 ≤ 1280) (hb : b + 256 ≤ 1280), a = b → accV E a ha (piece p) (piece_ok p) 18 = accV E b hb (piece p) (piece_ok p) 18 := by
    rintro a b ha hb rfl; rfl
  exact this _ _ _ _ hc

/-- What is known of the staged result with some blocks of columns drained. -/
abbrev St.o (σ : St) (p : S10x14x18x4x128.Idx → Prop) : St := { σ with pO := p }

theorem pieceOf_lt (r : Nat) : (pieceOf r).val < 8 := (pieceOf r).isLt

theorem ok_drains {C : Cols} {q : Nat} {hq : q + 2 < 9} {mx : Mxu F} {K : Mxu F → PG F} (he : q % 2 = 0) (hs : C.shared = false)
    (h0 : C.c0 = q * 128) (h1 : C.c1 = (q + 2) * 128)
    (hB : σ.dB = Finset.univ) (hD : ∀ x : S10x14x18x4x128.Idx, (x 0).val / 2 * 2 = q ∨ (x 0).val / 2 * 2 = q + 2 → x ∈ σ.dO)
    (h : RI E C 18 mx)
    (hR : ∀ C' mx', RI E C' 0 mx' → Ok E c Q (σ.o fun x => σ.pO x ∨ ((x 0).val / 2 * 2 = q ∨ (x 0).val / 2 * 2 = q + 2)) A (K mx')) :
    Ok E c Q σ A (drains q hq mx K) := by
  have hh : ∀ u p, C.has u p := fun u p e => by rw [hs] at e; exact absurd e (by decide)
  have hstart : Ok E c Q (σ.o fun x => σ.pO x ∨ (((x 0).val / 2 * 2 = q ∨ (x 0).val / 2 * 2 = q + 2) ∧ (pieceOf (rowO x)).val < 0)) A (drains q hq mx K) := by
    refine loop_rule (I := fun n mx => DI E C (fun _ => n) mx)
      (P := fun n K => Ok E c Q (σ.o fun x => σ.pO x ∨ (((x 0).val / 2 * 2 = q ∨ (x 0).val / 2 * 2 = q + 2) ∧ (pieceOf (rowO x)).val < n)) A K)
      (fun p mx K h hR => ?_) h.drain fun mx' h' => ?_
    · refine ok_drain (σ := σ.o _) he hB (fun x hx => hD x (.inl hx)) (h.read (u := 0) rfl (hh 0 p) (by omega) h0) ?_
      have h' := h.pop (u := 0) (n' := fun u => if u = 0 then p.val + 1 else p.val) (p := p) rfl (fun u => rfl)
      refine ok_drain (σ := σ.o _) (by omega) hB (fun x hx => hD x (.inr hx)) (h'.read (u := 1) rfl (hh 1 p) hq h1) ?_
      have h'' := h'.pop (u := 1) (n' := fun u => p.val + 1) (p := p) rfl (fun u => by fin_cases u <;> rfl)
      refine ok_wkO (σ := σ.o _) (fun x hx => ?_) (hR _ h'')
      show ((_ ∨ _) ∨ _) ∨ _
      rcases hx with hx | ⟨hc, hp⟩
      · exact .inl (.inl (.inl hx))
      · by_cases hlt : (pieceOf (rowO x)).val < p.val
        · exact .inl (.inl (.inr ⟨hc, hlt⟩))
        · have hpp : pieceOf (rowO x) = p := Fin.ext (by omega)
          rcases hc with hc | hc
          · exact .inl (.inr ⟨hc, hpp⟩)
          · exact .inr ⟨hc, hpp⟩
    · have hd := fun C' => (h'.done (C' := C')).1
      refine ok_wkO (σ := σ.o _) (fun x hx => ?_) (hR colsA _ (hd colsA))
      exact hx.imp_right fun h => ⟨h, pieceOf_lt _⟩
  exact ok_wkO (fun x hx => hx.elim id fun h => absurd h.2 (Nat.not_lt_zero _)) hstart

theorem ok_drainsC {mx : Mxu F} {K : Mxu F → PG F}
    (hB : σ.dB = Finset.univ) (hD : ∀ x : S10x14x18x4x128.Idx, (x 0).val / 2 * 2 = 8 → x ∈ σ.dO)
    (h : RI E colsC 18 mx)
    (hR : ∀ mx', mx'.Drained → Ok E c Q (σ.o fun x => σ.pO x ∨ (x 0).val / 2 * 2 = 8) A (K mx')) :
    Ok E c Q σ A (drainsC mx K) := by
  have hstart : Ok E c Q (σ.o fun x => σ.pO x ∨ ((x 0).val / 2 * 2 = 8 ∧ (pieceOf (rowO x)).val < 0)) A (drainsC mx K) := by
    refine loop_rule (I := fun n mx => DI E colsC (fun _ => n) mx)
      (P := fun n K => Ok E c Q (σ.o fun x => σ.pO x ∨ ((x 0).val / 2 * 2 = 8 ∧ (pieceOf (rowO x)).val < n)) A K)
      (fun p mx K h hR => ?_) h.drain fun mx' h' => ?_
    · have hw : ∀ x : S10x14x18x4x128.Idx, (σ.pO x ∨ ((x 0).val / 2 * 2 = 8 ∧ (pieceOf (rowO x)).val < p.val + 1)) →
          (σ.pO x ∨ ((x 0).val / 2 * 2 = 8 ∧ (pieceOf (rowO x)).val < p.val)) ∨ ((x 0).val / 2 * 2 = 8 ∧ pieceOf (rowO x) = p) := by
        intro x hx
        rcases hx with hx | ⟨hc, hp⟩
        · exact .inl (.inl hx)
        · by_cases hlt : (pieceOf (rowO x)).val < p.val
          · exact .inl (.inr ⟨hc, hlt⟩)
          · exact .inr ⟨hc, Fin.ext (by omega)⟩
      have hcongr : ∀ (u : Fin 2) mx', DI E colsC (fun u' => if u' = u then p.val + 1 else p.val) mx' → p.val / 4 = u.val → DI E colsC (fun _ => p.val + 1) mx' := by
        intro u mx' h hu
        refine ⟨?_, h.reg⟩
        convert h.acc using 1
        funext u' p'
        by_cases e : u' = u
        · simp only [if_pos e]
        · simp only [if_neg e]
          have : (colsC.has u' p' ∧ p.val + 1 ≤ p'.val) ↔ (colsC.has u' p' ∧ p.val ≤ p'.val) := by
            refine and_congr_right fun hh => ?_
            have hh : p'.val / 4 = u'.val := hh rfl
            have hne : u'.val ≠ u.val := fun e' => e (Fin.ext e')
            constructor
            · omega
            · intro h1
              by_contra hc
              have : p'.val = p.val := by omega
              rw [this] at hh
              omega
          simp only [this]
      by_cases hp : p.val ≤ 3
      · rw [show (p.val.ble 3) = true from Nat.ble_eq_true_of_le hp, cond_true]
        refine ok_drain (σ := σ.o _) (by decide) hB hD (h.read (u := 0) rfl (fun _ => by show p.val / 4 = 0; omega) (by decide) rfl) ?_
        have h' := h.pop (u := 0) (n' := fun u => if u = 0 then p.val + 1 else p.val) (p := p) rfl (fun u => rfl)
        exact ok_wkO (σ := σ.o _) hw (hR _ (hcongr 0 _ h' (by show p.val / 4 = 0; omega)))
      · rw [show (p.val.ble 3) = false from Bool.eq_false_iff.2 fun e => hp (Nat.le_of_ble_eq_true e), cond_false]
        refine ok_drain (σ := σ.o _) (by decide) hB hD (h.read (u := 1) rfl (fun _ => by show p.val / 4 = 1; omega) (by decide) rfl) ?_
        have h' := h.pop (u := 1) (n' := fun u => if u = 1 then p.val + 1 else p.val) (p := p) rfl (fun u => rfl)
        exact ok_wkO (σ := σ.o _) hw (hR _ (hcongr 1 _ h' (by show p.val / 4 = 1; omega)))
    · refine ok_wkO (σ := σ.o _) (fun x hx => ?_) (hR _ (h'.done (C' := colsA)).2)
      exact hx.imp_right fun h => ⟨h, pieceOf_lt _⟩
  exact ok_wkO (fun x hx => hx.elim id fun h => absurd h.2 (Nat.not_lt_zero _)) hstart

end Cert.KernelIdeal.Conv
-- ==== Proof.Body.lean ====
module

public import proofs.«01_k».proof.Proof.InOut
public import proofs.«01_k».proof.Proof.Drain

/-! # The body

The three phases between the copies: what has landed and what is known at every step, and that the body is right. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts] {E : Ins F} {c : Dev nD} {Q : PUnit → PP F} {σ : St} {A : PP F} {K : PG F}

/-! ## What lands -/

theorem landX {D D' : Finset _} (hd : Disjoint σ.dX D) (he : D' = σ.dX ∪ D) (A : PP F) :
    iprop(Kn c vX D E.X ∗ Ctx E c σ A) ⊢ Ctx E c { σ with dX := D' } A := by
  subst he
  unfold Ctx
  have h := Has.join (F := F) c (m := vX) (T := E.X) hd (S := (· ∈ σ.dX)) (S' := (· ∈ D)) (S'' := (· ∈ σ.dX ∪ D))
    fun x hx => (Finset.mem_union.mp hx).imp (fun h => ⟨h, h⟩) fun h => ⟨h, h⟩
  iintro ⟨HD, H1, HR⟩
  isplitl [HD H1]
  · iapply h
    isplitl [H1]
    · iexact H1
    · iexact HD
  · iexact HR

theorem landXs (A : PP F) : iprop(Kn c vXs Finset.univ E.Xs ∗ Ctx E c σ A) ⊢ Ctx E c { σ with dXs := Finset.univ } A := by
  unfold Ctx
  iintro ⟨HD, H1, -, HR⟩
  isplitl [H1]
  · iexact H1
  isplitl [HD]
  · iexact HD
  · iexact HR

theorem landW {D D' : Finset _} (hd : Disjoint σ.dW D) (he : D' = σ.dW ∪ D) (A : PP F) :
    iprop(Kn c vW D E.W ∗ Ctx E c σ A) ⊢ Ctx E c { σ with dW := D' } A := by
  subst he
  unfold Ctx
  have h := Has.join (F := F) c (m := vW) (T := E.W) hd (S := (· ∈ σ.dW)) (S' := (· ∈ D)) (S'' := (· ∈ σ.dW ∪ D))
    fun x hx => (Finset.mem_union.mp hx).imp (fun h => ⟨h, h⟩) fun h => ⟨h, h⟩
  iintro ⟨HD, H1, H2, H3, HR⟩
  isplitl [H1]
  · iexact H1
  isplitl [H2]
  · iexact H2
  isplitl [HD H3]
  · iapply h
    isplitl [H3]
    · iexact H3
    · iexact HD
  · iexact HR

theorem landWs (A : PP F) : iprop(Kn c vWs Finset.univ E.Ws ∗ Ctx E c σ A) ⊢ Ctx E c { σ with dWs := Finset.univ } A := by
  unfold Ctx
  iintro ⟨HD, H1, H2, H3, -, HR⟩
  isplitl [H1]
  · iexact H1
  isplitl [H2]
  · iexact H2
  isplitl [H3]
  · iexact H3
  isplitl [HD]
  · iexact HD
  · iexact HR

theorem landB (A : PP F) : iprop(Kn c vB Finset.univ E.B ∗ Ctx E c σ A) ⊢ Ctx E c { σ with dB := Finset.univ } A := by
  unfold Ctx
  iintro ⟨HD, H1, H2, H3, H4, -, HR⟩
  isplitl [H1]
  · iexact H1
  isplitl [H2]
  · iexact H2
  isplitl [H3]
  · iexact H3
  isplitl [H4]
  · iexact H4
  isplitl [HD]
  · iexact HD
  · iexact HR

/-! ## What is done of the copies in -/

variable (E c) in
abbrev DX (k : Fin 2) : PP F := iprop(Kn c hX (GX k) E.X ∗ smI c k (by omega))
variable (E c) in
abbrev DF (k : Fin 2) : PP F := iprop(Kn c hW (GF k) E.W ∗ smW c k (by omega))
variable (E c) in
abbrev R1 : PP F := iprop(emp ∗ Kn c hWs Finset.univ E.Ws ∗ smI c 3 (by decide))
variable (E c) in
abbrev R2 : PP F := iprop(R1 E c ∗ DF E c 0)
variable (E c) in
abbrev R3 : PP F := iprop(R2 E c ∗ Kn c hXs Finset.univ E.Xs ∗ smI c 2 (by decide))
variable (E c) in
abbrev R4 : PP F := iprop(R3 E c ∗ DX E c 0)
variable (E c) in
abbrev R5 : PP F := iprop(R4 E c ∗ DX E c 1)
variable (E c) in
abbrev R6 : PP F := iprop(R5 E c ∗ DF E c 1)
variable (E c) in
abbrev R7 : PP F := iprop(R6 E c ∗ Kn c hW GN E.W ∗ smW c 2 (by decide))
variable (E c) in
abbrev R8 : PP F := iprop(R7 E c ∗ Kn c hW GL E.W ∗ smW c 3 (by decide))
variable (E c) in
abbrev R9 : PP F := iprop(R8 E c ∗ Kn c hB Finset.univ E.B ∗ smI c 4 (by decide))
variable (E c) in
abbrev R10 : PP F := iprop(R9 E c ∗ Kn c hW GR E.W ∗ smW c 4 (by decide))

/-! ## The weights and scales of a step -/

/-- The tap of a step. -/
abbrev tapOf (s : Fin 18) : Fin 9 := ⟨s.val / 2, by omega⟩

theorem tap_of {s : Fin 18} {x : S3x3x512x1280.Idx} (h0 : (x 0).val = tapY s) (h1 : (x 1).val = tapX s) : Tap (tapOf s) x := by
  refine ⟨h0, h1.trans ?_⟩
  show (off3 (s.val / 6)).val = (off3 (s.val / 2 / 3)).val
  rw [Nat.div_div_eq_div_mul]

/-- The scales of the first `n` taps. -/
def SwP (n : Nat) (x : S144x1280.Idx) : Prop := ∃ t : Fin 9, t.val < n ∧ (x 0).val / 16 = (off3 (t.val % 3)).val * 3 + (off3 (t.val / 3)).val

theorem SwP.of_step {s : Fin 18} {n : Nat} (hn : s.val / 2 < n) {x : S144x1280.Idx} (h : (x 0).val / 16 = (tapY s).val * 3 + (tapX s).val) : SwP n x := by
  refine ⟨tapOf s, hn, h.trans ?_⟩
  show (off3 (s.val / 2 % 3)).val * 3 + (off3 (s.val / 6)).val = (off3 (s.val / 2 % 3)).val * 3 + (off3 (s.val / 2 / 3)).val
  rw [Nat.div_div_eq_div_mul]

theorem SwP.succ {s : Fin 18} {n : Nat} (hn : s.val / 2 = n) {x : S144x1280.Idx} (h : SwP (n + 1) x) :
    SwP n x ∨ (x 0).val / 16 = (tapY s).val * 3 + (tapX s).val := by
  obtain ⟨t, ht, hx⟩ := h
  by_cases h : t.val < n
  · exact .inl ⟨t, h, hx⟩
  · right
    have ht' : t = tapOf s := Fin.ext (by show t.val = s.val / 2; omega)
    rw [hx, ht']
    show (off3 (s.val / 2 % 3)).val * 3 + (off3 (s.val / 2 / 3)).val = (off3 (s.val / 2 % 3)).val * 3 + (off3 (s.val / 6)).val
    rw [Nat.div_div_eq_div_mul]

theorem colsA_lt {u : Fin 2} {n : Nat} (h : n < colsA.q u + 256) : n < 512 := by
  have : ∀ u, colsA.q u = 0 ∨ colsA.q u = 256 := by decide
  rcases this u with h' | h' <;> omega

theorem wokA {s : Fin 18} {n : Nat} (hn : s.val / 2 < n) (hs : σ.pSw = SwP n)
    (hw : ∀ x, Tap (tapOf s) x → (x 3).val < 512 → (x 2).val / 256 = half s → x ∈ σ.dW) : WOk colsA s σ :=
  ⟨fun x h0 h1 h2 ⟨u, _, hu⟩ => hw x (tap_of h0 h1) (colsA_lt hu) h2, fun x h => by rw [hs]; exact SwP.of_step hn h⟩

theorem wok_all {C : Cols} {s : Fin 18} (hs : σ.pSw = SwP 9) (hw : σ.dW = Finset.univ) : WOk C s σ :=
  ⟨fun x h0 h1 h2 _ => hw ▸ Finset.mem_univ x, fun x h => by rw [hs]; exact SwP.of_step (by omega) h⟩

theorem RI.any {C C' : Cols} {mx : Mxu F} (h : RI E C 0 mx) : RI E C' 0 mx := by
  obtain ⟨⟨hl, -⟩, hr⟩ := h
  refine ⟨⟨fun u R => ?_, fun u p hp => ?_⟩, hr⟩
  · have := hl u R
    rw [ite_self] at this ⊢
    exact this
  · rw [ite_self] at hp; exact absurd hp (lt_irrefl _)

/-! ## The first phase -/

/-- The state of the first phase's later steps. -/
abbrev stA (dW : Finset S3x3x512x1280.Idx) (dB : Finset S1280.Idx) (n : Nat) : St :=
  ⟨Finset.univ, Finset.univ, dW, Finset.univ, dB, SwP n, fun _ => True, geO 0, fun _ => False⟩

/-- The weights landed before the later step `i`, -/
def dWA (i : Nat) : Finset S3x3x512x1280.Idx := if i = 0 then LW2 else if i ≤ 4 then LW3 else LW4
/-- the bias, -/
def dBA (i : Nat) : Finset S1280.Idx := if i ≤ 4 then ∅ else Finset.univ
variable (E c) in
/-- and the copies. -/
def AA (O G : PP F) (i : Nat) : PP F :=
  if i = 0 then iprop(O ∗ R6 E c ∗ FN E c ∗ FL E c ∗ FB E c ∗ G) else if i ≤ 4 then iprop(O ∗ R7 E c ∗ FL E c ∗ FB E c ∗ G) else iprop(O ∗ R9 E c ∗ G)

theorem ok_waits {O G : PP F} {i : Fin 16} {n : Nat} (hR : Ok E c Q (stA (dWA (i.val + 1)) (dBA (i.val + 1)) n) (AA E c O G (i.val + 1)) K) :
    Ok E c Q (stA (dWA i.val) (dBA i.val) n) (AA E c O G i.val) (waits i K) := by
  unfold waits
  by_cases h0 : i.val = 0
  · rw [show i.val.beq 0 = true from by rw [h0]; rfl, cond_true, show dWA i.val = LW2 from if_pos h0,
      show dBA i.val = ∅ from if_pos (by omega), show AA E c O G i.val = iprop(O ∗ R6 E c ∗ FN E c ∗ FL E c ∗ FB E c ∗ G) from if_pos h0]
    rw [show dWA (i.val + 1) = LW3 from by rw [h0]; rfl, show dBA (i.val + 1) = ∅ from by rw [h0]; rfl,
      show AA E c O G (i.val + 1) = iprop(O ∗ R7 E c ∗ FL E c ∗ FB E c ∗ G) from by
        unfold AA; rw [if_neg (by omega), if_pos (by omega)]] at hR
    exact ok_wait wait_N (landW LW3_disj rfl) hR
  · rw [show i.val.beq 0 = false from Bool.eq_false_iff.2 fun h => h0 (Nat.eq_of_beq_eq_true h), cond_false]
    by_cases h4 : i.val = 4
    · rw [show i.val.beq 4 = true from by rw [h4]; rfl, cond_true, show dWA i.val = LW3 from by rw [h4]; rfl,
        show dBA i.val = ∅ from by rw [h4]; rfl, show AA E c O G i.val = iprop(O ∗ R7 E c ∗ FL E c ∗ FB E c ∗ G) from by
          unfold AA; rw [if_neg (by omega), if_pos (by omega)]]
      rw [show dWA (i.val + 1) = LW4 from by rw [h4]; rfl, show dBA (i.val + 1) = Finset.univ from by rw [h4]; rfl,
        show AA E c O G (i.val + 1) = iprop(O ∗ R9 E c ∗ G) from by unfold AA; rw [if_neg (by omega), if_neg (by omega)]] at hR
      exact ok_wait wait_L (landW LW4_disj rfl) (ok_wait wait_B landB hR)
    · rw [show i.val.beq 4 = false from Bool.eq_false_iff.2 fun h => h4 (Nat.eq_of_beq_eq_true h), cond_false]
      have e1 : dWA (i.val + 1) = dWA i.val := by
        unfold dWA; by_cases h : i.val ≤ 4
        · rw [if_neg (by omega), if_pos (by omega), if_neg h0, if_pos h]
        · rw [if_neg (by omega), if_neg (by omega), if_neg h0, if_neg h]
      have e2 : dBA (i.val + 1) = dBA i.val := by
        unfold dBA; by_cases h : i.val ≤ 4
        · rw [if_pos (by omega), if_pos h]
        · rw [if_neg (by omega), if_neg h]
      have e3 : AA E c O G (i.val + 1) = AA E c O G i.val := by
        unfold AA; by_cases h : i.val ≤ 4
        · rw [if_neg (by omega), if_pos (by omega), if_neg h0, if_pos h]
        · rw [if_neg (by omega), if_neg (by omega), if_neg h0, if_neg h]
      rw [e1, e2, e3] at hR
      exact hR

theorem mem_dWA {i : Fin 16} {x} (ht : Tap (tapOf ⟨i.val + 2, by omega⟩) x) (h : (x 3).val < 512) : x ∈ dWA (i.val + 1) := by
  unfold dWA
  rw [if_neg (by omega)]
  split
  · exact (mem_LW3 ht).2 ⟨by show (i.val + 2) / 2 < 3; omega, h⟩
  · exact mem_LW4.2 h

theorem ok_stepA {O G : PP F} {i : Fin 16} {mx : Mxu F} {K : Mxu F → PG F} (h : RI E colsA (i.val + 2) mx)
    (hR : ∀ mx', RI E colsA (i.val + 1 + 2) mx' → Ok E c Q (stA (dWA (i.val + 1)) (dBA (i.val + 1)) ((i.val + 1 + 3) / 2)) (AA E c O G (i.val + 1)) (K mx')) :
    Ok E c Q (stA (dWA i.val) (dBA i.val) ((i.val + 3) / 2)) (AA E c O G i.val) (stepA i mx K) := by
  have hi := i.isLt
  have hstep : Ok E c Q (stA (dWA (i.val + 1)) (dBA (i.val + 1)) ((i.val + 1 + 3) / 2)) (AA E c O G (i.val + 1)) (step colsA ⟨i.val + 2, by omega⟩ mx K) := by
    refine ok_step (fun h => absurd h (by decide)) (wokA (n := (i.val + 1 + 3) / 2) (by show (i.val + 2) / 2 < _; omega) rfl fun x ht h3 _ => mem_dWA ht h3)
      (fun p x _ _ _ => trivial) h fun mx' h' => hR mx' ?_
    rw [show i.val + 1 + 2 = i.val + 2 + 1 from by omega]
    exact h'
  refine ok_waits ?_
  by_cases he : i.val % 2 = 0
  · rw [show (i.val % 2).beq 0 = true from by rw [he]; rfl, cond_true]
    refine ok_scaleW rfl ?_
    refine ok_wkSw (p := SwP ((i.val + 1 + 3) / 2)) (fun x hx => ?_) hstep
    refine SwP.succ (s := ⟨i.val + 2, by omega⟩) (n := (i.val + 3) / 2) (by show (i.val + 2) / 2 = _; omega) ?_
    rw [show (i.val + 3) / 2 + 1 = (i.val + 1 + 3) / 2 from by omega]
    exact hx
  · rw [show (i.val % 2).beq 0 = false from Bool.eq_false_iff.2 fun h => he (Nat.eq_of_beq_eq_true h), cond_false]
    rw [show (i.val + 1 + 3) / 2 = (i.val + 3) / 2 from by omega] at hstep
    exact hstep

/-- The later steps of the first phase. -/
theorem ok_loopA {O G : PP F} {mx : Mxu F} {K : Mxu F → PG F} (h : RI E colsA 2 mx)
    (hR : ∀ mx', RI E colsA 18 mx' → Ok E c Q (stA LW4 Finset.univ 9) iprop(O ∗ R9 E c ∗ G) (K mx')) :
    Ok E c Q (stA LW2 ∅ 1) iprop(O ∗ R6 E c ∗ FN E c ∗ FL E c ∗ FB E c ∗ G) (loop 16 stepA mx K) := by
  have e0 : AA E c O G 0 = iprop(O ∗ R6 E c ∗ FN E c ∗ FL E c ∗ FB E c ∗ G) := if_pos rfl
  have e1 : AA E c O G 16 = iprop(O ∗ R9 E c ∗ G) := by unfold AA; rw [if_neg (by decide), if_neg (by decide)]
  have d0 : dWA 0 = LW2 := if_pos rfl
  have d1 : dWA 16 = LW4 := by unfold dWA; rw [if_neg (by decide), if_neg (by decide)]
  have b0 : dBA 0 = ∅ := if_pos (by decide)
  have b1 : dBA 16 = Finset.univ := if_neg (by decide)
  have hK : ∀ mx', RI E colsA (16 + 2) mx' → Ok E c Q (stA (dWA 16) (dBA 16) ((16 + 3) / 2)) (AA E c O G 16) (K mx') := fun mx' h' => by
    rw [e1, d1, b1]; exact hR mx' h'
  have key := loop_rule (b := stepA) (I := fun i mx => RI E colsA (i + 2) mx) (P := fun i K => Ok E c Q (stA (dWA i) (dBA i) ((i + 3) / 2)) (AA E c O G i) K)
    (fun i mx K h hR => ok_stepA h hR) h hK
  rw [e0, d0, b0] at key
  exact key

/-- The state before the first phase. -/
abbrev st0 (p : S12x1168x128.Idx → Prop) : St := ⟨∅, ∅, ∅, ∅, ∅, fun _ => False, p, geO 0, fun _ => False⟩
/-- The state after the first phase's steps, some of the result staged. -/
abbrev stB (dW : Finset S3x3x512x1280.Idx) (k : Nat) (p : S10x14x18x4x128.Idx → Prop) : St :=
  ⟨Finset.univ, Finset.univ, dW, Finset.univ, Finset.univ, SwP 9, fun _ => True, geO k, p⟩

/-- Knowing less of the result. -/
theorem ok_eqO {p : S10x14x18x4x128.Idx → Prop} {σ' : St} (he : σ = σ') (hR : Ok E c Q σ' A K) : Ok E c Q σ A K := he ▸ hR

theorem ok_phaseA {O G : PP F} {K : Mxu F → PG F}
    (hR : ∀ mx, RI E colsB 0 mx → Ok E c Q (stB LW4 0 fun x => False ∨ ((x 0).val / 2 * 2 = 0 ∨ (x 0).val / 2 * 2 = 0 + 2)) iprop(O ∗ R9 E c ∗ G) (K mx)) :
    Ok E c Q (st0 Pad) iprop(O ∗ emp ∗ FWs E c ∗ FF E c 0 ∗ FXs E c ∗ FX E c 0 ∗ FX E c 1 ∗ FF E c 1 ∗ FN E c ∗ FL E c ∗ FB E c ∗ G)
      (phaseA Mxu.init K) := by
  unfold phaseA
  refine ok_wait wait_Ws landWs ?_
  refine ok_wait (wait_F 0) (landW (D' := LW1) (Finset.disjoint_empty_left _) (Finset.empty_union _).symm) ?_
  refine ok_wait wait_Xs landXs ?_
  refine ok_wait (wait_X 0) (landX (D' := GX 0) (Finset.disjoint_empty_left _) (Finset.empty_union _).symm) ?_
  refine ok_groups rfl (ok_scaleW rfl (ok_wkSw (p := SwP 1) (fun x hx => ?_) (ok_wkXb (p := XbP 0 0) (fun x hx => ?_) ?_)))
  · exact (SwP.succ (s := 0) (n := 0) rfl hx).imp (fun ⟨_, h, _⟩ => absurd h (Nat.not_lt_zero _)) id
  · rcases hx with h | h | h
    · exact h
    · exact .inl (by omega)
    · exact .inl (by omega)
  refine ok_stepP (k := 0) (n0 := rdy) (n1 := fun _ => 0) rfl
    (wokA (n := 1) (by decide) rfl fun x ht h3 h2 => (mem_GF' ht).2 ⟨rfl, h2, h3⟩)
    (fun x hx => mem_GX.2 hx) (fun n => (if_pos rfl).symm) (fun n => (if_pos rfl).symm) init_RI fun mx h => ?_
  refine ok_wait (wait_X 1) (landX (D' := Finset.univ) GX_disj GX_univ.symm) ?_
  refine ok_wait (wait_F 1) (landW (D' := LW2) LW2_disj rfl) ?_
  refine ok_stepP (σ := ⟨Finset.univ, Finset.univ, LW2, Finset.univ, ∅, SwP 1, fun _ => False, geO 0, fun _ => False⟩) (k := 1) (n0 := fun _ => 14) (n1 := rdy) rfl
    (wokA (n := 1) (by decide) rfl fun x ht h3 h2 => (mem_LW2 ht).2 ⟨rfl, h3⟩)
    (fun x hx => Finset.mem_univ x) (fun n => (if_neg (by decide)).symm) (fun n => (if_neg (by decide)).symm) h fun mx h => ?_
  refine ok_wkXb (p := fun _ => True) (fun x _ => ?_) ?_
  · show Pad x ∨ _ ∧ (x 1).val < 80 + 72 * 14 ∨ _ ∧ (x 1).val < 80 + 72 * 14
    unfold Pad
    omega
  refine ok_loopA h fun mx h => ?_
  exact ok_drains rfl rfl rfl rfl rfl
    (fun x _ => Finset.mem_filter.2 ⟨Finset.mem_univ _, Nat.zero_le _⟩) h fun C' mx' h' => hR mx' h'.any

theorem ok_phaseB {O G : PP F} {mx : Mxu F} {p : S10x14x18x4x128.Idx → Prop} {K : Mxu F → PG F} (h : RI E colsB 0 mx)
    (hR : ∀ mx, RI E colsC 0 mx → Ok E c Q (stB Finset.univ 4 fun x => p x ∨ ((x 0).val / 2 * 2 = 4 ∨ (x 0).val / 2 * 2 = 4 + 2))
      iprop(O ∗ R10 E c ∗ G) (K mx)) :
    Ok E c Q (stB LW4 4 p) iprop(O ∗ R9 E c ∗ FR E c ∗ G) (phaseB mx K) := by
  unfold phaseB
  refine ok_wait wait_R (landW (D' := Finset.univ) LW5_disj LW5_univ.symm) ?_
  refine loop_rule (I := fun i mx => RI E colsB i mx) (P := fun i K => Ok E c Q (stB Finset.univ 4 p) iprop(O ∗ R10 E c ∗ G) K)
    (fun i mx K h hR => ok_step (fun h => absurd h (by decide)) (wok_all rfl rfl) (fun p x _ _ _ => trivial) h hR) h fun mx h => ?_
  exact ok_drains rfl rfl rfl rfl rfl
    (fun x hx => Finset.mem_filter.2 ⟨Finset.mem_univ _, by omega⟩) h fun C' mx' h' => hR mx' h'.any

theorem ok_phaseC {mx : Mxu F} {p : S10x14x18x4x128.Idx → Prop} {K : Mxu F → PG F} (h : RI E colsC 0 mx)
    (hR : ∀ mx, mx.Drained → Ok E c Q (stB Finset.univ 8 fun x => p x ∨ (x 0).val / 2 * 2 = 8) A (K mx)) :
    Ok E c Q (stB Finset.univ 8 p) A (phaseC mx K) := by
  unfold phaseC
  refine loop_rule (I := fun i mx => RI E colsC i mx) (P := fun i K => Ok E c Q (stB Finset.univ 8 p) A K)
    (fun i mx K h hR => ok_step (fun _ => rfl) (wok_all rfl rfl) (fun p x _ _ _ => trivial) h hR) h fun mx h => ?_
  exact ok_drainsC rfl (fun x hx => Finset.mem_filter.2 ⟨Finset.mem_univ _, by omega⟩) h hR

/-- Some of the copies out are started. -/
theorem ok_startOs {n o : Nat} (hno : n + o ≤ 10) {dW : Finset S3x3x512x1280.Idx} {p : S10x14x18x4x128.Idx → Prop}
    (hp : ∀ x : S10x14x18x4x128.Idx, o ≤ (x 0).val → (x 0).val < n + o → p x) {K : PG F}
    (hR : Ok E c Q (stB dW (n + o) p) iprop(SO E c (n + o) ∗ A) K) :
    Ok E c Q (stB dW o p) iprop(SO E c o ∗ A) (loop' n (fun i => cpO startOut (i.val + o) (by omega)) K) := by
  have := loop'_rule (n := n) (b := fun i => cpO startOut (i.val + o) (by omega)) (K := K)
    (P := fun i K => Ok E c Q (stB dW (i + o) p) iprop(SO E c (i + o) ∗ A) K)
    (fun i K h => ok_startO ⟨i.val + o, by omega⟩ (by show i.val + o + 1 ≤ 10; omega) rfl
      (fun x hx => hp x (by rw [hx]; exact Nat.le_add_left _ _) (by rw [hx]; show i.val + o < n + o; omega)) (by
        rw [show i.val + 1 + o = i.val + o + 1 from by omega] at h; exact h)) hR
  rw [Nat.zero_add] at this
  exact this

/-! ## The whole body -/

/-- The state at the end. -/
abbrev stF : St := stB Finset.univ 10 fun x => (((False ∨ ((x 0).val / 2 * 2 = 0 ∨ (x 0).val / 2 * 2 = 0 + 2)) ∨ ((x 0).val / 2 * 2 = 4 ∨ (x 0).val / 2 * 2 = 4 + 2)) ∨
  (x 0).val / 2 * 2 = 8)

theorem ok_rest (hQ : Ctx E c stF iprop(WO E c 10 ∗ R10 E c ∗ emp) ⊢ Q ⟨⟩) :
    Ok E c Q (st0 fun _ => False) iprop(SO E c 0 ∗ emp ∗ FWs E c ∗ FF E c 0 ∗ FXs E c ∗ FX E c 0 ∗ FX E c 1 ∗ FF E c 1 ∗ FN E c ∗ FL E c ∗ FB E c ∗ FR E c ∗ emp)
      (zeros <| phaseA Mxu.init fun mx =>
        loop' 4 (fun i => cpO startOut i (by omega)) <| phaseB mx fun mx =>
        loop' 4 (fun i => cpO startOut (i + 4) (by omega)) <| phaseC mx fun mx =>
        loop' 2 (fun i => cpO startOut (i + 8) (by omega)) <| loop' 10 (fun i => cpO waitOut i i.isLt) <|
        mx.exit) := by
  refine ok_zeros (ok_phaseA fun mx h => ?_)
  refine ok_startOs (n := 4) (o := 0) (by decide) (fun x _ h => .inr (by omega)) ?_
  refine ok_phaseB h fun mx h => ?_
  refine ok_startOs (n := 4) (o := 4) (by decide) (fun x h h' => .inr (by omega)) ?_
  refine ok_phaseC h fun mx h => ?_
  refine ok_startOs (n := 2) (o := 8) (by decide) (fun x h h' => .inr (by omega)) ?_
  rw [show SO E c (2 + 8) = WO E c 0 from SO_all]
  refine loop'_rule (P := fun i K => Ok E c Q stF iprop(WO E c i ∗ R10 E c ∗ emp) K) (fun i K h => ok_waitO i (by omega) h) ?_
  unfold Ok
  refine BIBase.Entails.trans ?_ (wp_assume (defs := defs₀ (F := F)) (Q := Q) (k := fun _ => .ret ⟨⟩) Variants.none (c : Thread nD τ) none Set.univ h)
  exact hQ.trans fupd_intro

end Cert.KernelIdeal.Conv
-- ==== Proof.Ends.lean ====
module

public import proofs.«01_k».proof.Proof.Body

/-! # The body from whole buffers to whole buffers

Before it every input is known and nothing else; after it the result is known, the inputs are as they were and no copy
is under way. -/

@[expose] public section

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts] {E : Ins F} {c : Dev nD} {Q : PUnit → PP F}

section Whole
variable {sp : Space} {s : Shape} {e : EltTy} {m : Memref sig .tc sp s e} {S : s.Idx → Prop} {V : s.Idx → Elt F e}

/-- A whole buffer, part of it known. -/
theorem of_pts (h : m.IsWhole) (f : Buf (Elt F) (m.view.loc (c : Thread nD τ))) (hf : ∀ x, S x → m.view.read (Elt F) f x = V x) :
    (m.view.loc (c : Thread nD τ) ↦{fullShare} f : PP F) ⊢ Has c m Finset.univ S V := by
  have he : Finset.univ.map m.view.emb = Finset.univ := h.set_eq_univ
  unfold Has
  rw [he]
  iintro H
  iexists f
  isplitr
  · ipureintro; exact hf
  · iexact H

theorem to_pts (h : m.IsWhole) : (Has c m Finset.univ S V : PP F) ⊢
    iprop(∃ f : Buf (Elt F) (m.view.loc (c : Thread nD τ)), ⌜∀ x, S x → m.view.read (Elt F) f x = V x⌝ ∗ m.view.loc (c : Thread nD τ) ↦{fullShare} f) := by
  have he : Finset.univ.map m.view.emb = Finset.univ := h.set_eq_univ
  unfold Has
  rw [he]
end Whole

variable (c) in
/-- Every semaphore of the body, at zero. -/
def Sems : PP F :=
  iprop((smI c 0 (by decide) ∗ smI c 1 (by decide) ∗ smI c 2 (by decide) ∗ smI c 3 (by decide) ∗ smI c 4 (by decide))
    ∗ (smW c 0 (by decide) ∗ smW c 1 (by decide) ∗ smW c 2 (by decide) ∗ smW c 3 (by decide) ∗ smW c 4 (by decide))
    ∗ bigSep Finset.univ fun k : Fin 10 => smO c k (by omega))

variable (E c) in
/-- Before the body. -/
def Before : PP F :=
  iprop((Full c hX E.X ∗ Full c hXs E.Xs ∗ Full c hW E.W ∗ Full c hWs E.Ws ∗ Full c hB E.B) ∗ Any c hY (yT E)
    ∗ (Any c vX E.X ∗ Any c vXs E.Xs ∗ Any c vW E.W ∗ Any c vWs E.Ws ∗ Any c vB E.B ∗ Any c vSw (swT E) ∗ Any c vXb (xbT E) ∗ Any c vO (oT E))
    ∗ Sems c ∗ Ow c)

variable (E c) in
/-- After it. -/
def After : PP F :=
  iprop((Full c hX E.X ∗ Full c hXs E.Xs ∗ Full c hW E.W ∗ Full c hWs E.Ws ∗ Full c hB E.B) ∗ Full c hY (yT E)
    ∗ (Any c vX E.X ∗ Any c vXs E.Xs ∗ Any c vW E.W ∗ Any c vWs E.Ws ∗ Any c vB E.B ∗ Any c vSw (swT E) ∗ Any c vXb (xbT E) ∗ Any c vO (oT E))
    ∗ Sems c ∗ Ow c)

/-! ## Cutting and joining -/

section Cut
variable {sp : Space} {s : Shape} {e : EltTy} {m : Memref sig .tc sp s e} {S : s.Idx → Prop} {V : s.Idx → Elt F e}

theorem cutX {m : Memref sig .tc sp S14x18x4x512 e} {S : S14x18x4x512.Idx → Prop} {V : S14x18x4x512.Idx → Elt F e} :
    (Has c m Finset.univ S V : PP F) ⊢ iprop(Has c m (GX 0) S V ∗ Has c m (GX 1) S V) := by
  rw [← GX_univ]; exact Has.split c GX_disj

theorem cutW {m : Memref sig .tc sp S3x3x512x1280 e} {S : S3x3x512x1280.Idx → Prop} {V : S3x3x512x1280.Idx → Elt F e} :
    (Has c m Finset.univ S V : PP F) ⊢ iprop((((Has c m (GF 0) S V ∗ Has c m (GF 1) S V) ∗ Has c m GN S V) ∗ Has c m GL S V) ∗ Has c m GR S V) := by
  rw [← LW5_univ]
  refine (Has.split c LW5_disj).trans (BIClass.sep_mono ?_ .rfl)
  refine (Has.split c LW4_disj).trans (BIClass.sep_mono ?_ .rfl)
  refine (Has.split c LW3_disj).trans (BIClass.sep_mono ?_ .rfl)
  exact Has.split c LW2_disj

theorem glue {D D' : Finset s.Idx} (hd : Disjoint D D') : iprop(Kn c m D V ∗ Kn c m D' V) ⊢ (Kn c m (D ∪ D') V : PP F) :=
  Has.join c hd fun x hx => (Finset.mem_union.mp hx).imp (fun h => ⟨h, h⟩) fun h => ⟨h, h⟩

theorem full_of (V : s.Idx → Elt F e) : (Kn c m Finset.univ V : PP F) ⊢ Full c m V := Has.weaken c fun x _ => Finset.mem_univ x
theorem any_of {S : s.Idx → Prop} (V : s.Idx → Elt F e) : (Has c m Finset.univ S V : PP F) ⊢ Any c m V := Has.weaken c fun x h => h.elim

theorem glueX {m : Memref sig .tc sp S14x18x4x512 e} {V : S14x18x4x512.Idx → Elt F e} :
    iprop(Kn c m (GX 0) V ∗ Kn c m (GX 1) V) ⊢ (Full c m V : PP F) := by
  refine (glue GX_disj).trans ?_
  rw [GX_univ]; exact full_of V

theorem glueW {m : Memref sig .tc sp S3x3x512x1280 e} {V : S3x3x512x1280.Idx → Elt F e} :
    iprop((((Kn c m (GF 0) V ∗ Kn c m (GF 1) V) ∗ Kn c m GN V) ∗ Kn c m GL V) ∗ Kn c m GR V) ⊢ (Full c m V : PP F) := by
  refine BIBase.Entails.trans ?_ (full_of V)
  rw [← LW5_univ]
  refine BIBase.Entails.trans (BIClass.sep_mono ?_ .rfl) (glue LW5_disj)
  refine BIBase.Entails.trans (BIClass.sep_mono ?_ .rfl) (glue LW4_disj)
  refine BIBase.Entails.trans (BIClass.sep_mono ?_ .rfl) (glue LW3_disj)
  exact glue LW2_disj
end Cut

theorem rY_disj (i j : Fin 10) (h : i ≠ j) : Disjoint (rY i.val i.isLt).set (rY j.val j.isLt).set := by
  rw [Finset.disjoint_left]
  intro x h1 h2
  exact h (Fin.ext ((mem_rY.1 h1).symm.trans (mem_rY.1 h2)))
theorem rOp_disj (i j : Fin 10) (h : i ≠ j) : Disjoint (rOp i.val i.isLt).set (rOp j.val j.isLt).set := by
  rw [Finset.disjoint_left]
  intro x h1 h2
  exact h (Fin.ext ((mem_rOp.1 h1).symm.trans (mem_rOp.1 h2)))
theorem rY_univ : (Finset.univ.biUnion fun k : Fin 10 => (rY k.val k.isLt).set) = Finset.univ := by
  ext x
  have h3 : (x 3).val < 1280 := (x 3).isLt
  simp only [Finset.mem_biUnion, Finset.mem_univ, true_and, iff_true]
  exact ⟨⟨(x 3).val / 128, by omega⟩, mem_rY.2 rfl⟩
theorem rOp_univ : (Finset.univ.biUnion fun k : Fin 10 => (rOp k.val k.isLt).set) = Finset.univ := by
  ext x
  simp only [Finset.mem_biUnion, Finset.mem_univ, true_and, iff_true]
  exact ⟨⟨(x 0).val, (x 0).isLt⟩, mem_rOp.2 rfl⟩

theorem big_sep (f g : Fin 10 → PP F) : (bigSep Finset.univ fun k => iprop(f k ∗ g k)) = iprop(bigSep Finset.univ f ∗ bigSep Finset.univ g) := bigSep_sep ..

theorem cutY : iprop(Any c hY (yT E) ∗ bigSep Finset.univ fun k : Fin 10 => smO c k (by omega)) ⊢ (SO E c 0 : PP F) := by
  have h : (Any c hY (yT E) : PP F) ⊢ bigSep Finset.univ fun k : Fin 10 => Has c hY (rY k.val k.isLt).set (fun _ => False) (yT E) := by
    have := Has.parts (c := c) (m := hY) (V := yT E) (S := fun _ => False) rY_disj Finset.univ
    rw [rY_univ] at this
    exact this
  refine (BIClass.sep_mono h .rfl).trans ?_
  rw [← big_sep]
  exact bigSep_mono fun k _ => by rw [if_neg (Nat.not_lt_zero _)]; exact (BIBase.Entails.rfl : (PreO E c k : PP F) ⊢ PreO E c k)

theorem glueY : (WO E c 10 : PP F) ⊢ iprop((Any c vO (oT E) ∗ Full c hY (yT E)) ∗ bigSep Finset.univ fun k : Fin 10 => smO c k (by omega)) := by
  have h : (WO E c 10 : PP F) ⊢ bigSep Finset.univ fun k : Fin 10 => DnO E c k := bigSep_mono fun k _ => by rw [if_pos k.isLt]; exact (BIBase.Entails.rfl : (DnO E c k : PP F) ⊢ DnO E c k)
  refine h.trans ?_
  unfold DnO
  rw [big_sep, big_sep]
  refine BIClass.sep_mono (BIClass.sep_mono ?_ ?_) .rfl
  · have := Has.unparts (c := c) (m := vO) (V := oT E) rOp_disj Finset.univ 0 (Finset.mem_univ _)
    rw [rOp_univ] at this
    exact this.trans (any_of _)
  · have := Has.unparts (c := c) (m := hY) (V := yT E) rY_disj Finset.univ 0 (Finset.mem_univ _)
    rw [rY_univ] at this
    exact this.trans (full_of _)

/-- Nothing of a buffer is held beside all of it. -/
theorem has_none {sp : Space} {s : Shape} {e : EltTy} {m : Memref sig .tc sp s e} {V : s.Idx → Elt F e} :
    (Any c m V : PP F) ⊢ iprop(Has c m ∅ (fun x => x ∈ (∅ : Finset s.Idx)) V ∗ Any c m V) := by
  have h := Has.split (F := F) c (m := m) (D := ∅) (D' := Finset.univ) (S := fun _ => False) (T := V) (Finset.disjoint_empty_left _)
  rw [Finset.empty_union] at h
  exact h.trans (BIClass.sep_mono (Has.weaken c fun x hx => Finset.notMem_empty x hx) .rfl)

theorem geO_zero : geO 0 = Finset.univ := Finset.filter_true_of_mem fun _ _ => Nat.zero_le _

/-- The copies in are started. -/
theorem ok_starts {K : PG F} (hR : Ok E c Q (st0 fun _ => False)
      iprop(SO E c 0 ∗ emp ∗ FWs E c ∗ FF E c 0 ∗ FXs E c ∗ FX E c 0 ∗ FX E c 1 ∗ FF E c 1 ∗ FN E c ∗ FL E c ∗ FB E c ∗ FR E c ∗ emp) K) :
    Before E c ⊢ T (F := F) c Q (starts K) := by
  unfold starts Before Sems Ok Ctx at *
  rw [show (Any c vO (oT E) : PP F) = Has c vO (geO 0) (fun _ => False) (oT E) from by rw [geO_zero]]
  iintro ⟨⟨HX, HXs, HW, HWs, HB⟩, HY, ⟨AX, AXs, AW, AWs, AB, ASw, AXb, AO⟩, ⟨⟨I0, I1, I2, I3, I4⟩, ⟨W0, W1, W2, W3, W4⟩, HO⟩, Ho⟩
  ihave HSO := cutY (E := E) $$ [HY HO]
  · isplitl [HY]
    · iexact HY
    · iexact HO
  ihave HX := cutX $$ HX
  icases HX with ⟨HX0, HX1⟩
  ihave HW := cutW $$ HW
  icases HW with ⟨⟨⟨⟨HW0, HW1⟩, HW2⟩, HW3⟩, HW4⟩
  ihave AX := has_none $$ AX
  icases AX with ⟨NX, AX⟩
  ihave AX := cutX $$ AX
  icases AX with ⟨AX0, AX1⟩
  ihave AW := has_none $$ AW
  icases AW with ⟨NW, AW⟩
  ihave AW := cutW $$ AW
  icases AW with ⟨⟨⟨⟨AW0, AW1⟩, AW2⟩, AW3⟩, AW4⟩
  ihave AXs := has_none $$ AXs
  icases AXs with ⟨NXs, AXs⟩
  ihave AWs := has_none $$ AWs
  icases AWs with ⟨NWs, AWs⟩
  ihave AB := has_none $$ AB
  icases AB with ⟨NB, AB⟩
  iapply start_Xs (E := E)
  isplitl [HXs AXs]
  · isplitl [HXs]
    · iexact HXs
    · iexact AXs
  isplitl [I2]
  · iexact I2
  iintro FXs'
  iapply start_X (E := E) 0
  isplitl [HX0 AX0]
  · isplitl [HX0]
    · iexact HX0
    · iexact AX0
  isplitl [I0]
  · iexact I0
  iintro FX0
  iapply start_Ws (E := E)
  isplitl [HWs AWs]
  · isplitl [HWs]
    · iexact HWs
    · iexact AWs
  isplitl [I3]
  · iexact I3
  iintro FWs'
  iapply start_F (E := E) 0
  isplitl [HW0 AW0]
  · isplitl [HW0]
    · iexact HW0
    · iexact AW0
  isplitl [W0]
  · iexact W0
  iintro FF0
  iapply start_X (E := E) 1
  isplitl [HX1 AX1]
  · isplitl [HX1]
    · iexact HX1
    · iexact AX1
  isplitl [I1]
  · iexact I1
  iintro FX1
  iapply start_F (E := E) 1
  isplitl [HW1 AW1]
  · isplitl [HW1]
    · iexact HW1
    · iexact AW1
  isplitl [W1]
  · iexact W1
  iintro FF1
  iapply start_B (E := E)
  isplitl [HB AB]
  · isplitl [HB]
    · iexact HB
    · iexact AB
  isplitl [I4]
  · iexact I4
  iintro FB'
  iapply start_N (E := E)
  isplitl [HW2 AW2]
  · isplitl [HW2]
    · iexact HW2
    · iexact AW2
  isplitl [W2]
  · iexact W2
  iintro FN'
  iapply start_L (E := E)
  isplitl [HW3 AW3]
  · isplitl [HW3]
    · iexact HW3
    · iexact AW3
  isplitl [W3]
  · iexact W3
  iintro FL'
  iapply start_R (E := E)
  isplitl [HW4 AW4]
  · isplitl [HW4]
    · iexact HW4
    · iexact AW4
  isplitl [W4]
  · iexact W4
  iintro FR'
  iapply hR
  isplitl [NX]; · iexact NX
  isplitl [NXs]; · iexact NXs
  isplitl [NW]; · iexact NW
  isplitl [NWs]; · iexact NWs
  isplitl [NB]; · iexact NB
  isplitl [ASw]; · iexact ASw
  isplitl [AXb]; · iexact AXb
  isplitl [AO]; · iexact AO
  isplitl [Ho]; · iexact Ho
  isplitl [HSO]; · iexact HSO
  isplitr; · iempintro
  isplitl [FWs']; · iexact FWs'
  isplitl [FF0]; · iexact FF0
  isplitl [FXs']; · iexact FXs'
  isplitl [FX0]; · iexact FX0
  isplitl [FX1]; · iexact FX1
  isplitl [FF1]; · iexact FF1
  isplitl [FN']; · iexact FN'
  isplitl [FL']; · iexact FL'
  isplitl [FB']; · iexact FB'
  isplitl [FR']; · iexact FR'
  iempintro

/-- What the body ends with. -/
theorem after_of : Ctx E c stF iprop(WO E c 10 ∗ R10 E c ∗ emp) ⊢ After E c := by
  unfold Ctx After Sems
  iintro ⟨VX, VXs, VW, VWs, VB, VSw, VXb, -, Ho, HO, ⟨⟨⟨⟨⟨⟨⟨⟨⟨⟨-, HWs, I3⟩, ⟨HW0, W0⟩⟩, ⟨HXs, I2⟩⟩, ⟨HX0, I0⟩⟩, ⟨HX1, I1⟩⟩, ⟨HW1, W1⟩⟩, ⟨HW2, W2⟩⟩, ⟨HW3, W3⟩⟩, ⟨HB, I4⟩⟩, ⟨HW4, W4⟩⟩, -⟩
  ihave HO := glueY $$ HO
  icases HO with ⟨⟨AO, HY⟩, SO'⟩
  ihave HX := glueX $$ [HX0 HX1]
  · isplitl [HX0]
    · iexact HX0
    · iexact HX1
  ihave HW := glueW $$ [HW0 HW1 HW2 HW3 HW4]
  · isplitl [HW0 HW1 HW2 HW3]
    · isplitl [HW0 HW1 HW2]
      · isplitl [HW0 HW1]
        · isplitl [HW0]
          · iexact HW0
          · iexact HW1
        · iexact HW2
      · iexact HW3
    · iexact HW4
  isplitl [HX HXs HW HWs HB]
  · isplitl [HX]; · iexact HX
    isplitl [HXs]; · iapply full_of E.Xs; iexact HXs
    isplitl [HW]; · iexact HW
    isplitl [HWs]; · iapply full_of E.Ws; iexact HWs
    iapply full_of E.B; iexact HB
  isplitl [HY]; · iexact HY
  isplitl [VX VXs VW VWs VB VSw VXb AO]
  · isplitl [VX]; · iapply any_of E.X; iexact VX
    isplitl [VXs]; · iapply any_of E.Xs; iexact VXs
    isplitl [VW]; · iapply any_of E.W; iexact VW
    isplitl [VWs]; · iapply any_of E.Ws; iexact VWs
    isplitl [VB]; · iapply any_of E.B; iexact VB
    isplitl [VSw]; · iapply any_of (swT E); iexact VSw
    isplitl [VXb]; · iapply any_of (xbT E); iexact VXb
    iexact AO
  isplitr [Ho]
  · isplitl [I0 I1 I2 I3 I4]
    · isplitl [I0]; · iexact I0
      isplitl [I1]; · iexact I1
      isplitl [I2]; · iexact I2
      isplitl [I3]; · iexact I3
      iexact I4
    isplitl [W0 W1 W2 W3 W4]
    · isplitl [W0]; · iexact W0
      isplitl [W1]; · iexact W1
      isplitl [W2]; · iexact W2
      isplitl [W3]; · iexact W3
      iexact W4
    iexact SO'
  iexact Ho

/-- The body, whole. -/
theorem body_ok (hQ : After E c ⊢ Q ⟨⟩) : Before E c ⊢ T (F := F) c Q body :=
  ok_starts (ok_rest (after_of.trans hQ))

end Cert.KernelIdeal.Conv
-- ==== Proof.Equal.lean ====
module

public import proofs.«01_k».proof.Proof.Prog
public import Idealize.ShloMosaic.Lib.Tactic

/-! # The kernel's body is the structured program

The two are the same tree of instructions, so the equation is closed by evaluation. -/

@[expose] public section

noncomputable section

namespace Cert.KernelIdeal.Conv

open Idealize.ShloMosaic Idealize.SL.Sem

variable {F : FTy → Type} [FloatOps F] [Facts]

theorem body_eq : cc0_mxfp8_conv3x3 (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10
    = body (F := F) := by
  sl_kernel_rfl

end Cert.KernelIdeal.Conv
-- ==== Proof.Frame.lean ====
module

public import proofs.«01_k».proof.Proof.Ends
public import proofs.«01_k».proof.Proof.Equal
public import proofs.«01_k».proof.Proof.Gen.KernelIdeal.Frame
public import Idealize.ShloMosaic.Lib.Pipeline.FrameSuffixV
public import Idealize.ShloMosaic.Lib.Tactic

/-! # The whole program

The body between the transposes: the arguments end as they began, every semaphore ends at zero, and the buffer the
result is transposed from holds `yT` of the buffers the body found. -/

@[expose] public section

noncomputable section

namespace Cert.KernelIdeal.Conv

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Facts]

local notation "𝕄" => MT nD τ sig Unit (Elt F) ℕ (Pipeline.UD sig nD τ) ℕ

variable (m : (ℓ : Loc nD τ sig) → Buf (Elt F) ℓ) (ρ : Dev nD → PrngReg)

/-- The program around the body. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The semaphores of the body. -/
abbrev osem0 : Fin 20 → SemLoc sig := fun j => (![.dma (inSem 0 (by decide)), .dma (inSem 1 (by decide)), .dma (inSem 2 (by decide)), .dma (inSem 3 (by decide)), .dma (inSem 4 (by decide)),
  .dma (wSem 0 (by decide)), .dma (wSem 1 (by decide)), .dma (wSem 2 (by decide)), .dma (wSem 3 (by decide)), .dma (wSem 4 (by decide)),
  .dma (oSem 0 (by decide)), .dma (oSem 1 (by decide)), .dma (oSem 2 (by decide)), .dma (oSem 3 (by decide)), .dma (oSem 4 (by decide)),
  .dma (oSem 5 (by decide)), .dma (oSem 6 (by decide)), .dma (oSem 7 (by decide)), .dma (oSem 8 (by decide)), .dma (oSem 9 (by decide))] : Fin 20 → SemLoc sig) j
theorem ownSemFacts0 : Pipeline.OwnSemFacts cfg0.spec osem0 := by decide

theorem smO_eq (c : Dev nD) : (bigSep Finset.univ fun k : Fin 10 => (smO c k (by omega) : PP F)) =
    iprop(smO c 0 (by decide) ∗ smO c 1 (by decide) ∗ smO c 2 (by decide) ∗ smO c 3 (by decide) ∗ smO c 4 (by decide)
      ∗ smO c 5 (by decide) ∗ smO c 6 (by decide) ∗ smO c 7 (by decide) ∗ smO c 8 (by decide) ∗ smO c 9 (by decide)) := by
  rw [BI.bigSep_eq_bigSepL_of_eq [0, 1, 2, 3, 4, 5, 6, 7, 8, 9] (by decide) (by decide)]; rfl

theorem ownSems00_eq (c : Dev nD) :
    (Pipeline.ownSems0 (Ix := Unit) (Name := ℕ) (U := Pipeline.UD sig nD τ) (Lvl := ℕ) (Val := Elt F) (τ := τ) osem0 c : sProp 𝕄)
      = iprop(smI c 0 (by decide) ∗ smI c 1 (by decide) ∗ smI c 2 (by decide) ∗ smI c 3 (by decide) ∗ smI c 4 (by decide)
        ∗ smW c 0 (by decide) ∗ smW c 1 (by decide) ∗ smW c 2 (by decide) ∗ smW c 3 (by decide) ∗ smW c 4 (by decide)
        ∗ smO c 0 (by decide) ∗ smO c 1 (by decide) ∗ smO c 2 (by decide) ∗ smO c 3 (by decide) ∗ smO c 4 (by decide)
        ∗ smO c 5 (by decide) ∗ smO c 6 (by decide) ∗ smO c 7 (by decide) ∗ smO c 8 (by decide) ∗ smO c 9 (by decide)) := by
  rw [Pipeline.ownSems0_eq_of_list c osem0 [0, 1, 2, 3, 4, 5, 6, 7, 8, 9, 10, 11, 12, 13, 14, 15, 16, 17, 18, 19] (by decide) (by decide)]; rfl

theorem sems_eq (c : Dev nD) :
    (Pipeline.ownSems0 (Ix := Unit) (Name := ℕ) (U := Pipeline.UD sig nD τ) (Lvl := ℕ) (Val := Elt F) (τ := τ) osem0 c : sProp 𝕄) ⊣⊢ Sems c := by
  rw [ownSems00_eq]
  unfold Sems
  rw [smO_eq]
  constructor
  · iintro ⟨A0, A1, A2, A3, A4, B0, B1, B2, B3, B4, HO⟩
    isplitl [A0 A1 A2 A3 A4]
    · isplitl [A0]; · iexact A0
      isplitl [A1]; · iexact A1
      isplitl [A2]; · iexact A2
      isplitl [A3]; · iexact A3
      iexact A4
    isplitl [B0 B1 B2 B3 B4]
    · isplitl [B0]; · iexact B0
      isplitl [B1]; · iexact B1
      isplitl [B2]; · iexact B2
      isplitl [B3]; · iexact B3
      iexact B4
    iexact HO
  · iintro ⟨⟨A0, A1, A2, A3, A4⟩, ⟨B0, B1, B2, B3, B4⟩, HO⟩
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    iexact HO

/-- The buffers the copies in read. -/
def H0 : Finset (Ref sig .tc) := {main_v0, main_v1, main_arg2, main_arg3, main_arg4}
theorem H0_sub : H0 ⊆ Pipeline.restRefs sig cfg0.spec := by decide
/-- The buffer the copies out write. -/
def R0 : Finset (Ref sig .tc) := {main_v2}
theorem R0_sub : R0 ⊆ Pipeline.restRefs sig cfg0.spec \ H0 := by decide

theorem H0_eq (c : Dev nD) (V : (b : Ref sig .tc) → Buf (Elt F) ((c : Thread nD τ).loc b)) :
    (bigSep H0 (fun b => ((c : Thread nD τ).loc b) ↦{fullShare} V b) : sProp 𝕄)
      = iprop((hX.view.loc (c : Thread nD τ) ↦{fullShare} V main_v0) ∗ (hXs.view.loc (c : Thread nD τ) ↦{fullShare} V main_v1) ∗ (hW.view.loc (c : Thread nD τ) ↦{fullShare} V main_arg2)
          ∗ (hWs.view.loc (c : Thread nD τ) ↦{fullShare} V main_arg3) ∗ (hB.view.loc (c : Thread nD τ) ↦{fullShare} V main_arg4)) := by
  rw [BI.bigSep_eq_bigSepL_of_eq [main_v0, main_v1, main_arg2, main_arg3, main_arg4] (by decide) (by decide)]; rfl
theorem R0_eq (c : Dev nD) (V : (b : Ref sig .tc) → Buf (Elt F) ((c : Thread nD τ).loc b)) :
    (bigSep R0 (fun b => ((c : Thread nD τ).loc b) ↦{fullShare} V b) : sProp 𝕄) = (hY.view.loc (c : Thread nD τ) ↦{fullShare} V main_v2) := by
  rw [R0, bigSep_singleton]

/-- What the body finds in its inputs. -/
def insOf (c : Dev nD) : Ins F := ⟨V m c main_v0, V m c main_v1, V m c main_arg2, V m c main_arg3, V m c main_arg4⟩

/-- What the body leaves. -/
def G (c : Dev nD) : (b : Ref sig .tc) → Buf (Elt F) ((c : Thread nD τ).loc b) := Function.update (V m c) main_v2 (yT (insOf m c))
theorem G_y (c : Dev nD) : G m c main_v2 = yT (insOf m c) := Function.update_self ..

/-- The invariant before and after. -/
abbrev Phi (c : Dev nD) (g : (c : Dev nD) → (b : Ref sig .tc) → Buf (Elt F) ((c : Thread nD τ).loc b)) : sProp 𝕄 := Pipeline.ΦDRV osem0 cfg0.spec H0 R0 (V m) g c

theorem any_ex {sp : Space} {s : Shape} {e : EltTy} {M : Memref sig .tc sp s e} (h : M.IsWhole) (T : s.Idx → Elt F e) (c : Dev nD) :
    iprop(∃ f : Buf (Elt F) (M.view.loc (c : Thread nD τ)), M.view.loc (c : Thread nD τ) ↦{fullShare} f) ⊢ (Any c M T : PP F) :=
  exists_elim fun f => of_pts h f fun _ h => h.elim
theorem ex_any {sp : Space} {s : Shape} {e : EltTy} {M : Memref sig .tc sp s e} (h : M.IsWhole) (T : s.Idx → Elt F e) (c : Dev nD) :
    (Any c M T : PP F) ⊢ iprop(∃ f : Buf (Elt F) (M.view.loc (c : Thread nD τ)), M.view.loc (c : Thread nD τ) ↦{fullShare} f) := by
  refine (to_pts h).trans ?_
  iintro ⟨%f, -, H⟩
  iexists f
  iexact H

theorem full_pts {b : Ref sig .tc} (c : Dev nD) (f : Buf (Elt F) ((c : Thread nD τ).loc b)) :
    ((Memref.whole b).view.loc (c : Thread nD τ) ↦{fullShare} f : PP F) ⊢ Full c (Memref.whole b) f :=
  of_pts (Memref.isWhole_whole b) f fun _ _ => rfl
theorem pts_full {b : Ref sig .tc} (c : Dev nD) (f : Buf (Elt F) ((c : Thread nD τ).loc b)) :
    (Full c (Memref.whole b) f : PP F) ⊢ ((Memref.whole b).view.loc (c : Thread nD τ) ↦{fullShare} f) := by
  refine (to_pts (Memref.isWhole_whole b)).trans ?_
  iintro ⟨%g, %h, H⟩
  have e : g = f := funext fun x => h x trivial
  subst e
  iexact H

theorem before_of (c : Dev nD) : iprop(Phi m c (V m) ∗ Ow c) ⊢ Before (insOf m c) c := by
  unfold Phi Pipeline.ΦDRV
  rw [scopedRest0_eq, H0_eq, R0_eq]
  unfold Before
  iintro ⟨⟨⟨S0, S1, S2, S3, S4, S5, S6, S7⟩, HS, ⟨H0, H1, H2, H3, H4⟩, HY⟩, Ho⟩
  isplitl [H0 H1 H2 H3 H4]
  · isplitl [H0]; · iapply full_pts (b := main_v0) c; iexact H0
    isplitl [H1]; · iapply full_pts (b := main_v1) c; iexact H1
    isplitl [H2]; · iapply full_pts (b := main_arg2) c; iexact H2
    isplitl [H3]; · iapply full_pts (b := main_arg3) c; iexact H3
    iapply full_pts (b := main_arg4) c; iexact H4
  isplitl [HY]
  · iapply any_ex (Memref.isWhole_whole main_v2) (yT (insOf m c)) c
    iexists (V m c main_v2); iexact HY
  isplitl [S0 S1 S2 S3 S4 S5 S6 S7]
  · isplitl [S0]; · iapply any_ex (Memref.isWhole_whole cc0_scratch0) (insOf m c).X c; iexact S0
    isplitl [S1]; · iapply any_ex (Memref.isWhole_whole cc0_scratch1) (insOf m c).Xs c; iexact S1
    isplitl [S2]; · iapply any_ex (Memref.isWhole_whole cc0_scratch2) (insOf m c).W c; iexact S2
    isplitl [S3]; · iapply any_ex (Memref.isWhole_whole cc0_scratch3) (insOf m c).Ws c; iexact S3
    isplitl [S4]; · iapply any_ex (Memref.isWhole_whole cc0_scratch4) (insOf m c).B c; iexact S4
    isplitl [S5]; · iapply any_ex (Memref.isWhole_whole cc0_scratch5) (swT (insOf m c)) c; iexact S5
    isplitl [S6]; · iapply any_ex (Memref.isWhole_whole cc0_scratch6) (xbT (insOf m c)) c; iexact S6
    iapply any_ex (Memref.isWhole_whole cc0_scratch7) (oT (insOf m c)) c; iexact S7
  isplitl [HS]
  · iapply (sems_eq c).1; iexact HS
  iexact Ho

theorem of_after (c : Dev nD) : After (insOf m c) c ⊢ iprop(Phi m c (G m) ∗ Ow c) := by
  unfold Phi Pipeline.ΦDRV
  rw [scopedRest0_eq, H0_eq, R0_eq, G_y]
  unfold After
  iintro ⟨⟨H0, H1, H2, H3, H4⟩, HY, ⟨S0, S1, S2, S3, S4, S5, S6, S7⟩, HS, Ho⟩
  isplitr [Ho]
  swap; · iexact Ho
  isplitl [S0 S1 S2 S3 S4 S5 S6 S7]
  · isplitl [S0]; · iapply ex_any (Memref.isWhole_whole cc0_scratch0) (insOf m c).X c; iexact S0
    isplitl [S1]; · iapply ex_any (Memref.isWhole_whole cc0_scratch1) (insOf m c).Xs c; iexact S1
    isplitl [S2]; · iapply ex_any (Memref.isWhole_whole cc0_scratch2) (insOf m c).W c; iexact S2
    isplitl [S3]; · iapply ex_any (Memref.isWhole_whole cc0_scratch3) (insOf m c).Ws c; iexact S3
    isplitl [S4]; · iapply ex_any (Memref.isWhole_whole cc0_scratch4) (insOf m c).B c; iexact S4
    isplitl [S5]; · iapply ex_any (Memref.isWhole_whole cc0_scratch5) (swT (insOf m c)) c; iexact S5
    isplitl [S6]; · iapply ex_any (Memref.isWhole_whole cc0_scratch6) (xbT (insOf m c)) c; iexact S6
    iapply ex_any (Memref.isWhole_whole cc0_scratch7) (oT (insOf m c)) c; iexact S7
  isplitl [HS]
  · iapply (sems_eq c).2; iexact HS
  isplitl [H0 H1 H2 H3 H4]
  · isplitl [H0]; · iapply pts_full (b := main_v0) c; iexact H0
    isplitl [H1]; · iapply pts_full (b := main_v1) c; iexact H1
    isplitl [H2]; · iapply pts_full (b := main_arg2) c; iexact H2
    isplitl [H3]; · iapply pts_full (b := main_arg3) c; iexact H3
    iapply pts_full (b := main_arg4) c; iexact H4
  iapply pts_full (b := main_v2) c; iexact HY

/-! ## The proof data and the run -/

/-- The proof data of the one call. -/
def dats (_ : Fin 1) (c : Dev nD) : Dat τ (Elt F) Unit ℕ (Pipeline.UD sig nD τ) ℕ cfg0 c where
  A w := w.elim0
  after w t := w.elim0
  Φ t := Phi m c (if t.val = 0 then V m else G m)
  q _ := fullShare
  owed _ := 0

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  have ht : t.val = 0 := by rw [fin_N0 t]; rfl
  unfold bodyAt0
  rw [body_eq]
  unfold bodyPre bodyPost
  rw [show (dats m 0 c).Φ t.castSucc = Phi m c (V m) from congrArg (Phi m c) (if_pos ht),
    show (dats m 0 c).Φ t.succ = Phi m c (G m) from congrArg (Phi m c) (if_neg (Nat.succ_ne_zero _))]
  unfold Dat.owesAt Pipeline.owesWithin
  rw [show (dats m 0 c).owed t.castSucc = 0 from rfl, show (dats m 0 c).owed t.succ = 0 from rfl]
  refine BIBase.Entails.trans ?_ (body_ok (E := insOf m c) (c := c) ((of_after m c).trans ?_))
  · iintro ⟨H, ⟨%W, -, HW⟩⟩
    iapply before_of m c
    isplitl [H]
    · iexact H
    · iexists W; iexact HW
  · iintro ⟨H, ⟨%W, HW⟩⟩
    isplitl [H]
    · iexact H
    · iexists W
      isplitr
      · ipureintro; exact fun _ _ => Or.inl trivial
      · iexact HW

theorem defs₀_row (t : Fin cfg0.N) :
    defs₀ (F := F) .tc cfg0.body (cfg0.bodyArgs t (cfg0.slots t)) = bodyAt0 t := by
  unfold defs₀; rw [Defs.onTc_tc]

theorem bigSep_fin0 (f : Fin cfg0.W → sProp 𝕄) : bigSep Finset.univ f = iprop(emp) := bigSep_empty

theorem body_obligation (c : Dev nD) : BodyObligation (dats (F := F) m 0 c) (defs₀ (F := F)) Variants.none () Set.univ := fun t => by
  rw [bigSep_fin0, bigSep_fin0, defs₀_row]
  refine triple_restated (sound_body m c t) rfl ?_ fun _ => ?_
  · unfold bodyPre
    iintro ⟨H, Ho, -⟩
    isplitl [H]
    · iexact H
    · iexact Ho
  · unfold bodyPost
    iintro ⟨H, Ho⟩
    isplitl [H]
    · iexact H
    isplitl [Ho]
    · iexact Ho
    · iempintro

/-- What every buffer ends with. -/
abbrev fin (c : Dev nD) (b : Ref sig .tc) : Buf (Elt F) ((c : Thread nD τ).loc b) :=
  StableHlo.after (List.flatten [hostOps1]) (Pipeline.withArrays cfg0.spec c (Pipeline.withR (V0 m c) R0 c (G m c)) fun w => (dats m 0 c).arrAt w cfg0.N) (Proc.devRef .tc b)

set_option backward.isDefEq.respectTransparency.types false in
theorem run_main : θ_run defs (onTc (τ := τ) (main (F := F))) (s₀ m ρ)
    (fun r => (∀ c : Dev nD, ∀ b ∈ Pipeline.restRefs sig cfg0.spec, r.2.mem ((c : Thread nD τ).loc b) = fin m c b) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := fun c w => w.elim0)
    (hin := fun _ => .rfl) (hout := fun _ => .rfl) (hQ' := fun r h => ⟨fun c => (h.1 c).2, h.2⟩)

end Cert.KernelIdeal.Conv
-- ==== Proof.Result.lean ====
module

public import proofs.«01_k».proof.Proof.Frame

/-! # What the program ends with -/

@[expose] public section

noncomputable section

namespace Cert.KernelIdeal.Conv

open Cert.KernelIdeal.Gen
open Idealize.ShloMosaic Idealize.ShloMosaic.TcCoe Idealize.ShloMosaic.Tactic
open Idealize.SL Idealize.SL.Sem

variable {F : FTy → Type} [FloatOps F] [Facts]
variable (m : (ℓ : Loc nD τ sig) → Buf (Elt F) ℓ) (ρ : Dev nD → PrngReg)

/-- A buffer that neither the lines after the call nor the body write ends as the body found it. -/
theorem fin_of_ne (c : Dev nD) (b : Ref sig .tc) (h3 : b ≠ main_v3) (h2 : b ∉ R0) : fin m c b = V m c b := by
  unfold fin
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h3)),
    Pipeline.withArrays_of_ne _ c _ _ b (fun w => w.elim0), Pipeline.withR_of_not_mem _ _ _ _ b h2]

/-- The result is the transpose of what the body left. -/
theorem fin_out (c : Dev nD) : fin m c main_v3 = transpose S4x14x18x1280 [2, 0, 1, 3] (yT (insOf m c)) transposes_S14x18x4x1280_S4x14x18x1280_2_0_1_3 := by
  have h : Pipeline.withArrays cfg0.spec c (Pipeline.withR (V0 m c) R0 c (G m c)) (fun w => (dats m 0 c).arrAt w cfg0.N) (Proc.devRef .tc main_v2) = yT (insOf m c) := by
    rw [Pipeline.withArrays_of_ne _ c _ _ main_v2 (fun w => w.elim0), Pipeline.withR_of_mem _ _ _ _ main_v2 (by decide)]
    exact G_y m c
  rw [← h]
  unfold fin
  simp only [List.flatten_cons, List.flatten_nil, List.append_nil, StableHlo.after_cons, StableHlo.after_nil]
  exact StableHlo.unary_result' (x := main_v2) (y := main_v3) _ _ _ _

/-- The program runs, its arguments end as they began, every semaphore ends at zero, and the result is what the body left, transposed. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c main_arg0 (Pipeline.mem_restRefs_of main_arg0 (by decide) (by decide))).trans ((fin_of_ne m c main_arg0 (by decide) (by decide)).trans (V_main_arg0 m c)),
     (h.1 c main_arg1 (Pipeline.mem_restRefs_of main_arg1 (by decide) (by decide))).trans ((fin_of_ne m c main_arg1 (by decide) (by decide)).trans (V_main_arg1 m c)),
     (h.1 c main_arg2 (Pipeline.mem_restRefs_of main_arg2 (by decide) (by decide))).trans ((fin_of_ne m c main_arg2 (by decide) (by decide)).trans (V_main_arg2 m c)),
     (h.1 c main_arg3 (Pipeline.mem_restRefs_of main_arg3 (by decide) (by decide))).trans ((fin_of_ne m c main_arg3 (by decide) (by decide)).trans (V_main_arg3 m c)),
     (h.1 c main_arg4 (Pipeline.mem_restRefs_of main_arg4 (by decide) (by decide))).trans ((fin_of_ne m c main_arg4 (by decide) (by decide)).trans (V_main_arg4 m c))⟩, h.2⟩) (run_main m ρ)

/-- The result. -/
theorem value : θ_run defs (onTc (τ := τ) (main (F := F))) ⟨m, fun _ => 0, ρ⟩ (fun r => ∀ c : Dev nD,
      r.2.mem ((c.tc : Thread nD τ).loc main_v3) = transpose S4x14x18x1280 [2, 0, 1, 3] (yT (insOf m c)) transposes_S14x18x4x1280_S4x14x18x1280_2_0_1_3) :=
  (θ_run defs _ _).mono (fun r h => fun c =>
    (h.1 c main_v3 (Pipeline.mem_restRefs_of main_v3 (by decide) (by decide))).trans (fin_out m c)) (run_main m ρ)

end Cert.KernelIdeal.Conv
-- ==== Proof.Copy.lean ====
module

public import proofs.«01_k».proof.Proof.Result
public import proofs.«01_k».proof.Proof.Gen.Kernel
public import proofs.«01_k».proof.Proof.Gen.KernelIdeal
public import proofs.«01_k».proof.Defs

/-! # The same program under its other name -/

@[expose] public section

noncomputable section

namespace Cert.KernelIdeal.Conv

open Idealize.ShloMosaic Idealize.SL.Sem

theorem frame_kernel [hK : Cert.Kernel.Facts] [hI : Cert.KernelIdeal.Facts] : Cert.quiescent_Kernel := by
  have h : ∀ (m : (ℓ : Loc Cert.KernelIdeal.nD Cert.KernelIdeal.τ Cert.KernelIdeal.sig) → Buf (Elt Bits) ℓ) (g : Dev Cert.KernelIdeal.nD → PrngReg), True → _ := fun m g _ => frame (F := Bits) m g
  exact cast (by sl_kernel_rfl) h

end Cert.KernelIdeal.Conv
-- ==== Proof.Scale.lean ====
module

public import proofs.«01_k».proof.Proof.Vals
public import Idealize.ShloMosaic.Lib.Pointwise
public import Idealize.ShloMosaic.Lib.BitcastPair
public import Idealize.ShloMosaic.PureOps.Ideal

/-! # Scales as real numbers, and the convolution

A scale byte states a power of two. The kernel makes it by putting the byte where the exponent of a bf16 is, the
reference by raising two to the byte less 127; the two agree on the bytes between 1 and 254. The convolution that both
programs compute is written here over the extended reals. -/

@[expose] public section

noncomputable section

namespace Cert.KernelIdeal.Conv

open Idealize.ShloMosaic

/-- The power of two a scale byte states. -/
def sc (b : BitVec 8) : EReal := (((2 : ℝ) ^ ((b.toNat : ℤ) - 127) : ℝ) : EReal)

/-- A byte that states a normal number. -/
def Normal (b : BitVec 8) : Prop := 1 ≤ b.toNat ∧ b.toNat ≤ 254

/-- The byte in the place of the exponent. -/
theorem sc_bits (b : BitVec 8) (h : Normal b) : Ideal.ofBits .bf16 (b.setWidth 16 <<< 7) = sc b := by
  have hn : (b.setWidth 16 <<< 7).toNat = b.toNat * 128 := by
    have := b.isLt
    rw [BitVec.toNat_shiftLeft, BitVec.toNat_setWidth, Nat.shiftLeft_eq]
    omega
  have e0 : (b.setWidth 16 <<< 7).extractLsb' (8 + 7) 1 = 0#1 := by
    apply BitVec.eq_of_toNat_eq
    rw [BitVec.extractLsb'_toNat, hn, Nat.shiftRight_eq_div_pow]
    have := b.isLt
    simp
    omega
  have e1 : ((b.setWidth 16 <<< 7).extractLsb' 7 8).toNat = b.toNat := by
    rw [BitVec.extractLsb'_toNat, hn, Nat.shiftRight_eq_div_pow]
    have := b.isLt
    omega
  have e2 : ((b.setWidth 16 <<< 7).extractLsb' 0 7).toNat = 0 := by
    rw [BitVec.extractLsb'_toNat, hn, Nat.shiftRight_eq_div_pow]
    have := b.isLt
    omega
  obtain ⟨h1, h2⟩ := h
  show Ideal.ieee 8 7 _ = _
  unfold Ideal.ieee
  simp only [e0, e1, e2]
  rw [if_neg (by omega), if_neg (by omega)]
  unfold sc
  congr 1
  have hs : (((0#1 : BitVec 1) == 1#1) = true) = False := by decide
  simp only [hs, if_false]
  have e : ((b.toNat : ℤ) - 127) = ((b.toNat : ℤ) - (2 ^ (8 - 1) - 1) - (7 : ℕ)) + 7 := by norm_num
  rw [e, zpow_add₀ (by norm_num : (2 : ℝ) ≠ 0)]
  norm_num
  ring

/-- Two to the byte less 127. -/
theorem sc_exp2 (b : BitVec 8) :
    Ideal.exp2 ((((b.setWidth 32 - 127#32).toInt : ℝ)) : EReal) = sc b := by
  have key : ∀ n < 256, ((BitVec.ofNat 8 n).setWidth 32 - 127#32).toInt = (n : ℤ) - 127 := by decide +kernel
  have hb : (b.setWidth 32 - 127#32).toInt = (b.toNat : ℤ) - 127 := by
    have := key b.toNat b.isLt
    rwa [BitVec.ofNat_toNat, BitVec.setWidth_eq] at this
  rw [hb, Ideal.exp2_coe]
  unfold sc
  congr 1
  exact Real.rpow_intCast 2 _

/-! ## The convolution -/

/-- The five arguments, as the programs are given them. -/
structure Args where
  X : S4x14x18x512.Idx → EReal
  Xs : S4x14x18x16.Idx → BitVec 8
  W : S3x3x512x1280.Idx → EReal
  Ws : S3x3x16x1280.Idx → BitVec 8
  B : S1280.Idx → EReal

variable (A : Args)

/-- A scaled input element. -/
def xq (n : Fin 4) (y : Fin 14) (x : Fin 18) (c : Fin 512) : EReal :=
  A.X (ix4 n y x c) * sc (A.Xs (ix4 n y x ⟨c.val / 32, by omega⟩))

/-- A scaled weight. -/
def wq (dy dx : Fin 3) (c : Fin 512) (o : Fin 1280) : EReal :=
  A.W (ix4 dy dx c o) * sc (A.Ws (ix4 dy dx ⟨c.val / 32, by omega⟩ o))

/-- The scaled input with a border of zeros, one pixel wide. -/
def xp (n : Fin 4) (y x : Nat) (c : Fin 512) : EReal :=
  if h : (1 ≤ y ∧ y ≤ 14) ∧ 1 ≤ x ∧ x ≤ 18 then xq A n ⟨y - 1, by omega⟩ ⟨x - 1, by omega⟩ c else 0

/-- What a tap contributes to an element. -/
def tapSum (n : Fin 4) (y : Fin 14) (x : Fin 18) (o : Fin 1280) (dy dx : Fin 3) : EReal :=
  ∑ c : Fin 512, xp A n (y + dy) (x + dx) c * wq A dy dx c o

/-- The nine taps of an element, in order. -/
def conv (n : Fin 4) (y : Fin 14) (x : Fin 18) (o : Fin 1280) : EReal :=
  tapSum A n y x o 0 0 + tapSum A n y x o 0 1 + tapSum A n y x o 0 2 + tapSum A n y x o 1 0 + tapSum A n y x o 1 1
    + tapSum A n y x o 1 2 + tapSum A n y x o 2 0 + tapSum A n y x o 2 1 + tapSum A n y x o 2 2

/-- An element of the result. -/
def result : S4x14x18x1280.Idx → EReal := fun i => conv A (i 0) (i 1) (i 2) (i 3) + A.B (ix1 (i 3))

end Cert.KernelIdeal.Conv
-- ==== Proof.KWeight.lean ====
module

public import proofs.«01_k».proof.Proof.Vals
public import proofs.«01_k».proof.Proof.Scale
public import Idealize.ShloMosaic.Lib.Pointwise
public import Idealize.ShloMosaic.Lib.BitcastPair

/-! # The scaled weights

A tile of scaled weights holds, at each channel and column, the weight times the power of two its block's scale byte
stands for. -/

@[expose] public section

noncomputable section

namespace Cert.KernelIdeal.Conv

open Idealize.ShloMosaic Idealize.SL.Sem Idealize.ShloMosaic.Tactic

variable [Facts] (E : Ins Ideal)

/-- The inputs in the order the arguments hold them: images first, and the scales' channel blocks last. -/
def argsE : Args where
  X := fun i => E.X (ix4 (i 1) (i 2) (i 0) (i 3))
  Xs := fun i => E.Xs (ix4 (i 0) (i 1) (i 3) (i 2))
  W := E.W
  Ws := E.Ws
  B := E.B

theorem ext2 {n0 n1 : Nat} (i : (⟨2, ![n0, n1]⟩ : Shape).Idx) (a : Fin n0) (b : Fin n1) (h0 : (i 0).val = a) (h1 : (i 1).val = b) : i = ix2 a b :=
  funext fun x => match x with
    | ⟨0, _⟩ => Fin.ext h0
    | ⟨1, _⟩ => Fin.ext h1

theorem ext3 {n0 n1 n2 : Nat} (i : (⟨3, ![n0, n1, n2]⟩ : Shape).Idx) (a : Fin n0) (b : Fin n1) (c : Fin n2)
    (h0 : (i 0).val = a) (h1 : (i 1).val = b) (h2 : (i 2).val = c) : i = ix3 a b c :=
  funext fun x => match x with
    | ⟨0, _⟩ => Fin.ext h0
    | ⟨1, _⟩ => Fin.ext h1
    | ⟨2, _⟩ => Fin.ext h2

theorem ext4 {n0 n1 n2 n3 : Nat} (i : (⟨4, ![n0, n1, n2, n3]⟩ : Shape).Idx) (a : Fin n0) (b : Fin n1) (c : Fin n2) (d : Fin n3)
    (h0 : (i 0).val = a) (h1 : (i 1).val = b) (h2 : (i 2).val = c) (h3 : (i 3).val = d) : i = ix4 a b c d :=
  funext fun x => match x with
    | ⟨0, _⟩ => Fin.ext h0
    | ⟨1, _⟩ => Fin.ext h1
    | ⟨2, _⟩ => Fin.ext h2
    | ⟨3, _⟩ => Fin.ext h3

/-- Where an element of a rectangle lies. -/
theorem emb_val {s : Shape} (off : Fin s.rank → Nat) (size : Fin s.rank → Nat) (inb) (j : (Rect.unit off size inb).shape.Idx) (a : Fin s.rank) :
    ((Rect.unit off size inb).emb j a).val = off a + (j a).val := by
  rw [Rect.emb_apply]
  show off a + 1 * (j a).val = _
  omega

theorem low_word (b : BitVec 8) (p : Nat) (hp : p < 2) :
    ((b.setWidth 32 <<< 7) ||| (b.setWidth 32 <<< 23)).extractLsb' (16 * p) 16 = b.setWidth 16 <<< 7 := by
  have h : p = 0 ∨ p = 1 := by omega
  rcases h with rfl | rfl <;> revert b <;> decide +kernel

theorem twice_apply (a : (⟨4, ![1, 1, 16, 1280]⟩ : Shape).Idx → BitVec 8) (g : Fin 16) (o : Fin 1280) :
    twice a (ix2 g o) = (a (ix4 0 0 g o)).setWidth 32 <<< 7 ||| (a (ix4 0 0 g o)).setWidth 32 <<< 23 := by
  pointwise [twice]
  rfl

theorem swT_apply (dy dx : Fin 3) (g : Fin 16) (o : Fin 1280) (i : S144x1280.Idx) (h0 : (i 0).val = (dy.val * 3 + dx.val) * 16 + g.val)
    (h1 : (i 1).val = o.val) :
    swT E i = (E.Ws (ix4 dy dx g o)).setWidth 32 <<< 7 ||| (E.Ws (ix4 dy dx g o)).setWidth 32 <<< 23 := by
  unfold swT twiceT
  rw [show i 1 = o from Fin.ext h1, twice_apply]
  have e : (rWs (((i 0).val / 16) / 3) (((i 0).val / 16) % 3) (by omega) (Nat.mod_lt _ (by decide))).emb
      (ix4 (0 : Fin 1) (0 : Fin 1) (⟨(i 0).val % 16, Nat.mod_lt _ (by decide)⟩ : Fin 16) o) = ix4 dy dx g o := by
    refine ext4 _ _ _ _ _ ?_ ?_ ?_ ?_ <;> rw [emb_val] <;> simp <;> omega
  exact congrArg (fun b : BitVec 8 => b.setWidth 32 <<< 7 ||| b.setWidth 32 <<< 23) (congrArg E.Ws e)

theorem wRowV_apply (dy dx : Fin 3) (k : Fin 2) (q : Nat) (hq : q + 256 ≤ 1280) (g : Fin 8) (r : Fin 32) (l : Fin 256)
    (hn : ∀ i, Normal (E.Ws i)) :
    wRowV E dy dx k q hq g (ix2 r l)
      = E.W (ix4 dy dx ⟨k * 256 + g * 32 + r, by omega⟩ ⟨q + l, by omega⟩)
        * sc (E.Ws (ix4 dy dx ⟨k * 8 + g, by omega⟩ ⟨q + l, by omega⟩)) := by
  pointwise [wRowV]
  rw [bitcast_32_16]
  congr 1
  · exact congrArg E.W (ext4 _ _ _ _ _ (by rw [emb_val]; simp) (by rw [emb_val]; simp) (by rw [emb_val]; simp) (by rw [emb_val]; simp))
  · pointwise
    rw [swT_apply E dy dx ⟨k * 8 + g, by omega⟩ ⟨q + l, by omega⟩ _ (by rw [emb_val]; simp; omega)
      (by rw [emb_val]; simp [ix2]; exact Shape.Bitcasts.srcIdx_other (s := ⟨2, ![16, 256]⟩) (t := ⟨2, ![32, 256]⟩) (v := 32) (w := 16) (by decide) (ix2 r l) (r.val / 2) (fun a ha => by
        obtain ⟨a, h⟩ := a; have : a = 0 := by simp at ha; omega
        subst this; show r.val / 2 < 16; omega) (1 : Fin 2) (by decide)),
      low_word _ _ (Nat.mod_lt _ (by decide)), sc_bits _ (hn _)]

theorem wTile_apply (dy dx : Fin 3) (k : Fin 2) (q : Nat) (hq : q + 256 ≤ 1280) (r : Fin 256) (l : Fin 256)
    (hn : ∀ i, Normal (E.Ws i)) :
    wTile E dy dx k q hq (ix2 r l) = wq (argsE E) dy dx ⟨k * 256 + r, by omega⟩ ⟨q + l, by omega⟩ := by
  have hr : ∀ (g : Fin 8) (r' : Fin 32), r.val = g * 32 + r' → wRowV E dy dx k q hq g (ix2 r' l) = wq (argsE E) dy dx ⟨k * 256 + r, by omega⟩ ⟨q + l, by omega⟩ := by
    intro g r' h
    rw [wRowV_apply E dy dx k q hq g r' l hn]
    unfold wq argsE
    congr 2
    · exact congrArg (fun x => ix4 dy dx x (⟨q + l, by omega⟩ : Fin 1280)) (Fin.ext (by simp only; omega))
    · exact congrArg E.Ws (congrArg (fun x => ix4 dy dx x (⟨q + l, by omega⟩ : Fin 1280)) (Fin.ext (by simp only; omega)))
  pointwise [wTile]
  split_ifs <;> exact hr _ _ (by simp; try omega)

end Cert.KernelIdeal.Conv
-- ==== Proof.KInput.lean ====
module

public import proofs.«01_k».proof.Proof.KWeight

/-! # The scaled input

A plane of the padded input holds, at each row and lane, the input times the power of two its block's scale byte stands
for, or zero outside the image. -/

@[expose] public section

noncomputable section

namespace Cert.KernelIdeal.Conv

open Idealize.ShloMosaic Idealize.SL.Sem Idealize.ShloMosaic.Tactic

variable [Facts] (E : Ins Ideal)

/-- The bytes of an array of words: byte `r % 4` of the word in row `r / 4`. -/
theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- A pair of bytes, widened and shifted together, is the pair of the bytes shifted each. -/
theorem pair_shift (a b : BitVec 8) (p : Nat) (hp : p < 2) :
    ((a.setWidth 16 ++ b.setWidth 16 : BitVec 32) <<< 7).extractLsb' (16 * p) 16 = (if p = 0 then b else a).setWidth 16 <<< 7 := by
  have h : p = 0 ∨ p = 1 := by omega
  rcases h with rfl | rfl <;>
  · apply BitVec.eq_of_getLsbD_eq
    intro i hi
    rw [BitVec.getLsbD_extractLsb', BitVec.getLsbD_shiftLeft, BitVec.getLsbD_shiftLeft, BitVec.getLsbD_append]
    interval_cases i <;> simp

theorem row_ix2 {n0 n1 : Nat} (r : Fin n0) (l : Fin n1) : (⟨2, ![n0, n1]⟩ : Shape).row (ix2 r l) = r.val := rfl

theorem src_ix2 {a b n v w : Nat} (h : (⟨2, ![a, n]⟩ : Shape).Bitcasts v ⟨2, ![b, n]⟩ w) (r : Fin b) (l : Fin n) (p : Nat) (hp) (p' : Fin a) (hpp : p = p'.val) :
    h.srcIdx (ix2 r l) p hp = ix2 p' l :=
  ext2 _ _ _ ((Shape.Bitcasts.srcIdx_row h _ p hp (0 : Fin 2) rfl).trans hpp) (Shape.Bitcasts.srcIdx_other h _ p hp (1 : Fin 2) (by show ¬ (1 + 2 = 2); decide))

/-- Of a word's four bytes, the one in row `r` of the shifted halves. -/
theorem bytes_apply {m : Nat} (x : IVec ⟨2, ![m, 128]⟩ 32) (h8 : (⟨2, ![m, 128]⟩ : Shape).Bitcasts 32 ⟨2, ![4 * m, 128]⟩ 8)
    (h32 : (⟨2, ![4 * m, 128]⟩ : Shape).Bitcasts 16 ⟨2, ![2 * m, 128]⟩ 32) (h16 : (⟨2, ![2 * m, 128]⟩ : Shape).Bitcasts 32 ⟨2, ![4 * m, 128]⟩ 16)
    (he : (8 : Nat) < 16) (r : Fin (4 * m)) (l : Fin 128) :
    bitcast ⟨2, ![4 * m, 128]⟩ 16 (shli (bitcast ⟨2, ![2 * m, 128]⟩ 32 (extui 16 (bitcast ⟨2, ![4 * m, 128]⟩ 8 x h8) he) h32)
      (broadcast ⟨2, ![2 * m, 128]⟩ 7#32)) h16 (ix2 r l)
      = ((x (ix2 ⟨r / 4, by omega⟩ l)).extractLsb' (8 * (r % 4)) 8).setWidth 16 <<< 7 := by
  have hb : ∀ r : Fin (4 * m), bitcast ⟨2, ![4 * m, 128]⟩ 8 x h8 (ix2 r l) = (x (ix2 ⟨r / 4, by omega⟩ l)).extractLsb' (8 * (r % 4)) 8 := by
    intro r
    rw [bitcast_32_8, src_ix2 h8 r l ((⟨2, ![4 * m, 128]⟩ : Shape).row (ix2 r l) / 4) _ ⟨r / 4, by omega⟩ rfl]
    rfl
  rw [bitcast_32_16, src_ix2 h16 r l ((⟨2, ![4 * m, 128]⟩ : Shape).row (ix2 r l) / 2) _ ⟨r / 2, by omega⟩ rfl]
  show (IntOp.shli .vector (bitcast ⟨2, ![2 * m, 128]⟩ 32 (extui 16 (bitcast ⟨2, ![4 * m, 128]⟩ 8 x h8) he) h32 (ix2 ⟨r / 2, by omega⟩ l)) 7#32).extractLsb' (16 * (r.val % 2)) 16 = _
  rw [bitcast_16_32, src_ix2 h32 _ l (2 * (⟨2, ![2 * m, 128]⟩ : Shape).row (ix2 (⟨r / 2, by omega⟩ : Fin (2 * m)) l) + 1) _ ⟨2 * (r / 2) + 1, by omega⟩ rfl, src_ix2 h32 _ l (2 * (⟨2, ![2 * m, 128]⟩ : Shape).row (ix2 (⟨r / 2, by omega⟩ : Fin (2 * m)) l)) _ ⟨2 * (r / 2), by omega⟩ rfl]
  show ((((bitcast ⟨2, ![4 * m, 128]⟩ 8 x h8 (ix2 ⟨2 * (r / 2) + 1, by omega⟩ l)).setWidth 16
    ++ (bitcast ⟨2, ![4 * m, 128]⟩ 8 x h8 (ix2 ⟨2 * (r / 2), by omega⟩ l)).setWidth 16 : BitVec 32)) <<< 7).extractLsb' (16 * (r.val % 2)) 16 = _
  rw [pair_shift _ _ _ (Nat.mod_lt _ (by decide)), ← hb r]
  congr 2
  split
  · exact congrArg _ (ext2 _ _ _ (by show 2 * (r.val / 2) = r.val; omega) rfl)
  · exact congrArg _ (ext2 _ _ _ (by show 2 * (r.val / 2) + 1 = r.val; omega) rfl)

theorem scl_apply {m : Nat} (h : Chunk m) (g idx : IVec ⟨2, ![m, 128]⟩ 32) (r : Fin (4 * m)) (l : Fin 128) :
    scl (F := Ideal) h g idx (ix2 r l)
      = Ideal.ofBits .bf16 (((g (ix2 ⟨r / 4, by omega⟩ ⟨(lanes m idx (ix2 ⟨r / 4, by omega⟩ l)).toNat % 128, Nat.mod_lt _ (by decide)⟩)).extractLsb' (8 * (r % 4)) 8).setWidth 16 <<< 7) := by
  unfold scl
  rw [bitcastToFloat_apply, bytes_apply]
  rcases h with rfl | rfl
  · pointwise
  · pointwise

/-! ## The words -/

theorem four_bytes (b0 b1 b2 b3 : BitVec 8) (n : Fin 4) :
    (b0.setWidth 32 ||| b1.setWidth 32 <<< 8 ||| b2.setWidth 32 <<< 16 ||| b3.setWidth 32 <<< 24).extractLsb' (8 * n) 8
      = (match n with | 0 => b0 | 1 => b1 | 2 => b2 | 3 => b3) := by
  apply BitVec.eq_of_getLsbD_eq
  intro i hi
  rw [BitVec.getLsbD_extractLsb']
  fin_cases n <;> interval_cases i <;> simp

theorem word4_apply (a0 a1 a2 a3 : (⟨4, ![1, 1, 16, 18]⟩ : Shape).Idx → BitVec 8) (g : Fin 16) (x : Fin 18) (n : Fin 4) :
    (word4 a0 a1 a2 a3 (ix2 g x)).extractLsb' (8 * n) 8
      = (match n with | 0 => a0 (ix4 0 0 g x) | 1 => a1 (ix4 0 0 g x) | 2 => a2 (ix4 0 0 g x) | 3 => a3 (ix4 0 0 g x)) := by
  pointwise [word4]
  exact four_bytes _ _ _ _ n

/-- Byte `n` of a scale word is image `n`'s scale. -/
theorem rowWords_apply (y : Fin 14) (g : Fin 16) (x : Fin 18) (n : Fin 4) :
    (rowWords E y y.isLt (ix2 g x)).extractLsb' (8 * n) 8 = E.Xs (ix4 n y g x) := by
  unfold rowWords
  rw [word4_apply]
  fin_cases n <;> exact congrArg E.Xs (ext4 _ _ _ _ _ (by rw [emb_val]; rfl) (by rw [emb_val]; rfl)
    (by rw [emb_val]; exact Nat.zero_add _) (by rw [emb_val]; exact Nat.zero_add _))

theorem rowWords_congr {y y' : Nat} (hy : y < 14) (hy' : y' < 14) (e : y = y') (g g' : Fin 16) (e' : g.val = g'.val) (x : Fin 18) :
    rowWords E y hy (ix2 g x) = rowWords E y' hy' (ix2 g' x) := by
  subst e
  rw [Fin.ext e']

theorem grp_apply (y : Fin 14) (x : Fin 18) (c : Fin 128) (g : Fin 16) (h : c.val = y % 8 * 16 + g) :
    grp E y (ix2 x c) = rowWords E y y.isLt (ix2 g x) := by
  have hy := y.isLt
  have hg := g.isLt
  unfold grp
  by_cases h7 : y.val ≤ 7
  · rw [show y.val.ble 7 = true from by rw [Nat.ble_eq]; exact h7]
    show grp0 E (ix2 x c) = _
    pointwise [grp0, group0]
    split_ifs <;> exact rowWords_congr E _ _ (by omega) _ _ (by simp only; omega) _
  · rw [show y.val.ble 7 = false from by rw [Bool.eq_false_iff, ne_eq, Nat.ble_eq]; exact h7]
    show grp1 E (ix2 x c) = _
    pointwise [grp1, group1]
    split_ifs <;> first | exact rowWords_congr E _ _ (by omega) _ _ (by simp only; omega) _ | omega

theorem laneIdx_apply (y : Fin 14) (lb : Fin 4) (p : Fin 8) (l : Fin 128) :
    laneIdx y lb (ix2 p l) = BitVec.ofNat 32 (l / 32 + (y % 8 * 16 + lb * 4)) := by
  pointwise [laneIdx, laneBlock]
  have h : ∀ l : Fin 128, IntOp.shrsi .vector (BitVec.ofNat 32 l) 5#32 = BitVec.ofNat 32 (l / 32) := by decide +kernel
  rw [h]
  exact (BitVec.ofNat_add ..).symm

theorem lanes_apply {m : Nat} (idx : IVec ⟨2, ![m, 128]⟩ 32) (i) (v : Nat) (hv : v < 128) (h : idx i = BitVec.ofNat 32 v) :
    (lanes m idx i).toNat % 128 = v := by
  have e : ∀ v : Fin 128, (Scalar.select (IntOp.cmpi .slt (BitVec.ofNat 32 v) 0#32) (IntOp.addi (BitVec.ofNat 32 v) 128#32) (BitVec.ofNat 32 v)).toNat % 128 = v := by
    decide +kernel
  unfold lanes
  pointwise
  rw [h]
  exact e ⟨v, hv⟩

end Cert.KernelIdeal.Conv
-- ==== Proof.KChunk.lean ====
module

public import proofs.«01_k».proof.Proof.KInput

/-! # Scaled input, a chunk at a time -/

@[expose] public section

noncomputable section

namespace Cert.KernelIdeal.Conv

open Idealize.ShloMosaic Idealize.SL.Sem Idealize.ShloMosaic.Tactic

variable [Facts] (E : Ins Ideal)

/-- Four pixels of a row lie in four rows of lanes. -/
theorem rows_apply {α : Type} {m : Nat} (h : Chunk m) (c : (⟨4, ![1, m, 4, 128]⟩ : Shape).Idx → α) (r : Fin (4 * m)) (l : Fin 128) :
    shapeCast ⟨2, ![4 * m, 128]⟩ (shapeCast ⟨3, ![m, 4, 128]⟩ c (scC h)) (scC' h) (ix2 r l)
      = c (ix4 0 ⟨r / 4, by omega⟩ ⟨r % 4, Nat.mod_lt _ (by decide)⟩ l) := by
  rcases h with rfl | rfl
  · pointwise
  · pointwise

/-! ## The chunks -/

/-- An element of a chunk: the code times its scale. -/
theorem chunkV_apply (y : Fin 14) (lb : Fin 4) (s m : Nat) (hs : s + m ≤ 18) (h : Chunk m) (idx : IVec ⟨2, ![m, 128]⟩ 32)
    (hidx : ∀ (p : Fin m) (l : Fin 128), idx (ix2 p l) = BitVec.ofNat 32 (l / 32 + (y % 8 * 16 + lb * 4)))
    (hn : ∀ i, Normal (E.Xs i)) (r : Fin (4 * m)) (l : Fin 128) :
    chunkV E y lb s m hs h idx (ix2 r l)
      = xq (argsE E) ⟨r % 4, Nat.mod_lt _ (by decide)⟩ y ⟨s + r / 4, by omega⟩ ⟨lb * 128 + l, by omega⟩ := by
  have hy := y.isLt
  have hlb := lb.isLt
  have hl := l.isLt
  have hX : shapeCast ⟨2, ![4 * m, 128]⟩ (shapeCast ⟨3, ![m, 4, 128]⟩ (fun j => E.X ((rXc y s m lb y.isLt hs lb.isLt).emb j)) (scC h) : FVec Ideal ⟨3, ![m, 4, 128]⟩ .fp8e4m3)
      (scC' h) (ix2 r l) = E.X (ix4 y ⟨s + r / 4, by omega⟩ ⟨r % 4, Nat.mod_lt _ (by decide)⟩ ⟨lb * 128 + l, by omega⟩) := by
    rw [rows_apply h]
    refine congrArg E.X (ext4 _ _ _ _ _ ?_ ?_ ?_ ?_) <;> rw [emb_val] <;> first | rfl | exact Nat.zero_add _
  have hS : scl (F := Ideal) h (extractStridedSlice ⟨2, ![m, 128]⟩ ![s, 0] (grp E y) (slG hs h)) idx (ix2 r l)
      = sc (E.Xs (ix4 ⟨r % 4, Nat.mod_lt _ (by decide)⟩ y ⟨(lb * 128 + l) / 32, by omega⟩ ⟨s + r / 4, by omega⟩)) := by
    have hc : ∀ (p : Fin m) (c : Fin 128), extractStridedSlice ⟨2, ![m, 128]⟩ ![s, 0] (grp E y) (slG hs h) (ix2 p c) = grp E y (ix2 ⟨s + p, by omega⟩ c) :=
      fun p c => congrArg (grp E y) (ext2 _ _ _ rfl (Nat.zero_add _))
    have hg : ∀ g : Fin 16, g.val = (lb * 128 + l) / 32 →
        E.Xs (ix4 ⟨r % 4, Nat.mod_lt _ (by decide)⟩ y g ⟨s + r / 4, by omega⟩)
          = E.Xs (ix4 ⟨r % 4, Nat.mod_lt _ (by decide)⟩ y ⟨(lb * 128 + l) / 32, by omega⟩ ⟨s + r / 4, by omega⟩) := fun g e => by
      rw [show g = ⟨(lb * 128 + l) / 32, by omega⟩ from Fin.ext e]
    rw [scl_apply, hc, grp_apply E y _ _ ⟨lb * 4 + l / 32, by omega⟩
      ((lanes_apply idx _ (l / 32 + (y % 8 * 16 + lb * 4)) (by omega) (hidx _ _)).trans (by show _ = y.val % 8 * 16 + (lb.val * 4 + l.val / 32); omega)),
      rowWords_apply E y _ _ ⟨r % 4, Nat.mod_lt _ (by decide)⟩, sc_bits _ (hn _), hg _ (by show lb.val * 4 + l.val / 32 = _; omega)]
  unfold chunkV scaled
  exact congrArg₂ (fun a b : EReal => a * b) hX hS

/-- An element of an image row in a column shift: the scaled input, or zero beyond the end of the row. -/
theorem prepV_apply (y : Fin 14) (lb : Fin 4) (dx x : Nat) (hx : x < 18) (n : Fin 4) (l : Fin 128) (hn : ∀ i, Normal (E.Xs i)) :
    prepV E y lb dx (x * 4 + n) l
      = if (dx = 2 ∧ x = 0) ∨ (dx = 0 ∧ x = 17) then 0 else xq (argsE E) n y ⟨x, hx⟩ ⟨lb * 128 + l, by omega⟩ := by
  have hxq : ∀ (n' : Fin 4) (x' : Fin 18), n' = n → x'.val = x → xq (argsE E) n' y x' ⟨lb * 128 + l, by omega⟩ = xq (argsE E) n y ⟨x, hx⟩ ⟨lb * 128 + l, by omega⟩ := by
    rintro n' x' rfl rfl
    rfl
  have z : (Scalar.ofBits .bf16 0x0000#16 : Idealize.ShloMosaic.Ideal .bf16) = 0 := Ideal.ofBits_zero .bf16
  have hlt : ∀ (v : FVec Ideal ⟨2, ![4 * 8, 128]⟩ .bf16) (r : Fin 32), masked ch8 .slt v (ix2 r l) = if r.val < 4 then 0 else v (ix2 r l) := by
    intro v r
    have e : ∀ r : Fin 32, IntOp.cmpi .slt (BitVec.ofNat 32 r) 4#32 = if r.val < 4 then 1#1 else 0#1 := by decide +kernel
    unfold masked
    pointwise
    rw [e]
    split_ifs <;> rfl
  have hge : ∀ (v : FVec Ideal ⟨2, ![4 * 2, 128]⟩ .bf16) (r : Fin 8), masked ch2 .sge v (ix2 r l) = if 4 ≤ r.val then 0 else v (ix2 r l) := by
    intro v r
    have e : ∀ r : Fin 8, IntOp.cmpi .sge (BitVec.ofNat 32 r) 4#32 = if 4 ≤ r.val then 1#1 else 0#1 := by decide +kernel
    unfold masked
    pointwise
    rw [e]
    split_ifs <;> rfl
  have hn4 := n.isLt
  have c0 : ∀ r : Fin 32, r.val = x * 4 + n → chunk0 E y lb (ix2 r l) = xq (argsE E) n y ⟨x, hx⟩ ⟨lb * 128 + l, by omega⟩ := fun r e =>
    (chunkV_apply E y lb 0 8 (by decide) ch8 _ (laneIdx_apply y lb) hn r l).trans (hxq _ _ (Fin.ext (by show r.val % 4 = _; omega)) (by show 0 + r.val / 4 = _; omega))
  have c1 : ∀ r : Fin 32, r.val + 32 = x * 4 + n → chunk1 E y lb (ix2 r l) = xq (argsE E) n y ⟨x, hx⟩ ⟨lb * 128 + l, by omega⟩ := fun r e =>
    (chunkV_apply E y lb 8 8 (by decide) ch8 _ (laneIdx_apply y lb) hn r l).trans (hxq _ _ (Fin.ext (by show r.val % 4 = _; omega)) (by show 8 + r.val / 4 = _; omega))
  have c2 : ∀ r : Fin 8, r.val + 64 = x * 4 + n → chunk2 E y lb (ix2 r l) = xq (argsE E) n y ⟨x, hx⟩ ⟨lb * 128 + l, by omega⟩ := fun r e =>
    (chunkV_apply E y lb 16 2 (by decide) ch2 _ (fun p l => by
      rw [show extractStridedSlice ⟨2, ![2, 128]⟩ ![0, 0] (laneIdx y lb) (by decide) (ix2 p l) = laneIdx y lb (ix2 ⟨p, by omega⟩ l) from
        congrArg (laneIdx y lb) (ext2 _ _ _ (Nat.zero_add _) (Nat.zero_add _))]
      exact laneIdx_apply y lb _ l) hn r l).trans (hxq _ _ (Fin.ext (by show r.val % 4 = _; omega)) (by show 16 + r.val / 4 = _; omega))
  unfold prepV
  by_cases h1 : x * 4 + n < 32
  · rw [if_pos h1]
    by_cases hd : dx = 2
    · subst hd
      show masked ch8 .slt (chunk0 E y lb) (ix2 (⟨(x * 4 + n) % 32, Nat.mod_lt _ (by decide)⟩ : Fin 32) l) = _
      rw [hlt]
      by_cases h0 : x = 0
      · rw [if_pos (by show (x * 4 + n.val) % 32 < 4; omega), if_pos (.inl ⟨rfl, h0⟩)]
      · rw [if_neg (by show ¬ (x * 4 + n.val) % 32 < 4; omega), if_neg (by omega)]
        exact c0 _ (by show (x * 4 + n.val) % 32 = _; omega)
    · rw [show (dx == 2) = false from beq_eq_false_iff_ne.2 hd, if_neg (by omega)]
      exact c0 _ (by show (x * 4 + n.val) % 32 = _; omega)
  · rw [if_neg h1]
    by_cases h2 : x * 4 + n < 64
    · rw [if_pos h2, if_neg (by omega)]
      exact c1 _ (by show (x * 4 + n.val - 32) % 32 + 32 = _; omega)
    · rw [if_neg h2]
      by_cases hd : dx = 0
      · subst hd
        show masked ch2 .sge (chunk2 E y lb) (ix2 (⟨(x * 4 + n - 64) % 8, Nat.mod_lt _ (by decide)⟩ : Fin 8) l) = _
        rw [hge]
        by_cases h0 : x = 17
        · rw [if_pos (by show 4 ≤ (x * 4 + n.val - 64) % 8; omega), if_pos (.inr ⟨rfl, h0⟩)]
        · rw [if_neg (by show ¬ 4 ≤ (x * 4 + n.val - 64) % 8; omega), if_neg (by omega)]
          exact c2 _ (by show (x * 4 + n.val - 64) % 8 + 64 = _; omega)
      · rw [show (dx == 0) = false from beq_eq_false_iff_ne.2 hd, if_neg (by omega)]
        exact c2 _ (by show (x * 4 + n.val - 64) % 8 + 64 = _; omega)

/-! ## The planes -/

/-- A plane's row that a tap at `(dy, dx)` reads for the pixel `(y, x)` of image `n`. -/
theorem xbT_apply (hn : ∀ i, Normal (E.Xs i)) (dy dx : Fin 3) (lb : Fin 4) (n : Fin 4) (y : Fin 14) (x : Fin 18) (l : Fin 128)
    (i : S12x1168x128.Idx) (h0 : (i 0).val = dx * 4 + lb) (h1 : (i 1).val = 4 + dy * 72 + dx * 4 + (y * 72 + x * 4 + n)) (h2 : i 2 = l) :
    xbT E i = xp (argsE E) n (y + dy) (x + dx) ⟨lb * 128 + l, by omega⟩ := by
  have z : (Scalar.ofBits .bf16 0x0000#16 : Idealize.ShloMosaic.Ideal .bf16) = 0 := Ideal.ofBits_zero .bf16
  have hn4 := n.isLt
  have hy := y.isLt
  have hx := x.isLt
  have hdy := dy.isLt
  have hdx := dx.isLt
  unfold xp
  by_cases hin : 80 ≤ (i 1).val ∧ (i 1).val < 1088
  · -- the pixel the row holds: one before the tap's, counted along the rows
    have hp : ((i 1).val - 80) / 72 < 14 := by omega
    have hq : ((i 1).val - 80) % 72 / 4 < 18 := by omega
    refine (xbT_at E i ⟨((i 1).val - 80) / 72, hp⟩ lb dx (((i 1).val - 80) % 72 / 4 * 4 + n) h0 (by show _ = 80 + ((i 1).val - 80) / 72 * 72 + _; omega) (by omega)).trans
      ((congrArg (prepV E _ lb dx _) (h2 : (i 2 : Fin 128) = l)).trans ?_)
    rw [prepV_apply E _ lb dx _ hq n _ hn]
    by_cases hb : (1 ≤ y.val + dy.val ∧ y.val + dy.val ≤ 14) ∧ 1 ≤ x.val + dx.val ∧ x.val + dx.val ≤ 18
    · rw [dif_pos hb, if_neg (by omega)]
      have key : ∀ a b k : Nat, b < 18 → k < 4 → (a * 72 + (b * 4 + k)) / 72 = a ∧ (a * 72 + (b * 4 + k)) % 72 / 4 = b := by
        intro a b k hb hk
        exact ⟨by omega, by omega⟩
      have hk := key (y + dy - 1) (x + dx - 1) n (by omega) hn4
      rw [show (y.val + dy.val - 1) * 72 + ((x.val + dx.val - 1) * 4 + n.val) = (i 1).val - 80 by omega] at hk
      have ea : (⟨((i 1).val - 80) / 72, hp⟩ : Fin 14) = ⟨y + dy - 1, by omega⟩ := Fin.ext hk.1
      have eb : (⟨((i 1).val - 80) % 72 / 4, hq⟩ : Fin 18) = ⟨x + dx - 1, by omega⟩ := Fin.ext hk.2
      rw [ea, eb]
    · rw [dif_neg hb, if_pos (by omega)]
  · rw [xbT_pad E i (by omega), z, dif_neg (by omega)]

end Cert.KernelIdeal.Conv
-- ==== Proof.KSum.lean ====
module

public import proofs.«01_k».proof.Proof.KChunk
public import Idealize.ShloMosaic.Lib.MatmulPlain

/-! # The sum of the taps, as the matrix unit forms it -/

@[expose] public section

noncomputable section

namespace Cert.KernelIdeal.Conv

open Idealize.ShloMosaic Idealize.SL.Sem Idealize.ShloMosaic.Tactic

variable [Facts] (E : Ins Ideal)

/-- Two planes side by side. -/
theorem cat2_apply {α : Type} (M : Nat) (hM : M = 144 ∨ M = 80 ∨ M = 64) (a b : (⟨3, ![1, M, 128]⟩ : Shape).Idx → α) (r : Fin M) (k : Fin 256) :
    concatenate ⟨2, ![M, 256]⟩ 1 [⟨⟨2, ![M, 128]⟩, shapeCast ⟨2, ![M, 128]⟩ a (scXb' M)⟩,
        ⟨⟨2, ![M, 128]⟩, shapeCast ⟨2, ![M, 128]⟩ b (scXb' M)⟩] (catM M) (ix2 r k)
      = if h : k.val < 128 then a (ix3 0 r ⟨k, h⟩) else b (ix3 0 r ⟨k - 128, by omega⟩) := by
  rcases hM with rfl | rfl | rfl
  · pointwise
  · pointwise
  · pointwise

/-- One pass of the matrix unit. -/
theorem pass_apply (M : Nat) (a : FVec Ideal ⟨2, ![M, 256]⟩ .bf16) (t : FVec Ideal ⟨2, ![256, 256]⟩ .bf16) (r : Fin M) (l : Fin 256) :
    (⟨.bf16, false, t⟩ : Mxu.Staged Ideal).pass a (ix2 r l) = ∑ k : Fin 256, (a (ix2 r k) : EReal) * t (ix2 k l) := by
  have h := Ideal.matmul_plain_apply none a t (fun _ => 0) r l
  rw [Ideal.matmul_apply, zero_add, zero_add] at h
  exact h

/-- How long a piece is. -/
def Piece.Len (P : Piece) : Prop := P.M = 144 ∨ P.M = 80 ∨ P.M = 64

theorem piece_len (p : Fin 8) : (piece p).Len := by
  unfold Piece.Len
  fin_cases p <;> decide

/-- The rows a step multiplies. -/
theorem lhsV_apply (hn : ∀ i, Normal (E.Xs i)) (s : Fin 18) (P : Piece) (hP : P.Ok) (hL : P.Len) (n : Fin 4) (y : Fin 14) (x : Fin 18)
    (r : Fin P.M) (hr : P.r + r = y * 72 + x * 4 + n) (k : Fin 256) :
    lhsV E s P hP (ix2 r k) = xp (argsE E) n (y + tapY s) (x + tapX s) ⟨half s * 256 + k, by omega⟩ := by
  have hk := k.isLt
  unfold lhsV
  refine (cat2_apply P.M hL _ _ r k).trans ?_
  split_ifs with h
  · refine (xbT_apply E hn (tapY s) (tapX s) ⟨half s * 2, by omega⟩ n y x ⟨k, h⟩ _ ?_ ?_ ?_).trans ?_
    · rw [emb_val]; simp
    · rw [emb_val]; simp; omega
    · exact Fin.ext (by rw [emb_val]; simp)
    · exact congrArg (xp (argsE E) n _ _) (Fin.ext (by simp only; omega))
  · refine (xbT_apply E hn (tapY s) (tapX s) ⟨half s * 2 + 1, by omega⟩ n y x ⟨k - 128, by omega⟩ _ ?_ ?_ ?_).trans ?_
    · rw [emb_val]; simp; omega
    · rw [emb_val]; simp; omega
    · exact Fin.ext (by rw [emb_val]; simp)
    · exact congrArg (xp (argsE E) n _ _) (Fin.ext (by simp only; omega))

/-- Half of a tap. -/
def halfSum (A : Args) (n : Fin 4) (y : Fin 14) (x : Fin 18) (o : Fin 1280) (dy dx : Fin 3) (h : Fin 2) : EReal :=
  ∑ k : Fin 256, xp A n (y + dy) (x + dx) ⟨h * 256 + k, by omega⟩ * wq A dy dx ⟨h * 256 + k, by omega⟩ o

/-- A tap is its two halves. -/
theorem tapSum_halves (A : Args) (n : Fin 4) (y : Fin 14) (x : Fin 18) (o : Fin 1280) (dy dx : Fin 3) :
    tapSum A n y x o dy dx = halfSum A n y x o dy dx 0 + halfSum A n y x o dy dx 1 := by
  unfold tapSum halfSum
  rw [Fin.sum_univ_two_halves 256 256 (by decide)]
  congr 1

/-- What a step adds. -/
theorem passV_apply (hx : ∀ i, Normal (E.Xs i)) (hw : ∀ i, Normal (E.Ws i)) (q : Nat) (hq : q + 256 ≤ 1280) (s : Fin 18) (P : Piece)
    (hP : P.Ok) (hL : P.Len) (n : Fin 4) (y : Fin 14) (x : Fin 18) (r : Fin P.M) (hr : P.r + r = y * 72 + x * 4 + n) (l : Fin 256) :
    passV E q hq P hP s (ix2 r l) = halfSum (argsE E) n y x ⟨q + l, by omega⟩ (tapY s) (tapX s) (half s) := by
  have e : (⟨s.val % 18, Nat.mod_lt _ (by decide)⟩ : Fin 18) = s := Fin.ext (Nat.mod_eq_of_lt s.isLt)
  unfold passV
  rw [e]
  refine (pass_apply P.M _ _ r l).trans (Finset.sum_congr rfl fun k _ => ?_)
  rw [lhsV_apply E hx s P hP hL n y x r hr k]
  unfold stepTile
  rw [wTile_apply E _ _ _ q hq k l hw]

/-- The eighteen steps, tap by tap. -/
theorem steps_sum (G : Fin 3 → Fin 3 → Fin 2 → EReal) :
    ∑ s : Fin 18, G (tapY s) (tapX s) (half s)
      = (G 0 0 0 + G 0 0 1) + (G 0 1 0 + G 0 1 1) + (G 0 2 0 + G 0 2 1) + (G 1 0 0 + G 1 0 1) + (G 1 1 0 + G 1 1 1) + (G 1 2 0 + G 1 2 1) + (G 2 0 0 + G 2 0 1) + (G 2 1 0 + G 2 1 1) + (G 2 2 0 + G 2 2 1) := by
  simp only [Fin.sum_univ_succ, Fin.sum_univ_zero]
  change G 1 1 0 + (G 1 1 1 + (G 0 1 0 + (G 0 1 1 + (G 2 1 0 + (G 2 1 1 + (G 1 0 0 + (G 1 0 1 + (G 0 0 0 + (G 0 0 1 + (G 2 0 0 + (G 2 0 1 + (G 1 2 0 + (G 1 2 1 + (G 0 2 0 + (G 0 2 1 + (G 2 2 0 + (G 2 2 1 + 0))))))))))))))))) = _
  abel

/-- An accumulator after its eighteen steps. -/
theorem accV_apply (hx : ∀ i, Normal (E.Xs i)) (hw : ∀ i, Normal (E.Ws i)) (q : Nat) (hq : q + 256 ≤ 1280) (P : Piece)
    (hP : P.Ok) (hL : P.Len) (n : Fin 4) (y : Fin 14) (x : Fin 18) (r : Fin P.M) (hr : P.r + r = y * 72 + x * 4 + n) (l : Fin 256) :
    (accV E q hq P hP 18 (ix2 r l) : EReal) = conv (argsE E) n y x ⟨q + l, by omega⟩ := by
  have h : ∀ k : Nat, k < 18 → ∀ j : Fin 18, j.val = k → (accV E q hq P hP (k + 1) (ix2 r l) : EReal)
      = ∑ s : Fin (k + 1), if h : s.val < 18 then halfSum (argsE E) n y x ⟨q + l, by omega⟩ (tapY ⟨s, h⟩) (tapX ⟨s, h⟩) (half ⟨s, h⟩) else 0 := by
    intro k
    induction k with
    | zero =>
      intro _ j hj
      rw [Fin.sum_univ_one, dif_pos (by decide)]
      exact passV_apply E hx hw q hq (0 : Fin 18) P hP hL n y x r hr l
    | succ k ih =>
      intro hk j hj
      rw [Fin.sum_univ_castSucc, dif_pos (show (Fin.last (k + 1)).val < 18 from hk)]
      exact congrArg₂ (fun a b : EReal => a + b) (ih (by omega) ⟨k, by omega⟩ rfl) (passV_apply E hx hw q hq (⟨k + 1, hk⟩ : Fin 18) P hP hL n y x r hr l)
  refine (h 17 (by decide) 17 rfl).trans ((Finset.sum_congr rfl fun s _ => dif_pos s.isLt).trans
    ((steps_sum (halfSum (argsE E) n y x ⟨q + l, by omega⟩)).trans ?_))
  unfold conv
  simp only [tapSum_halves]

end Cert.KernelIdeal.Conv
-- ==== Proof.Agree.lean ====
module

public import proofs.«01_k».proof.Proof.KSum
public import proofs.«01_k».proof.Proof.Result

/-! # The program's result is the convolution -/

@[expose] public section

noncomputable section

namespace Cert.KernelIdeal.Conv

open Cert.KernelIdeal.Gen
open Idealize.ShloMosaic Idealize.ShloMosaic.TcCoe Idealize.ShloMosaic.Tactic
open Idealize.SL.Sem

variable [Facts] (E : Ins Ideal)

/-- The bias added to a piece. -/
theorem biased_apply (P : Piece) (hL : P.Len) (a : FVec Ideal ⟨2, ![P.M, 256]⟩ .f32) (b : (⟨1, ![256]⟩ : Shape).Idx → Ideal .f32) (hb)
    (r : Fin P.M) (l : Fin 256) : (biased P a b hb (ix2 r l) : EReal) = a (ix2 r l) + b (ix1 l) := by
  obtain ⟨R, M, s0, s1⟩ := P
  rcases hL with rfl | rfl | rfl
  · pointwise [biased]
  · pointwise [biased]
  · pointwise [biased]

/-- A row of the flattened output lies in its piece. -/
theorem pieceOf_spec (r : Nat) (h : r < 1008) : (piece (pieceOf r)).r ≤ r ∧ r < (piece (pieceOf r)).r + (piece (pieceOf r)).M := by
  unfold pieceOf
  split_ifs <;> simp only [piece] <;> omega

theorem outE_apply (hx : ∀ i, Normal (E.Xs i)) (hw : ∀ i, Normal (E.Ws i)) (n : Fin 4) (y : Fin 14) (x : Fin 18) (r q : Nat) (hq : q < 9)
    (hr : r = y * 72 + x * 4 + n) (l : Fin 256) (o : Fin 1280) (ho : o.val = q * 128 + l) :
    (outE E r q hq l : EReal) = result (argsE E) (ix4 n y x o) := by
  have hn := n.isLt
  have hy := y.isLt
  have hxx := x.isLt
  have hs := pieceOf_spec r (by omega)
  unfold outE outP
  rw [biased_apply _ (piece_len _)]
  have eo : (⟨q * 128 + l, by omega⟩ : Fin 1280) = o := Fin.ext ho.symm
  refine (congrArg₂ (fun a b : EReal => a + b) (accV_apply E hx hw (q * 128) (by omega) _ _ (piece_len _) n y x _ ?_ l) ?_).trans
    (b := conv (argsE E) n y x ⟨q * 128 + l, by omega⟩ + E.B (ix1 ⟨q * 128 + l, by omega⟩)) ?_
  · show _ + (r - (piece (pieceOf r)).r) % (piece (pieceOf r)).M = _
    rw [Nat.mod_eq_of_lt (by omega)]
    omega
  · refine congrArg E.B (funext fun a => match a with | ⟨0, _⟩ => Fin.ext ?_)
    rw [emb_val]; simp
  · rw [eo]; rfl

/-- What is copied out, at a pixel and an output channel. -/
theorem yT_apply (hx : ∀ i, Normal (E.Xs i)) (hw : ∀ i, Normal (E.Ws i)) (n : Fin 4) (y : Fin 14) (x : Fin 18) (o : Fin 1280) :
    (yT E (ix4 y x n o) : EReal) = result (argsE E) (ix4 n y x o) := by
  have ho := o.isLt
  exact outE_apply E hx hw n y x (y * 72 + x * 4 + n) (o.val / 128 / 2 * 2) (by omega) rfl ⟨o.val / 128 % 2 * 128 + o.val % 128, by omega⟩ o (by show o.val = o.val / 128 / 2 * 2 * 128 + (o.val / 128 % 2 * 128 + o.val % 128); omega)

/-- The result, transposed. -/
theorem transpose_yT (hx : ∀ i, Normal (E.Xs i)) (hw : ∀ i, Normal (E.Ws i)) (h) :
    transpose S4x14x18x1280 [2, 0, 1, 3] (yT E) h = result (argsE E) := by
  funext i
  have e : i = ix4 (i 0) (i 1) (i 2) (i 3) := ext4 _ _ _ _ _ rfl rfl rfl rfl
  rw [e]
  pointwise
  exact yT_apply E hx hw _ _ _ _

variable (m : (ℓ : Loc nD τ sig) → Buf (Elt Ideal) ℓ) (ρ : Dev nD → PrngReg)

/-- The arguments in memory. -/
def argsOf (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩

/-- What the body finds: the arguments, the input and its scales transposed. -/
theorem V_main_v0 (c : Dev nD) : V m c main_v0 = transpose S14x18x4x512 [1, 2, 0, 3] (m ((c.tc : Thread nD τ).loc main_arg0)) transposes_S4x14x18x512_S14x18x4x512_1_2_0_3 := by
  unfold V V0
  simp only [hostOps0, List.flatten_cons, List.flatten_nil, List.append_nil, List.cons_append, List.nil_append, StableHlo.after_cons, StableHlo.after_nil]
  refine (StableHlo.unary_result_ne _ _ _ _ _ _ (by decide)).trans ?_
  exact StableHlo.unary_result' (x := main_arg0) (y := main_v0) _ _ _ _

theorem V_main_v1 (c : Dev nD) : V m c main_v1 = transpose S4x14x16x18 [0, 1, 3, 2] (m ((c.tc : Thread nD τ).loc main_arg1)) transposes_S4x14x18x16_S4x14x16x18_0_1_3_2 := by
  unfold V V0
  simp only [hostOps0, List.flatten_cons, List.flatten_nil, List.append_nil, List.cons_append, List.nil_append, StableHlo.after_cons, StableHlo.after_nil]
  refine (StableHlo.unary_result' (x := main_arg1) (y := main_v1) _ _ _ _).trans ?_
  exact congrArg (fun a => transpose S4x14x16x18 [0, 1, 3, 2] a transposes_S4x14x18x16_S4x14x16x18_0_1_3_2) (StableHlo.unary_result_ne _ _ _ _ _ _ (by decide))

/-- The arguments read from what the body finds are the arguments in memory. -/
theorem argsE_insOf (c : Dev nD) : argsE (insOf m c) = argsOf m c := by
  have hX : ∀ a : S4x14x18x512.Idx → EReal, (fun i : S4x14x18x512.Idx => transpose S14x18x4x512 [1, 2, 0, 3] a transposes_S4x14x18x512_S14x18x4x512_1_2_0_3
      (ix4 (i 1) (i 2) (i 0) (i 3))) = a := by
    intro a
    funext i
    conv_rhs => rw [show i = ix4 (i 0) (i 1) (i 2) (i 3) from ext4 _ _ _ _ _ rfl rfl rfl rfl]
    pointwise
  have hXs : ∀ a : S4x14x18x16.Idx → BitVec 8, (fun i : S4x14x18x16.Idx => transpose S4x14x16x18 [0, 1, 3, 2] a transposes_S4x14x18x16_S4x14x16x18_0_1_3_2
      (ix4 (i 0) (i 1) (i 3) (i 2))) = a := by
    intro a
    funext i
    conv_rhs => rw [show i = ix4 (i 0) (i 1) (i 2) (i 3) from ext4 _ _ _ _ _ rfl rfl rfl rfl]
    pointwise
  unfold argsE insOf argsOf
  rw [V_main_v0, V_main_v1, V_main_arg2, V_main_arg3, V_main_arg4]
  exact congrArg₂ (fun a b => Args.mk a b _ _ _) (hX _) (hXs _)

/-- A memory whose scales are those of finite numbers. -/
def Finite : Prop := ∀ c : Dev nD, (∀ i, Normal ((argsOf m c).Xs i)) ∧ ∀ i, Normal ((argsOf m c).Ws i)

/-- The program runs, its result is the convolution of its arguments, and its arguments end as they began. -/
theorem run (hf : Finite m) : θ_run defs (onTc (τ := τ) (main (F := Ideal))) ⟨m, fun _ => 0, ρ⟩ (fun r => ∀ c : Dev nD,
      r.2.mem ((c.tc : Thread nD τ).loc main_v3) = result (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h => fun c =>
    ⟨((h.1 c main_v3 (Pipeline.mem_restRefs_of main_v3 (by decide) (by decide))).trans (fin_out m c)).trans
       ((transpose_yT (insOf m c)
          (fun i => by
            have h := (hf c).1 (ix4 (i 0) (i 1) (i 3) (i 2))
            rw [← argsE_insOf] at h
            rwa [show i = ix4 (i 0) (i 1) (i 2) (i 3) from ext4 _ _ _ _ _ rfl rfl rfl rfl])
          (fun i => by
            have h := (hf c).2 i
            rwa [← argsE_insOf] at h) _).trans (congrArg result (argsE_insOf m c))),
     (h.1 c main_arg0 (Pipeline.mem_restRefs_of main_arg0 (by decide) (by decide))).trans ((fin_of_ne m c main_arg0 (by decide) (by decide)).trans (V_main_arg0 m c)),
     (h.1 c main_arg1 (Pipeline.mem_restRefs_of main_arg1 (by decide) (by decide))).trans ((fin_of_ne m c main_arg1 (by decide) (by decide)).trans (V_main_arg1 m c)),
     (h.1 c main_arg2 (Pipeline.mem_restRefs_of main_arg2 (by decide) (by decide))).trans ((fin_of_ne m c main_arg2 (by decide) (by decide)).trans (V_main_arg2 m c)),
     (h.1 c main_arg3 (Pipeline.mem_restRefs_of main_arg3 (by decide) (by decide))).trans ((fin_of_ne m c main_arg3 (by decide) (by decide)).trans (V_main_arg3 m c)),
     (h.1 c main_arg4 (Pipeline.mem_restRefs_of main_arg4 (by decide) (by decide))).trans ((fin_of_ne m c main_arg4 (by decide) (by decide)).trans (V_main_arg4 m c))⟩) (run_main m ρ)

end Cert.KernelIdeal.Conv
-- ==== Proof.RefBlocks.lean ====
module

public import proofs.«01_k».proof.Proof.Scale
public import proofs.«01_k».proof.Proof.Gen.ReferenceIdeal.Frame

/-! # What the reference's dequantisation computes

Each of its two results at an index: the code times the power of two its scale byte states. -/

@[expose] public section

noncomputable section

namespace Cert.ReferenceIdeal.Conv

open Idealize.ShloMosaic Cert.KernelIdeal.Conv

variable [Facts]

theorem pay1_apply (xs : Vec Ideal S4x14x18x16 .i8) (x : Vec Ideal S4x14x18x512 .fp8e4m3) (n : Fin 4) (y : Fin 14) (w : Fin 18) (c : Fin 512) :
    Gen.k0_pay1 (F := Ideal) xs x (ix4 n y w c) = x (ix4 n y w c) * sc (xs (ix4 n y w ⟨c.val / 32, by omega⟩)) := by
  rw [← sc_exp2]
  pointwise [Gen.k0_pay1]
  try rfl

theorem pay2_apply (ws : Vec Ideal S3x3x16x1280 .i8) (w : Vec Ideal S3x3x512x1280 .fp8e4m3) (dy dx : Fin 3) (c : Fin 512) (o : Fin 1280) :
    Gen.k0_pay2 (F := Ideal) ws w (ix4 dy dx c o) = w (ix4 dy dx c o) * sc (ws (ix4 dy dx ⟨c.val / 32, by omega⟩ o)) := by
  rw [← sc_exp2]
  pointwise [Gen.k0_pay2]
  try rfl

end Cert.ReferenceIdeal.Conv
-- ==== Proof.RefTail.lean ====
module

public import proofs.«01_k».proof.Proof.RefBlocks
public import Idealize.ShloMosaic.Lib.StableHlo.RunRead

/-! # What the reference's host lines compute

The nine taps, each a product of a window of the padded input with a tap's weights, added in order from zero, then the
bias and the rounding. -/

@[expose] public section

noncomputable section

namespace Cert.ReferenceIdeal.Conv

open Idealize.ShloMosaic Cert.KernelIdeal.Conv StableHlo Idealize.ShloMosaic.Tactic Cert.ReferenceIdeal.Gen

variable [Facts]

/-- The input with its border of zeros. -/
def padded (xd : FVec Ideal S4x14x18x512 .bf16) : FVec Ideal S4x16x20x512 .bf16 :=
  pad S4x16x20x512 ![0, 1, 1, 0] ![0, 1, 1, 0] ![0, 0, 0, 0] xd (sitofp .bf16 (constantI S_ 32 0#32)) pads_S4x14x18x512_S4x16x20x512_000_110_110_000 h_S_

/-- A tap: the window at `(dy, dx)` times the tap's weights. -/
def tap (xd : FVec Ideal S4x14x18x512 .bf16) (wd : FVec Ideal S3x3x512x1280 .bf16) (dy dx : Fin 3)
    (hx : S4x16x20x512.Slices ![0, dy.val, dx.val, 0] S4x14x18x512) (hw : S3x3x512x1280.Slices ![dy.val, dx.val, 0, 0] S1x1x512x1280) :
    FVec Ideal S4x14x18x1280 .f32 :=
  Host.dotGeneral dot_S4x14x18x512_S512x1280_S4x14x18x1280_3_0_012_1_n_n none
    (extractStridedSlice S4x14x18x512 ![0, dy.val, dx.val, 0] (padded xd) hx : FVec Ideal S4x14x18x512 .bf16)
    (shapeCast S512x1280 (extractStridedSlice S1x1x512x1280 ![dy.val, dx.val, 0, 0] wd hw : FVec Ideal S1x1x512x1280 .bf16) shapeCasts_S1x1x512x1280_S512x1280)

theorem padded_apply (xd : FVec Ideal S4x14x18x512 .bf16) (n : Fin 4) (y : Fin 16) (x : Fin 20) (c : Fin 512) :
    padded xd (ix4 n y x c)
      = if h : (1 ≤ y.val ∧ y.val ≤ 14) ∧ 1 ≤ x.val ∧ x.val ≤ 18 then xd (ix4 n ⟨y.val - 1, by omega⟩ ⟨x.val - 1, by omega⟩ c) else 0 := by
  pointwise [padded]
  have z : (FloatOps.sitofp .bf16 (0#32 : BitVec 32) : Idealize.ShloMosaic.Ideal .bf16) = 0 := by
    show ((((0#32 : BitVec 32).toInt : ℝ)) : EReal) = 0
    simp
  rw [z]
  by_cases h : (1 ≤ y.val ∧ y.val ≤ 14) ∧ 1 ≤ x.val ∧ x.val ≤ 18
  · rw [dif_pos h, dif_pos (by omega)]
  · rw [dif_neg h, dif_neg (by omega)]

theorem tap_apply (xd : FVec Ideal S4x14x18x512 .bf16) (wd : FVec Ideal S3x3x512x1280 .bf16) (dy dx : Fin 3) (hx hw)
    (n : Fin 4) (y : Fin 14) (x : Fin 18) (o : Fin 1280) :
    tap xd wd dy dx hx hw (ix4 n y x o)
      = ∑ c : Fin 512, padded xd (ix4 n ⟨y + dy, by omega⟩ ⟨x + dx, by omega⟩ c) * wd (ix4 dy dx c o) := by
  pointwise [tap]
  simp only [Nat.add_comm]

/-- The result from the two dequantised arrays and the bias. -/
def tail (xd : FVec Ideal S4x14x18x512 .bf16) (wd : FVec Ideal S3x3x512x1280 .bf16) (b : FVec Ideal S1280 .f32) : FVec Ideal S4x14x18x1280 .bf16 :=
  truncf .bf16 (addf (addf (addf (addf (addf (addf (addf (addf (addf (addf
      (broadcastInDim S4x14x18x1280 ![] bcast_S_S4x14x18x1280 (constant S_ .f32 0x00000000#32 : FVec Ideal S_ .f32) : FVec Ideal S4x14x18x1280 .f32)
      (tap xd wd 0 0 slices_S4x16x20x512_S4x14x18x512_0_0_0_0 slices_S3x3x512x1280_S1x1x512x1280_0_0_0_0))
      (tap xd wd 0 1 slices_S4x16x20x512_S4x14x18x512_0_0_1_0 slices_S3x3x512x1280_S1x1x512x1280_0_1_0_0))
      (tap xd wd 0 2 slices_S4x16x20x512_S4x14x18x512_0_0_2_0 slices_S3x3x512x1280_S1x1x512x1280_0_2_0_0))
      (tap xd wd 1 0 slices_S4x16x20x512_S4x14x18x512_0_1_0_0 slices_S3x3x512x1280_S1x1x512x1280_1_0_0_0))
      (tap xd wd 1 1 slices_S4x16x20x512_S4x14x18x512_0_1_1_0 slices_S3x3x512x1280_S1x1x512x1280_1_1_0_0))
      (tap xd wd 1 2 slices_S4x16x20x512_S4x14x18x512_0_1_2_0 slices_S3x3x512x1280_S1x1x512x1280_1_2_0_0))
      (tap xd wd 2 0 slices_S4x16x20x512_S4x14x18x512_0_2_0_0 slices_S3x3x512x1280_S1x1x512x1280_2_0_0_0))
      (tap xd wd 2 1 slices_S4x16x20x512_S4x14x18x512_0_2_1_0 slices_S3x3x512x1280_S1x1x512x1280_2_1_0_0))
      (tap xd wd 2 2 slices_S4x16x20x512_S4x14x18x512_0_2_2_0 slices_S3x3x512x1280_S1x1x512x1280_2_2_0_0))
    (broadcastInDim S4x14x18x1280 ![0, 1, 2, 3] bcast_S1x1x1x1280_S4x14x18x1280_0_1_2_3
      (broadcastInDim S1x1x1x1280 ![3] bcast_S1280_S1x1x1x1280_3 b : FVec Ideal S1x1x1x1280 .f32))) bitsLt_bf16_f32

/-- The result of the reference's two steps is the convolution. -/
theorem tail_apply (A : Args) (i : S4x14x18x1280.Idx) :
    tail (Gen.k0_pay1 (F := Ideal) A.Xs A.X) (Gen.k0_pay2 (F := Ideal) A.Ws A.W) A.B i = result A i := by
  have ht : ∀ (dy dx : Fin 3) (hx hw) (n : Fin 4) (y : Fin 14) (x : Fin 18) (o : Fin 1280),
      tap (Gen.k0_pay1 (F := Ideal) A.Xs A.X) (Gen.k0_pay2 (F := Ideal) A.Ws A.W) dy dx hx hw (ix4 n y x o) = tapSum A n y x o dy dx := by
    intro dy dx hx hw n y x o
    rw [tap_apply]
    unfold tapSum
    refine Finset.sum_congr rfl fun c _ => ?_
    rw [padded_apply, pay2_apply]
    congr 1
    unfold xp
    by_cases h : (1 ≤ y.val + dy.val ∧ y.val + dy.val ≤ 14) ∧ 1 ≤ x.val + dx.val ∧ x.val + dx.val ≤ 18
    · rw [dif_pos h, dif_pos h, pay1_apply]
      rfl
    · rw [dif_neg h, dif_neg h]
  obtain ⟨n, y, x, o, rfl⟩ : ∃ (n : Fin 4) (y : Fin 14) (x : Fin 18) (o : Fin 1280), i = ix4 n y x o := ⟨_, _, _, _, eq_ix4 i⟩
  pointwise [tail]
  simp only [ht]
  unfold result conv
  simp

theorem tail_eq (V : Valuation τ sig (Elt Ideal)) :
    StableHlo.after (List.flatten [Gen.hostOps1, Gen.hostOps1_1, Gen.hostOps1_2]) V (Proc.devRef .tc main_v51)
      = tail (V (Proc.devRef .tc main_v0_0)) (V (Proc.devRef .tc main_v0_1)) (V (Proc.devRef .tc main_arg4)) := by
  simp only [Gen.hostOps1, Gen.hostOps1_1, Gen.hostOps1_2, List.flatten_cons, List.flatten_nil, List.append_nil, List.cons_append, List.nil_append]
  after_reads_simp
  rfl

end Cert.ReferenceIdeal.Conv
-- ==== Proof.RefValue.lean ====
module

public import proofs.«01_k».proof.Proof.RefTail

/-! # What the reference ends with

Its result is the convolution of its arguments. -/

@[expose] public section

noncomputable section

namespace Cert.ReferenceIdeal.Conv

open Cert.ReferenceIdeal.Gen Cert.KernelIdeal.Conv
open Idealize.ShloMosaic Idealize.ShloMosaic.TcCoe Idealize.ShloMosaic.Tactic
open Idealize.ShloMosaic.Pipeline (Dat)
open Idealize.SL Idealize.SL.Sem

variable [Facts]
variable (m : (ℓ : Loc nD τ sig) → Buf (Elt Ideal) ℓ) (ρ : Dev nD → PrngReg)

/-- The arguments. -/
def argsOf (c : Dev nD) : Args where
  X := m ((c.tc : Thread nD τ).loc main_arg0)
  Xs := m ((c.tc : Thread nD τ).loc main_arg1)
  W := m ((c.tc : Thread nD τ).loc main_arg2)
  Ws := m ((c.tc : Thread nD τ).loc main_arg3)
  B := m ((c.tc : Thread nD τ).loc main_arg4)

theorem hz : (![0, 0, 0, 0] : Fin 4 → Nat) = fun _ => 0 := funext fun a => by fin_cases a <;> rfl

theorem idx0 (t : Fin cfg0.N) (a : Fin 4) : win0_0.index t a = 0 := by rcases fin_N0 t with rfl; revert a; decide
theorem idx1 (t : Fin cfg0.N) (a : Fin 4) : win0_1.index t a = 0 := by rcases fin_N0 t with rfl; revert a; decide
theorem idx2 (t : Fin cfg0.N) (a : Fin 4) : win0_2.index t a = 0 := by rcases fin_N0 t with rfl; revert a; decide
theorem idx3 (t : Fin cfg0.N) (a : Fin 4) : win0_3.index t a = 0 := by rcases fin_N0 t with rfl; revert a; decide
theorem idx4 (t : Fin cfg0.N) (a : Fin 4) : win0_4.index t a = 0 := by rcases fin_N0 t with rfl; revert a; decide
theorem idx5 (t : Fin cfg0.N) (a : Fin 4) : win0_5.index t a = 0 := by rcases fin_N0 t with rfl; revert a; decide

/-- Every window's block is its whole array. -/
theorem emb0 (t : Fin cfg0.N) (j : S4x14x18x512.Idx) : ((cfg0.win 0).blk t).view.emb j = j :=
  funext fun a => Fin.ext (win0_0.rect_emb_val_of_index_zero t a (idx0 t a) j)
theorem emb1 (t : Fin cfg0.N) (j : S4x14x18x16.Idx) : ((cfg0.win 1).blk t).view.emb j = j :=
  funext fun a => Fin.ext (win0_1.rect_emb_val_of_index_zero t a (idx1 t a) j)
theorem emb2 (t : Fin cfg0.N) (j : S3x3x512x1280.Idx) : ((cfg0.win 2).blk t).view.emb j = j :=
  funext fun a => Fin.ext (win0_2.rect_emb_val_of_index_zero t a (idx2 t a) j)
theorem emb3 (t : Fin cfg0.N) (j : S3x3x16x1280.Idx) : ((cfg0.win 3).blk t).view.emb j = j :=
  funext fun a => Fin.ext (win0_3.rect_emb_val_of_index_zero t a (idx3 t a) j)
theorem emb4 (t : Fin cfg0.N) (j : S4x14x18x512.Idx) : ((cfg0.win 4).blk t).view.emb j = j :=
  funext fun a => Fin.ext (win0_4.rect_emb_val_of_index_zero t a (idx4 t a) j)
theorem emb5 (t : Fin cfg0.N) (j : S3x3x512x1280.Idx) : ((cfg0.win 5).blk t).view.emb j = j :=
  funext fun a => Fin.ext (win0_5.rect_emb_val_of_index_zero t a (idx5 t a) j)

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_arg1 := by
  funext j; show V m c main_arg1 (((cfg0.win 1).blk t).view.emb j) = V m c main_arg1 j; rw [emb1]
theorem iblk2_eq (c : Dev nD) (t : Fin cfg0.N) : iblk m c 2 t = V m c main_arg2 := by
  funext j; show V m c main_arg2 (((cfg0.win 2).blk t).view.emb j) = V m c main_arg2 j; rw [emb2]
theorem iblk3_eq (c : Dev nD) (t : Fin cfg0.N) : iblk m c 3 t = V m c main_arg3 := by
  funext j; show V m c main_arg3 (((cfg0.win 3).blk t).view.emb j) = V m c main_arg3 j; rw [emb3]

/-- The dequantised input, as the call leaves it. -/
theorem flushed4_eq (c : Dev nD) (t : Fin cfg0.N) :
    (dats m 0 c).flushed 4 t = ((cfg0.win 4).blk t).view.read (Elt Ideal) (k0_pay1 (F := Ideal) (V m c main_arg1) (V m c main_arg0)) := by
  show (cfg0.win 4).cut (grid0.coords t) ((dats m 0 c).after 4 t) = _
  rw [after0_4]
  unfold out0_4
  rw [View.canon_unit_zero hz, View.ld_unit_zero hz, View.ld_unit_zero hz, iblk0_eq, iblk1_eq]
  funext j
  exact (congrArg (k0_pay1 (F := Ideal) (V m c main_arg1) (V m c main_arg0)) (emb4 t j)).symm

/-- The dequantised weights. -/
theorem flushed5_eq (c : Dev nD) (t : Fin cfg0.N) :
    (dats m 0 c).flushed 5 t = ((cfg0.win 5).blk t).view.read (Elt Ideal) (k0_pay2 (F := Ideal) (V m c main_arg3) (V m c main_arg2)) := by
  show (cfg0.win 5).cut (grid0.coords t) ((dats m 0 c).after 5 t) = _
  rw [after0_5]
  unfold out0_5
  rw [View.canon_unit_zero hz, View.ld_unit_zero hz, View.ld_unit_zero hz, iblk2_eq, iblk3_eq]
  funext j
  exact (congrArg (k0_pay2 (F := Ideal) (V m c main_arg3) (V m c main_arg2)) (emb5 t j)).symm

theorem final4 (c : Dev nD) : (dats m 0 c).arrAt 4 cfg0.N = k0_pay1 (F := Ideal) (argsOf m c).Xs (argsOf m c).X :=
  ((dats m 0 c).arrAt_eq_of_cover 4 (k0_pay1 (F := Ideal) (V m c main_arg1) (V m c main_arg0)) (fun t _ => flushed4_eq m c t) (fun i =>
    ⟨t0_0, by decide, by
      have h := ((cfg0.win 4).blk t0_0).view.emb_mem_set i; rwa [emb4] at h⟩)).trans
    (by rw [V_main_arg0, V_main_arg1]; rfl)

theorem final5 (c : Dev nD) : (dats m 0 c).arrAt 5 cfg0.N = k0_pay2 (F := Ideal) (argsOf m c).Ws (argsOf m c).W :=
  ((dats m 0 c).arrAt_eq_of_cover 5 (k0_pay2 (F := Ideal) (V m c main_arg3) (V m c main_arg2)) (fun t _ => flushed5_eq m c t) (fun i =>
    ⟨t0_0, by decide, by
      have h := ((cfg0.win 5).blk t0_0).view.emb_mem_set i; rwa [emb5] at h⟩)).trans
    (by rw [V_main_arg2, V_main_arg3]; rfl)

/-- What the host lines leave is the convolution. -/
theorem after_eq (c : Dev nD) :
    Pipeline.afterTail₀ cfgs (dats m) 0 (V0 m) [hostOps1, hostOps1_1, hostOps1_2] c main_v51 = result (argsOf m c) := by
  unfold Pipeline.afterTail₀
  rw [tail_eq]
  have h4 : Pipeline.withArrays spec0 c (V0 m c) (fun w => (dats m 0 c).arrAt w cfg0.N) (Proc.devRef .tc main_v0_0)
      = k0_pay1 (F := Ideal) (argsOf m c).Xs (argsOf m c).X :=
    (Pipeline.withArrays_arr (win := spec0) winFacts0.arr_inj c (V0 m c) (fun w => (dats m 0 c).arrAt w cfg0.N) 4).trans (final4 m c)
  have h5 : Pipeline.withArrays spec0 c (V0 m c) (fun w => (dats m 0 c).arrAt w cfg0.N) (Proc.devRef .tc main_v0_1)
      = k0_pay2 (F := Ideal) (argsOf m c).Ws (argsOf m c).W :=
    (Pipeline.withArrays_arr (win := spec0) winFacts0.arr_inj c (V0 m c) (fun w => (dats m 0 c).arrAt w cfg0.N) 5).trans (final5 m c)
  have hb : Pipeline.withArrays spec0 c (V0 m c) (fun w => (dats m 0 c).arrAt w cfg0.N) (Proc.devRef .tc main_arg4) = (argsOf m c).B :=
    (Pipeline.withArrays_of_ne _ c (V0 m c) _ main_arg4 (by exact (by decide : ∀ w, Pipeline.arrRef spec0 w ≠ main_arg4))).trans (V_main_arg4 m c)
  show tail (Pipeline.withArrays spec0 c (V0 m c) (fun w => (dats m 0 c).arrAt w cfg0.N) (Proc.devRef .tc main_v0_0))
    (Pipeline.withArrays spec0 c (V0 m c) (fun w => (dats m 0 c).arrAt w cfg0.N) (Proc.devRef .tc main_v0_1))
    (Pipeline.withArrays spec0 c (V0 m c) (fun w => (dats m 0 c).arrAt w cfg0.N) (Proc.devRef .tc main_arg4)) = _
  rw [h4, h5, hb]
  exact funext (tail_apply (argsOf m c))

/-- The reference runs, leaves its arguments, and ends with the convolution. -/
theorem run : θ_run defs (onTc (τ := τ) (main (F := Ideal))) ⟨m, fun _ => 0, ρ⟩ (fun r => ∀ c : Dev nD,
      r.2.mem ((c.tc : Thread nD τ).loc main_v51) = result (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v51 (Pipeline.mem_restRefs_of main_v51 (by decide) (by decide))).trans (after_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩) (run_main m ρ)

end Cert.ReferenceIdeal.Conv
-- ==== Proof.Scales.lean ====
module

public import proofs.«01_k».proof.Pre_scales_finite
public import proofs.«01_k».proof.Proof.Scale
public import Idealize.ShloMosaic.Lib.Pointwise

/-! # What the precondition says

Every scale byte is between 1 and 254. -/

@[expose] public section

noncomputable section

namespace Cert.Pre_scales_finite

open Idealize.ShloMosaic Idealize.ShloMosaic.Tactic

/-- The shape relations the precondition states. -/
theorem facts : Facts where
  bcast_S_S4x14x18x16 := by decide
  bcast_S_S3x3x16x1280 := by decide

/-- The two comparisons of a byte. -/
theorem normal_of_cmp (b : BitVec 8) (h : IntOp.cmpi .uge b 1#8 &&& IntOp.cmpi .ule b 254#8 = 1#1) : Cert.KernelIdeal.Conv.Normal b := by
  have key : ∀ n < 256, IntOp.cmpi .uge (BitVec.ofNat 8 n) 1#8 &&& IntOp.cmpi .ule (BitVec.ofNat 8 n) 254#8 = 1#1 → 1 ≤ n ∧ n ≤ 254 := by decide +kernel
  have hb := key b.toNat b.isLt
  rw [BitVec.ofNat_toNat, BitVec.setWidth_eq] at hb
  exact hb h

variable [Facts]

/-- The precondition, byte by byte. -/
theorem normal (X : FVec Ideal S4x14x18x512 .fp8e4m3) (Xs : IVec S4x14x18x16 8) (W : FVec Ideal S3x3x512x1280 .fp8e4m3) (Ws : IVec S3x3x16x1280 8)
    (B : FVec Ideal S1280 .f32) (h : (fn X Xs W Ws B).1 = (fun _ => 1#1) ∧ (fn X Xs W Ws B).2 = (fun _ => 1#1)) :
    (∀ i, Cert.KernelIdeal.Conv.Normal (Xs i)) ∧ ∀ i, Cert.KernelIdeal.Conv.Normal (Ws i) :=
  ⟨fun i => normal_of_cmp _ (congrFun h.1 i), fun i => normal_of_cmp _ (congrFun h.2 i)⟩

end Cert.Pre_scales_finite
-- ==== Proof.lean ====
module

public import proofs.«01_k».proof.Defs
public import proofs.«01_k».proof.Proof.Copy
public import proofs.«01_k».proof.Proof.Agree
public import proofs.«01_k».proof.Proof.RefValue
public import proofs.«01_k».proof.Proof.Scales
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.SL.Sem

/-- The kernel and the reference end with the same result. -/
theorem agree [hI : Cert.KernelIdeal.Facts] [hR : Cert.ReferenceIdeal.Facts] [hP : Cert.Pre_scales_finite.Facts] :
    Cert.algebraic_KernelIdeal_ReferenceIdeal_pre_scales_finite := by
  intro m g m' g' hpre hargs
  have hf : Cert.KernelIdeal.Conv.Finite m := fun c => Cert.Pre_scales_finite.normal _ _ _ _ _ (hpre c)
  refine ⟨fun c => Cert.KernelIdeal.Conv.result (Cert.KernelIdeal.Conv.argsOf m c), Cert.KernelIdeal.Conv.run m g hf, ?_⟩
  refine (θ_run Cert.ReferenceIdeal.defs _ _).mono (fun r h c => ?_) (Cert.ReferenceIdeal.Conv.run m' g')
  have e : Cert.ReferenceIdeal.Conv.argsOf m' c = Cert.KernelIdeal.Conv.argsOf m c := by
    obtain ⟨h0, h1, h2, h3, h4⟩ := hargs c
    unfold Cert.ReferenceIdeal.Conv.argsOf Cert.KernelIdeal.Conv.argsOf
    rw [h0, h1, h2, h3, h4]
  exact ⟨(h c).1.trans (congrArg Cert.KernelIdeal.Conv.result e), (h c).2⟩

theorem claim : Cert.Claim :=
  have hK : Cert.Kernel.Facts := Cert.Kernel.Gen.facts
  have hI : Cert.KernelIdeal.Facts := Cert.KernelIdeal.Gen.facts
  have hR : Cert.ReferenceIdeal.Facts := Cert.ReferenceIdeal.Gen.facts
  have hP : Cert.Pre_scales_finite.Facts := Cert.Pre_scales_finite.facts
  ⟨Cert.Kernel.Gen.facts, Cert.KernelIdeal.Gen.facts, Cert.ReferenceIdeal.Gen.facts, Cert.Pre_scales_finite.facts,
    Cert.KernelIdeal.Conv.frame_kernel,
    fun m g _ => Cert.KernelIdeal.Conv.frame m g,
    fun m g _ => Cert.KernelIdeal.Conv.frame m g,
    fun m g _ => Cert.ReferenceIdeal.Gen.frame m g,
    fun m g _ => Cert.ReferenceIdeal.Gen.frame m g,
    trivial,
    agree⟩

end Cert.Proof

end
